-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_whole [hPre_classes_whole : Cert.Pre_classes_whole.Facts] (m : (ℓ : Loc Cert.KernelIdeal.nD Cert.KernelIdeal.τ Cert.KernelIdeal.sig) → Buf (Elt Ideal) ℓ) : Prop :=
  ∀ c : Dev Cert.KernelIdeal.nD,
    (Cert.Pre_classes_whole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_whole [hPre_classes_whole : Cert.Pre_classes_whole.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_whole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_classes_whole [hKernelIdeal : Cert.KernelIdeal.Facts] [hPre_classes_whole : Cert.Pre_classes_whole.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_whole m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_classes_whole [hReferenceIdeal : Cert.ReferenceIdeal.Facts] [hPre_classes_whole : Cert.Pre_classes_whole.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_whole m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_classes_whole [hKernelIdeal : Cert.KernelIdeal.Facts] [hReferenceIdeal : Cert.ReferenceIdeal.Facts] [hPre_classes_whole : Cert.Pre_classes_whole.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_whole m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v865) = v0 c
          ∧ r.2.mem ((c.tc : Thread Cert.ReferenceIdeal.nD Cert.ReferenceIdeal.τ).loc Cert.ReferenceIdeal.main_v900) = v1 c
          ∧ r.2.mem ((c.tc : Thread Cert.ReferenceIdeal.nD Cert.ReferenceIdeal.τ).loc Cert.ReferenceIdeal.main_v901) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_classes_whole : Cert.Pre_classes_whole.Facts),
    quiescent_Kernel (hKernel := hKernel)
    ∧ quiescent_KernelIdeal (hKernelIdeal := hKernelIdeal)
    ∧ quiescent_KernelIdeal_pre_classes_whole (hKernelIdeal := hKernelIdeal) (hPre_classes_whole := hPre_classes_whole)
    ∧ quiescent_ReferenceIdeal (hReferenceIdeal := hReferenceIdeal)
    ∧ quiescent_ReferenceIdeal_pre_classes_whole (hReferenceIdeal := hReferenceIdeal) (hPre_classes_whole := hPre_classes_whole)
    ∧ preserves_Kernel_KernelIdeal
    ∧ algebraic_KernelIdeal_ReferenceIdeal_pre_classes_whole (hKernelIdeal := hKernelIdeal) (hReferenceIdeal := hReferenceIdeal) (hPre_classes_whole := hPre_classes_whole)
-- ==== Pre_classes_whole.lean ====
abbrev S32x60x60x255 : Shape := ⟨4, ![32, 60, 60, 255]⟩
abbrev S32x30x30x255 : Shape := ⟨4, ![32, 30, 30, 255]⟩
abbrev S32x15x15x255 : Shape := ⟨4, ![32, 15, 15, 255]⟩
abbrev S32x50x5 : Shape := ⟨3, ![32, 50, 5]⟩
abbrev S3x2 : Shape := ⟨2, ![3, 2]⟩
abbrev S32x50x1 : Shape := ⟨3, ![32, 50, 1]⟩
abbrev S32x50 : Shape := ⟨2, ![32, 50]⟩

class Facts : Prop where
  slices_S32x50x5_S32x50x1_0_0_4 : S32x50x5.Slices ![0, 0, 4] S32x50x1
  shapeCasts_S32x50x1_S32x50 : S32x50x1.ShapeCasts S32x50

variable [Facts]

def fn {F : FTy → Type} [FloatOps F] (main_arg0 : FVec F S32x60x60x255 .f32) (main_arg1 : FVec F S32x30x30x255 .f32) (main_arg2 : FVec F S32x15x15x255 .f32) (main_arg3 : FVec F S32x50x5 .f32) (main_arg4 : FVec F S3x2 .f32) : IVec S32x50 1 :=
  let main_v0 : FVec F S32x50x1 .f32 := (extractStridedSlice S32x50x1 ![0, 0, 4] · slices_S32x50x5_S32x50x1_0_0_4) main_arg3
  let main_v1 : FVec F S32x50 .f32 := shapeCast S32x50 main_v0 shapeCasts_S32x50x1_S32x50
  let main_v2 : FVec F S32x50 .f32 := Host.floor main_v1
  let main_v3 : IVec S32x50 1 := cmpf .oeq main_v1 main_v2
  main_v3
-- ==== Kernel.lean ====
abbrev S32x60x60x255 : Shape := ⟨4, ![32, 60, 60, 255]⟩
abbrev S32x30x30x255 : Shape := ⟨4, ![32, 30, 30, 255]⟩
abbrev S32x15x15x255 : Shape := ⟨4, ![32, 15, 15, 255]⟩
abbrev S32x50x5 : Shape := ⟨3, ![32, 50, 5]⟩
abbrev S3x2 : Shape := ⟨2, ![3, 2]⟩
abbrev S32x16x675x85 : Shape := ⟨4, ![32, 16, 675, 85]⟩
abbrev S32x1x128 : Shape := ⟨3, ![32, 1, 128]⟩
abbrev S32x16x675x4 : Shape := ⟨4, ![32, 16, 675, 4]⟩
abbrev S32x16x675x80 : Shape := ⟨4, ![32, 16, 675, 80]⟩
abbrev S1x1x675x85 : Shape := ⟨4, ![1, 1, 675, 85]⟩
abbrev S1x50x5 : Shape := ⟨3, ![1, 50, 5]⟩
abbrev S1x1x128 : Shape := ⟨3, ![1, 1, 128]⟩
abbrev S1x1x675x4 : Shape := ⟨4, ![1, 1, 675, 4]⟩
abbrev S1x1x675x80 : Shape := ⟨4, ![1, 1, 675, 80]⟩
abbrev S1x1x128x85 : Shape := ⟨4, ![1, 1, 128, 85]⟩
abbrev S128x85 : Shape := ⟨2, ![128, 85]⟩
abbrev S85x128 : Shape := ⟨2, ![85, 128]⟩
abbrev S1x128 : Shape := ⟨2, ![1, 128]⟩
abbrev S6x128 : Shape := ⟨2, ![6, 128]⟩
abbrev S50x5 : Shape := ⟨2, ![50, 5]⟩
abbrev S50x1 : Shape := ⟨2, ![50, 1]⟩
abbrev S1x1 : Shape := ⟨2, ![1, 1]⟩
abbrev S50x128 : Shape := ⟨2, ![50, 128]⟩
abbrev S80x1 : Shape := ⟨2, ![80, 1]⟩
abbrev S80x128 : Shape := ⟨2, ![80, 128]⟩
abbrev S128 : Shape := ⟨1, ![128]⟩
abbrev S128x80 : Shape := ⟨2, ![128, 80]⟩
abbrev S1x1x128x80 : Shape := ⟨4, ![1, 1, 128, 80]⟩
abbrev S4x128 : Shape := ⟨2, ![4, 128]⟩
abbrev S128x4 : Shape := ⟨2, ![128, 4]⟩
abbrev S1x1x128x4 : Shape := ⟨4, ![1, 1, 128, 4]⟩
abbrev S1x6x128 : Shape := ⟨3, ![1, 6, 128]⟩
abbrev S1 : Shape := ⟨1, ![1]⟩
abbrev S1x1x1 : Shape := ⟨3, ![1, 1, 1]⟩
abbrev S32x10800x4 : Shape := ⟨3, ![32, 10800, 4]⟩
abbrev S32x10800x80 : Shape := ⟨3, ![32, 10800, 80]⟩
abbrev S32x4x675x85 : Shape := ⟨4, ![32, 4, 675, 85]⟩
abbrev S32x4x675x4 : Shape := ⟨4, ![32, 4, 675, 4]⟩
abbrev S32x4x675x80 : Shape := ⟨4, ![32, 4, 675, 80]⟩
abbrev S32x2700x4 : Shape := ⟨3, ![32, 2700, 4]⟩
abbrev S32x2700x80 : Shape := ⟨3, ![32, 2700, 80]⟩
abbrev S32x1x675x85 : Shape := ⟨4, ![32, 1, 675, 85]⟩
abbrev S32x1x675x4 : Shape := ⟨4, ![32, 1, 675, 4]⟩
abbrev S32x1x675x80 : Shape := ⟨4, ![32, 1, 675, 80]⟩
abbrev S32x675x4 : Shape := ⟨3, ![32, 675, 4]⟩
abbrev S32x675x80 : Shape := ⟨3, ![32, 675, 80]⟩
abbrev S32x1x1 : Shape := ⟨3, ![32, 1, 1]⟩
abbrev S32 : Shape := ⟨1, ![32]⟩
abbrev S_ : Shape := ⟨0, ![]⟩
abbrev S32x14175x4 : Shape := ⟨3, ![32, 14175, 4]⟩
abbrev S32x14175x80 : Shape := ⟨3, ![32, 14175, 80]⟩

abbrev nBuf : Space → Nat
  | .hbm => 41
  | .vmem => 30
  | .smem => 3
  | _ => 0

abbrev bufTy : (tb : Table) → Fin (tcTables nBuf tb) → BufTy
  | .hbm, ⟨0, _⟩ => ⟨S32x60x60x255, .f32⟩
  | .hbm, ⟨1, _⟩ => ⟨S32x30x30x255, .f32⟩
  | .hbm, ⟨2, _⟩ => ⟨S32x15x15x255, .f32⟩
  | .hbm, ⟨3, _⟩ => ⟨S32x50x5, .f32⟩
  | .hbm, ⟨4, _⟩ => ⟨S3x2, .f32⟩
  | .hbm, ⟨5, _⟩ => ⟨S32x16x675x85, .f32⟩
  | .hbm, ⟨6, _⟩ => ⟨S32x1x128, .f32⟩
  | .hbm, ⟨7, _⟩ => ⟨S32x16x675x4, .f32⟩
  | .hbm, ⟨8, _⟩ => ⟨S32x16x675x80, .f32⟩
  | .hbm, ⟨9, _⟩ => ⟨S32x10800x4, .f32⟩
  | .hbm, ⟨10, _⟩ => ⟨S32x10800x80, .f32⟩
  | .hbm, ⟨11, _⟩ => ⟨S32x4x675x85, .f32⟩
  | .hbm, ⟨12, _⟩ => ⟨S32x1x128, .f32⟩
  | .hbm, ⟨13, _⟩ => ⟨S32x4x675x4, .f32⟩
  | .hbm, ⟨14, _⟩ => ⟨S32x4x675x80, .f32⟩
  | .hbm, ⟨15, _⟩ => ⟨S32x2700x4, .f32⟩
  | .hbm, ⟨16, _⟩ => ⟨S32x2700x80, .f32⟩
  | .hbm, ⟨17, _⟩ => ⟨S32x1x675x85, .f32⟩
  | .hbm, ⟨18, _⟩ => ⟨S32x1x128, .f32⟩
  | .hbm, ⟨19, _⟩ => ⟨S32x1x675x4, .f32⟩
  | .hbm, ⟨20, _⟩ => ⟨S32x1x675x80, .f32⟩
  | .hbm, ⟨21, _⟩ => ⟨S32x675x4, .f32⟩
  | .hbm, ⟨22, _⟩ => ⟨S32x675x80, .f32⟩
  | .hbm, ⟨23, _⟩ => ⟨S32x1x1, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x1x1, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32x1x1, .f32⟩
  | .hbm, ⟨35, _⟩ => ⟨S32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x14175x4, .f32⟩
  | .hbm, ⟨40, _⟩ => ⟨S32x14175x80, .f32⟩
  | .local _ .vmem, ⟨0, _⟩ => ⟨S1x1x675x85, .f32⟩
  | .local _ .vmem, ⟨1, _⟩ => ⟨S1x1x675x85, .f32⟩
  | .local _ .vmem, ⟨2, _⟩ => ⟨S1x50x5, .f32⟩
  | .local _ .vmem, ⟨3, _⟩ => ⟨S1x50x5, .f32⟩
  | .local _ .vmem, ⟨4, _⟩ => ⟨S1x1x128, .f32⟩
  | .local _ .vmem, ⟨5, _⟩ => ⟨S1x1x128, .f32⟩
  | .local _ .vmem, ⟨6, _⟩ => ⟨S1x1x675x4, .f32⟩
  | .local _ .vmem, ⟨7, _⟩ => ⟨S1x1x675x4, .f32⟩
  | .local _ .vmem, ⟨8, _⟩ => ⟨S1x1x675x80, .f32⟩
  | .local _ .vmem, ⟨9, _⟩ => ⟨S1x1x675x80, .f32⟩
  | .local _ .vmem, ⟨10, _⟩ => ⟨S1x1x675x85, .f32⟩
  | .local _ .vmem, ⟨11, _⟩ => ⟨S1x1x675x85, .f32⟩
  | .local _ .vmem, ⟨12, _⟩ => ⟨S1x50x5, .f32⟩
  | .local _ .vmem, ⟨13, _⟩ => ⟨S1x50x5, .f32⟩
  | .local _ .vmem, ⟨14, _⟩ => ⟨S1x1x128, .f32⟩
  | .local _ .vmem, ⟨15, _⟩ => ⟨S1x1x128, .f32⟩
  | .local _ .vmem, ⟨16, _⟩ => ⟨S1x1x675x4, .f32⟩
  | .local _ .vmem, ⟨17, _⟩ => ⟨S1x1x675x4, .f32⟩
  | .local _ .vmem, ⟨18, _⟩ => ⟨S1x1x675x80, .f32⟩
  | .local _ .vmem, ⟨19, _⟩ => ⟨S1x1x675x80, .f32⟩
  | .local _ .vmem, ⟨20, _⟩ => ⟨S1x1x675x85, .f32⟩
  | .local _ .vmem, ⟨21, _⟩ => ⟨S1x1x675x85, .f32⟩
  | .local _ .vmem, ⟨22, _⟩ => ⟨S1x50x5, .f32⟩
  | .local _ .vmem, ⟨23, _⟩ => ⟨S1x50x5, .f32⟩
  | .local _ .vmem, ⟨24, _⟩ => ⟨S1x1x128, .f32⟩
  | .local _ .vmem, ⟨25, _⟩ => ⟨S1x1x128, .f32⟩
  | .local _ .vmem, ⟨26, _⟩ => ⟨S1x1x675x4, .f32⟩
  | .local _ .vmem, ⟨27, _⟩ => ⟨S1x1x675x4, .f32⟩
  | .local _ .vmem, ⟨28, _⟩ => ⟨S1x1x675x80, .f32⟩
  | .local _ .vmem, ⟨29, _⟩ => ⟨S1x1x675x80, .f32⟩
  | .local _ .smem, ⟨0, _⟩ => ⟨S3x2, .f32⟩
  | .local _ .smem, ⟨1, _⟩ => ⟨S3x2, .f32⟩
  | .local _ .smem, ⟨2, _⟩ => ⟨S3x2, .f32⟩
  | _, _ => ⟨S32x60x60x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x675x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x50x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x675x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x675x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S3x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x675x85 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x50x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x675x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x675x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![32, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 1 → Memref sig .tc .smem S3x2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x1x675x85 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x50x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x675x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x675x80 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S32x60x60x255 : Shape := ⟨4, ![32, 60, 60, 255]⟩
abbrev S32x30x30x255 : Shape := ⟨4, ![32, 30, 30, 255]⟩
abbrev S32x15x15x255 : Shape := ⟨4, ![32, 15, 15, 255]⟩
abbrev S32x50x5 : Shape := ⟨3, ![32, 50, 5]⟩
abbrev S3x2 : Shape := ⟨2, ![3, 2]⟩
abbrev S4 : Shape := ⟨1, ![4]⟩
abbrev S2 : Shape := ⟨1, ![2]⟩
abbrev S_ : Shape := ⟨0, ![]⟩
abbrev S32x50x4 : Shape := ⟨3, ![32, 50, 4]⟩
abbrev S1x1x4 : Shape := ⟨3, ![1, 1, 4]⟩
abbrev S32x50x1 : Shape := ⟨3, ![32, 50, 1]⟩
abbrev S32x50 : Shape := ⟨2, ![32, 50]⟩
abbrev S32x50x2 : Shape := ⟨3, ![32, 50, 2]⟩
abbrev S32x50x1x2 : Shape := ⟨4, ![32, 50, 1, 2]⟩
abbrev S1x1x3x2 : Shape := ⟨4, ![1, 1, 3, 2]⟩
abbrev S32x50x3x2 : Shape := ⟨4, ![32, 50, 3, 2]⟩
abbrev S32x50x3x1 : Shape := ⟨4, ![32, 50, 3, 1]⟩
abbrev S32x50x3 : Shape := ⟨3, ![32, 50, 3]⟩
abbrev S3x1 : Shape := ⟨2, ![3, 1]⟩
abbrev S3 : Shape := ⟨1, ![3]⟩
abbrev S1x1x3 : Shape := ⟨3, ![1, 1, 3]⟩
abbrev S32 : Shape := ⟨1, ![32]⟩
abbrev S32x1 : Shape := ⟨2, ![32, 1]⟩
abbrev S345601 : Shape := ⟨1, ![345601]⟩
abbrev S1600 : Shape := ⟨1, ![1600]⟩
abbrev S1600x1 : Shape := ⟨2, ![1600, 1]⟩
abbrev S345600 : Shape := ⟨1, ![345600]⟩
abbrev S32x60x60x3x1 : Shape := ⟨5, ![32, 60, 60, 3, 1]⟩
abbrev S345601x5 : Shape := ⟨2, ![345601, 5]⟩
abbrev S1600x5 : Shape := ⟨2, ![1600, 5]⟩
abbrev S345600x5 : Shape := ⟨2, ![345600, 5]⟩
abbrev S32x60x60x3x5 : Shape := ⟨5, ![32, 60, 60, 3, 5]⟩
abbrev S32x60x60x3x85 : Shape := ⟨5, ![32, 60, 60, 3, 85]⟩
abbrev S60 : Shape := ⟨1, ![60]⟩
abbrev S60x60 : Shape := ⟨2, ![60, 60]⟩
abbrev S60x60x1 : Shape := ⟨3, ![60, 60, 1]⟩
abbrev S60x60x2 : Shape := ⟨3, ![60, 60, 2]⟩
abbrev S1x60x60x1x2 : Shape := ⟨5, ![1, 60, 60, 1, 2]⟩
abbrev S32x60x60x3x2 : Shape := ⟨5, ![32, 60, 60, 3, 2]⟩
abbrev S1x1x1x1x2 : Shape := ⟨5, ![1, 1, 1, 1, 2]⟩
abbrev S1x1x1x3x2 : Shape := ⟨5, ![1, 1, 1, 3, 2]⟩
abbrev S32x60x60x3x1x2 : Shape := ⟨6, ![32, 60, 60, 3, 1, 2]⟩
abbrev S32x1x1x1x50x2 : Shape := ⟨6, ![32, 1, 1, 1, 50, 2]⟩
abbrev S32x60x60x3x50x2 : Shape := ⟨6, ![32, 60, 60, 3, 50, 2]⟩
abbrev S32x60x60x3x50x1 : Shape := ⟨6, ![32, 60, 60, 3, 50, 1]⟩
abbrev S32x60x60x3x50 : Shape := ⟨5, ![32, 60, 60, 3, 50]⟩
abbrev S32x60x60x3 : Shape := ⟨4, ![32, 60, 60, 3]⟩
abbrev S32x1x1x1x50 : Shape := ⟨5, ![32, 1, 1, 1, 50]⟩
abbrev S32x60x60x3x80 : Shape := ⟨5, ![32, 60, 60, 3, 80]⟩
abbrev S1x1x1x1x80 : Shape := ⟨5, ![1, 1, 1, 1, 80]⟩
abbrev S32x60x60x3x4 : Shape := ⟨5, ![32, 60, 60, 3, 4]⟩
abbrev S32x10800x4 : Shape := ⟨3, ![32, 10800, 4]⟩
abbrev S32x10800x80 : Shape := ⟨3, ![32, 10800, 80]⟩
abbrev S86401 : Shape := ⟨1, ![86401]⟩
abbrev S86400 : Shape := ⟨1, ![86400]⟩
abbrev S32x30x30x3x1 : Shape := ⟨5, ![32, 30, 30, 3, 1]⟩
abbrev S86401x5 : Shape := ⟨2, ![86401, 5]⟩
abbrev S86400x5 : Shape := ⟨2, ![86400, 5]⟩
abbrev S32x30x30x3x5 : Shape := ⟨5, ![32, 30, 30, 3, 5]⟩
abbrev S32x30x30x3x85 : Shape := ⟨5, ![32, 30, 30, 3, 85]⟩
abbrev S30 : Shape := ⟨1, ![30]⟩
abbrev S30x30 : Shape := ⟨2, ![30, 30]⟩
abbrev S30x30x1 : Shape := ⟨3, ![30, 30, 1]⟩
abbrev S30x30x2 : Shape := ⟨3, ![30, 30, 2]⟩
abbrev S1x30x30x1x2 : Shape := ⟨5, ![1, 30, 30, 1, 2]⟩
abbrev S32x30x30x3x2 : Shape := ⟨5, ![32, 30, 30, 3, 2]⟩
abbrev S32x30x30x3x1x2 : Shape := ⟨6, ![32, 30, 30, 3, 1, 2]⟩
abbrev S32x30x30x3x50x2 : Shape := ⟨6, ![32, 30, 30, 3, 50, 2]⟩
abbrev S32x30x30x3x50x1 : Shape := ⟨6, ![32, 30, 30, 3, 50, 1]⟩
abbrev S32x30x30x3x50 : Shape := ⟨5, ![32, 30, 30, 3, 50]⟩
abbrev S32x30x30x3 : Shape := ⟨4, ![32, 30, 30, 3]⟩
abbrev S32x30x30x3x80 : Shape := ⟨5, ![32, 30, 30, 3, 80]⟩
abbrev S32x30x30x3x4 : Shape := ⟨5, ![32, 30, 30, 3, 4]⟩
abbrev S32x2700x4 : Shape := ⟨3, ![32, 2700, 4]⟩
abbrev S32x2700x80 : Shape := ⟨3, ![32, 2700, 80]⟩
abbrev S21601 : Shape := ⟨1, ![21601]⟩
abbrev S21600 : Shape := ⟨1, ![21600]⟩
abbrev S32x15x15x3x1 : Shape := ⟨5, ![32, 15, 15, 3, 1]⟩
abbrev S21601x5 : Shape := ⟨2, ![21601, 5]⟩
abbrev S21600x5 : Shape := ⟨2, ![21600, 5]⟩
abbrev S32x15x15x3x5 : Shape := ⟨5, ![32, 15, 15, 3, 5]⟩
abbrev S32x15x15x3x85 : Shape := ⟨5, ![32, 15, 15, 3, 85]⟩
abbrev S15 : Shape := ⟨1, ![15]⟩
abbrev S15x15 : Shape := ⟨2, ![15, 15]⟩
abbrev S15x15x1 : Shape := ⟨3, ![15, 15, 1]⟩
abbrev S15x15x2 : Shape := ⟨3, ![15, 15, 2]⟩
abbrev S1x15x15x1x2 : Shape := ⟨5, ![1, 15, 15, 1, 2]⟩
abbrev S32x15x15x3x2 : Shape := ⟨5, ![32, 15, 15, 3, 2]⟩
abbrev S32x15x15x3x1x2 : Shape := ⟨6, ![32, 15, 15, 3, 1, 2]⟩
abbrev S32x15x15x3x50x2 : Shape := ⟨6, ![32, 15, 15, 3, 50, 2]⟩
abbrev S32x15x15x3x50x1 : Shape := ⟨6, ![32, 15, 15, 3, 50, 1]⟩
abbrev S32x15x15x3x50 : Shape := ⟨5, ![32, 15, 15, 3, 50]⟩
abbrev S32x15x15x3 : Shape := ⟨4, ![32, 15, 15, 3]⟩
abbrev S32x15x15x3x80 : Shape := ⟨5, ![32, 15, 15, 3, 80]⟩
abbrev S32x15x15x3x4 : Shape := ⟨5, ![32, 15, 15, 3, 4]⟩
abbrev S32x675x4 : Shape := ⟨3, ![32, 675, 4]⟩
abbrev S32x675x80 : Shape := ⟨3, ![32, 675, 80]⟩
abbrev S32x14175x4 : Shape := ⟨3, ![32, 14175, 4]⟩
abbrev S32x14175x80 : Shape := ⟨3, ![32, 14175, 80]⟩

abbrev nBuf : Space → Nat
  | .hbm => 1169
  | .vmem => 0
  | .smem => 0
  | _ => 0

abbrev hbmTy0_0 (i : Nat) : BufTy := match i % 128 with
  | 0 => ⟨S32x60x60x255, .f32⟩
  | 1 => ⟨S32x30x30x255, .f32⟩
  | 2 => ⟨S32x15x15x255, .f32⟩
  | 3 => ⟨S32x50x5, .f32⟩
  | 4 => ⟨S3x2, .f32⟩
  | 5 => ⟨S4, .f32⟩
  | 6 => ⟨S2, .f32⟩
  | 7 => ⟨S4, .f32⟩
  | 8 => ⟨S2, .f32⟩
  | 9 => ⟨S4, .f32⟩
  | 10 => ⟨S2, .f32⟩
  | 11 => ⟨S_, .f32⟩
  | 12 => ⟨S3x2, .f32⟩
  | 13 => ⟨S3x2, .f32⟩
  | 14 => ⟨S32x50x4, .f32⟩
  | 15 => ⟨S1x1x4, .f32⟩
  | 16 => ⟨S32x50x4, .f32⟩
  | 17 => ⟨S32x50x4, .f32⟩
  | 18 => ⟨S32x50x1, .f32⟩
  | 19 => ⟨S32x50, .f32⟩
  | 20 => ⟨S_, .f32⟩
  | 21 => ⟨S32x50, .f32⟩
  | 22 => ⟨S32x50, .i1⟩
  | 23 => ⟨S32x50x1, .f32⟩
  | 24 => ⟨S32x50, .f32⟩
  | 25 => ⟨S32x50, .f32⟩
  | 26 => ⟨S_, .i32⟩
  | 27 => ⟨S_, .i32⟩
  | 28 => ⟨S_, .f32⟩
  | 29 => ⟨S32x50, .f32⟩
  | 30 => ⟨S32x50, .f32⟩
  | 31 => ⟨S_, .f32⟩
  | 32 => ⟨S32x50, .f32⟩
  | 33 => ⟨S32x50, .f32⟩
  | 34 => ⟨S32x50, .i32⟩
  | 35 => ⟨S32x50x1, .f32⟩
  | 36 => ⟨S32x50, .f32⟩
  | 37 => ⟨S32x50, .f32⟩
  | 38 => ⟨S_, .i32⟩
  | 39 => ⟨S_, .i32⟩
  | 40 => ⟨S_, .f32⟩
  | 41 => ⟨S32x50, .f32⟩
  | 42 => ⟨S32x50, .f32⟩
  | 43 => ⟨S_, .f32⟩
  | 44 => ⟨S32x50, .f32⟩
  | 45 => ⟨S32x50, .f32⟩
  | 46 => ⟨S32x50, .i32⟩
  | 47 => ⟨S32x50x2, .f32⟩
  | 48 => ⟨S32x50x1x2, .f32⟩
  | 49 => ⟨S1x1x3x2, .f32⟩
  | 50 => ⟨S32x50x3x2, .f32⟩
  | 51 => ⟨S32x50x3x2, .f32⟩
  | 52 => ⟨S32x50x3x2, .f32⟩
  | 53 => ⟨S32x50x3x1, .f32⟩
  | 54 => ⟨S32x50x3, .f32⟩
  | 55 => ⟨S32x50x3x1, .f32⟩
  | 56 => ⟨S32x50x3, .f32⟩
  | 57 => ⟨S32x50x3, .f32⟩
  | 58 => ⟨S32x50x1, .f32⟩
  | 59 => ⟨S32x50, .f32⟩
  | 60 => ⟨S32x50x1, .f32⟩
  | 61 => ⟨S32x50, .f32⟩
  | 62 => ⟨S32x50, .f32⟩
  | 63 => ⟨S32x50x1, .f32⟩
  | 64 => ⟨S3x1, .f32⟩
  | 65 => ⟨S3, .f32⟩
  | 66 => ⟨S3x1, .f32⟩
  | 67 => ⟨S3, .f32⟩
  | 68 => ⟨S3, .f32⟩
  | 69 => ⟨S1x1x3, .f32⟩
  | 70 => ⟨S32x50x3, .f32⟩
  | 71 => ⟨S32x50x3, .f32⟩
  | 72 => ⟨S32x50x3, .f32⟩
  | 73 => ⟨S32x50x3, .f32⟩
  | 74 => ⟨S_, .f32⟩
  | 75 => ⟨S32x50x3, .f32⟩
  | 76 => ⟨S32x50x3, .f32⟩
  | 77 => ⟨S32x50x3, .f32⟩
  | 78 => ⟨S_, .f32⟩
  | 79 => ⟨S32x50, .f32⟩
  | 80 => ⟨S32x50x1, .f32⟩
  | 81 => ⟨S32x50x3, .f32⟩
  | 82 => ⟨S32x50x3, .i1⟩
  | 83 => ⟨S3, .i32⟩
  | 84 => ⟨S_, .i32⟩
  | 85 => ⟨S_, .i32⟩
  | 86 => ⟨S32x50x3, .i32⟩
  | 87 => ⟨S32x50x3, .i32⟩
  | 88 => ⟨S32x50x3, .i32⟩
  | 89 => ⟨S_, .i32⟩
  | 90 => ⟨S32x50, .i32⟩
  | 91 => ⟨S32, .i32⟩
  | 92 => ⟨S32x1, .i32⟩
  | 93 => ⟨S_, .i32⟩
  | 94 => ⟨S32x1, .i32⟩
  | 95 => ⟨S32x1, .i32⟩
  | 96 => ⟨S32x50, .i32⟩
  | 97 => ⟨S32x50, .i32⟩
  | 98 => ⟨S_, .i32⟩
  | 99 => ⟨S32x50, .i32⟩
  | 100 => ⟨S32x50, .i32⟩
  | 101 => ⟨S32x50, .i32⟩
  | 102 => ⟨S_, .i32⟩
  | 103 => ⟨S32x50, .i32⟩
  | 104 => ⟨S32x50, .i32⟩
  | 105 => ⟨S32x50, .i32⟩
  | 106 => ⟨S_, .i32⟩
  | 107 => ⟨S_, .i32⟩
  | 108 => ⟨S32x50, .i32⟩
  | 109 => ⟨S32x50, .i32⟩
  | 110 => ⟨S_, .f32⟩
  | 111 => ⟨S345601, .f32⟩
  | 112 => ⟨S1600, .i32⟩
  | 113 => ⟨S_, .i32⟩
  | 114 => ⟨S1600, .i32⟩
  | 115 => ⟨S1600, .i1⟩
  | 116 => ⟨S_, .i32⟩
  | 117 => ⟨S1600, .i32⟩
  | 118 => ⟨S1600, .i32⟩
  | 119 => ⟨S1600, .i32⟩
  | 120 => ⟨S1600x1, .i32⟩
  | 121 => ⟨S_, .f32⟩
  | 122 => ⟨S1600, .f32⟩
  | 123 => ⟨S345601, .f32⟩
  | 124 => ⟨S345600, .f32⟩
  | 125 => ⟨S32x60x60x3x1, .f32⟩
  | 126 => ⟨S_, .i32⟩
  | 127 => ⟨S32x50, .i32⟩
  | _ => ⟨S32x60x60x255, .f32⟩

abbrev hbmTy0_1 (i : Nat) : BufTy := match i % 128 with
  | 0 => ⟨S32x50, .i1⟩
  | 1 => ⟨S_, .i32⟩
  | 2 => ⟨S32x50, .i32⟩
  | 3 => ⟨S32x50, .i32⟩
  | 4 => ⟨S32x50, .i32⟩
  | 5 => ⟨S32x50x1, .i32⟩
  | 6 => ⟨S32x50x2, .f32⟩
  | 7 => ⟨S32x50x1, .i1⟩
  | 8 => ⟨S_, .f32⟩
  | 9 => ⟨S_, .f32⟩
  | 10 => ⟨S32x50x2, .i1⟩
  | 11 => ⟨S32x50x2, .f32⟩
  | 12 => ⟨S32x50x2, .f32⟩
  | 13 => ⟨S32x50x1, .f32⟩
  | 14 => ⟨S32x50, .f32⟩
  | 15 => ⟨S32x50, .f32⟩
  | 16 => ⟨S32x50, .f32⟩
  | 17 => ⟨S32x50x1, .f32⟩
  | 18 => ⟨S32x50x1, .f32⟩
  | 19 => ⟨S32x50, .f32⟩
  | 20 => ⟨S32x50, .f32⟩
  | 21 => ⟨S32x50, .f32⟩
  | 22 => ⟨S32x50x1, .f32⟩
  | 23 => ⟨S32x50x2, .f32⟩
  | 24 => ⟨S32x50x2, .f32⟩
  | 25 => ⟨S32x50x1, .f32⟩
  | 26 => ⟨S32x50x5, .f32⟩
  | 27 => ⟨S_, .f32⟩
  | 28 => ⟨S345601x5, .f32⟩
  | 29 => ⟨S1600, .i32⟩
  | 30 => ⟨S1600x5, .f32⟩
  | 31 => ⟨S_, .i32⟩
  | 32 => ⟨S1600, .i32⟩
  | 33 => ⟨S1600, .i1⟩
  | 34 => ⟨S_, .i32⟩
  | 35 => ⟨S1600, .i32⟩
  | 36 => ⟨S1600, .i32⟩
  | 37 => ⟨S1600, .i32⟩
  | 38 => ⟨S1600x1, .i32⟩
  | 39 => ⟨S345601x5, .f32⟩
  | 40 => ⟨S345600x5, .f32⟩
  | 41 => ⟨S32x60x60x3x5, .f32⟩
  | 42 => ⟨S32x60x60x3x85, .f32⟩
  | 43 => ⟨S60, .f32⟩
  | 44 => ⟨S60, .f32⟩
  | 45 => ⟨S60x60, .f32⟩
  | 46 => ⟨S60x60, .f32⟩
  | 47 => ⟨S60x60x1, .f32⟩
  | 48 => ⟨S60x60x1, .f32⟩
  | 49 => ⟨S60x60x2, .f32⟩
  | 50 => ⟨S1x60x60x1x2, .f32⟩
  | 51 => ⟨S32x60x60x3x2, .f32⟩
  | 52 => ⟨S32x60x60x3x2, .f32⟩
  | 53 => ⟨S32x60x60x3x2, .f32⟩
  | 54 => ⟨S_, .f32⟩
  | 55 => ⟨S32x60x60x3x2, .f32⟩
  | 56 => ⟨S32x60x60x3x2, .f32⟩
  | 57 => ⟨S_, .f32⟩
  | 58 => ⟨S32x60x60x3x2, .f32⟩
  | 59 => ⟨S32x60x60x3x2, .f32⟩
  | 60 => ⟨S32x60x60x3x2, .f32⟩
  | 61 => ⟨S32x60x60x3x2, .f32⟩
  | 62 => ⟨S32x60x60x3x2, .f32⟩
  | 63 => ⟨S32x60x60x3x2, .f32⟩
  | 64 => ⟨S1x1x1x1x2, .f32⟩
  | 65 => ⟨S32x60x60x3x2, .f32⟩
  | 66 => ⟨S32x60x60x3x2, .f32⟩
  | 67 => ⟨S1x1x1x3x2, .f32⟩
  | 68 => ⟨S32x60x60x3x2, .f32⟩
  | 69 => ⟨S32x60x60x3x2, .f32⟩
  | 70 => ⟨S1x1x1x1x2, .f32⟩
  | 71 => ⟨S32x60x60x3x2, .f32⟩
  | 72 => ⟨S32x60x60x3x2, .f32⟩
  | 73 => ⟨S_, .f32⟩
  | 74 => ⟨S32x60x60x3x2, .f32⟩
  | 75 => ⟨S32x60x60x3x2, .f32⟩
  | 76 => ⟨S32x60x60x3x2, .f32⟩
  | 77 => ⟨S32x60x60x3x1x2, .f32⟩
  | 78 => ⟨S_, .f32⟩
  | 79 => ⟨S32x60x60x3x2, .f32⟩
  | 80 => ⟨S32x60x60x3x2, .f32⟩
  | 81 => ⟨S32x60x60x3x2, .f32⟩
  | 82 => ⟨S32x60x60x3x1x2, .f32⟩
  | 83 => ⟨S32x50x2, .f32⟩
  | 84 => ⟨S32x50x2, .f32⟩
  | 85 => ⟨S_, .f32⟩
  | 86 => ⟨S32x50x2, .f32⟩
  | 87 => ⟨S32x50x2, .f32⟩
  | 88 => ⟨S32x50x2, .f32⟩
  | 89 => ⟨S32x1x1x1x50x2, .f32⟩
  | 90 => ⟨S32x50x2, .f32⟩
  | 91 => ⟨S32x50x2, .f32⟩
  | 92 => ⟨S_, .f32⟩
  | 93 => ⟨S32x50x2, .f32⟩
  | 94 => ⟨S32x50x2, .f32⟩
  | 95 => ⟨S32x50x2, .f32⟩
  | 96 => ⟨S32x1x1x1x50x2, .f32⟩
  | 97 => ⟨S32x60x60x3x50x2, .f32⟩
  | 98 => ⟨S32x60x60x3x50x2, .f32⟩
  | 99 => ⟨S32x60x60x3x50x2, .f32⟩
  | 100 => ⟨S32x60x60x3x50x2, .f32⟩
  | 101 => ⟨S32x60x60x3x50x2, .f32⟩
  | 102 => ⟨S32x60x60x3x50x2, .f32⟩
  | 103 => ⟨S32x60x60x3x50x2, .f32⟩
  | 104 => ⟨S_, .f32⟩
  | 105 => ⟨S_, .f32⟩
  | 106 => ⟨S32x60x60x3x50x2, .f32⟩
  | 107 => ⟨S32x60x60x3x50x2, .f32⟩
  | 108 => ⟨S32x60x60x3x50x1, .f32⟩
  | 109 => ⟨S32x60x60x3x50, .f32⟩
  | 110 => ⟨S32x60x60x3x50x1, .f32⟩
  | 111 => ⟨S32x60x60x3x50, .f32⟩
  | 112 => ⟨S32x60x60x3x50, .f32⟩
  | 113 => ⟨S32x60x60x3x1, .f32⟩
  | 114 => ⟨S32x60x60x3, .f32⟩
  | 115 => ⟨S32x60x60x3x1, .f32⟩
  | 116 => ⟨S32x60x60x3, .f32⟩
  | 117 => ⟨S32x60x60x3, .f32⟩
  | 118 => ⟨S32x60x60x3x1, .f32⟩
  | 119 => ⟨S32x50x2, .f32⟩
  | 120 => ⟨S32x50x1, .f32⟩
  | 121 => ⟨S32x50, .f32⟩
  | 122 => ⟨S32x50x1, .f32⟩
  | 123 => ⟨S32x50, .f32⟩
  | 124 => ⟨S32x50, .f32⟩
  | 125 => ⟨S32x1x1x1x50, .f32⟩
  | 126 => ⟨S32x60x60x3x50, .f32⟩
  | 127 => ⟨S32x60x60x3x50, .f32⟩
  | _ => ⟨S32x60x60x255, .f32⟩

abbrev hbmTy0_2 (i : Nat) : BufTy := match i % 128 with
  | 0 => ⟨S32x60x60x3x50, .f32⟩
  | 1 => ⟨S32x60x60x3x50, .f32⟩
  | 2 => ⟨S_, .f32⟩
  | 3 => ⟨S32x60x60x3x50, .f32⟩
  | 4 => ⟨S32x60x60x3x50, .f32⟩
  | 5 => ⟨S32x60x60x3x50, .f32⟩
  | 6 => ⟨S_, .f32⟩
  | 7 => ⟨S32x60x60x3, .f32⟩
  | 8 => ⟨S32x60x60x3x1, .f32⟩
  | 9 => ⟨S_, .f32⟩
  | 10 => ⟨S32x60x60x3x1, .f32⟩
  | 11 => ⟨S32x60x60x3x1, .i1⟩
  | 12 => ⟨S32x60x60x3x1, .f32⟩
  | 13 => ⟨S32x60x60x3x1, .f32⟩
  | 14 => ⟨S32x60x60x3x1, .f32⟩
  | 15 => ⟨S32x60x60x3x1, .f32⟩
  | 16 => ⟨S_, .f32⟩
  | 17 => ⟨S32x60x60x3x1, .f32⟩
  | 18 => ⟨S32x60x60x3x1, .f32⟩
  | 19 => ⟨S_, .f32⟩
  | 20 => ⟨S32x60x60x3x1, .f32⟩
  | 21 => ⟨S32x60x60x3x1, .f32⟩
  | 22 => ⟨S_, .f32⟩
  | 23 => ⟨S32x60x60x3x1, .f32⟩
  | 24 => ⟨S32x60x60x3x1, .f32⟩
  | 25 => ⟨S_, .f32⟩
  | 26 => ⟨S32x60x60x3x1, .f32⟩
  | 27 => ⟨S32x60x60x3x1, .f32⟩
  | 28 => ⟨S_, .f32⟩
  | 29 => ⟨S32x60x60x3x1, .f32⟩
  | 30 => ⟨S32x60x60x3x1, .f32⟩
  | 31 => ⟨S32x60x60x3x1, .f32⟩
  | 32 => ⟨S32x60x60x3x1, .f32⟩
  | 33 => ⟨S32x60x60x3x1, .f32⟩
  | 34 => ⟨S_, .f32⟩
  | 35 => ⟨S32x60x60x3x1, .f32⟩
  | 36 => ⟨S32x60x60x3x1, .f32⟩
  | 37 => ⟨S_, .f32⟩
  | 38 => ⟨S32x60x60x3x1, .f32⟩
  | 39 => ⟨S32x60x60x3x1, .f32⟩
  | 40 => ⟨S32x60x60x3x1, .f32⟩
  | 41 => ⟨S32x60x60x3x1, .f32⟩
  | 42 => ⟨S32x60x60x3x80, .f32⟩
  | 43 => ⟨S_, .f32⟩
  | 44 => ⟨S32x60x60x3, .f32⟩
  | 45 => ⟨S_, .f32⟩
  | 46 => ⟨S32x60x60x3, .f32⟩
  | 47 => ⟨S32x60x60x3, .f32⟩
  | 48 => ⟨S32x60x60x3x1, .f32⟩
  | 49 => ⟨S32x60x60x3x80, .f32⟩
  | 50 => ⟨S32x60x60x3x80, .f32⟩
  | 51 => ⟨S32x60x60x3x80, .f32⟩
  | 52 => ⟨S_, .f32⟩
  | 53 => ⟨S32x60x60x3, .f32⟩
  | 54 => ⟨S32x60x60x3x1, .f32⟩
  | 55 => ⟨S32x60x60x3x80, .f32⟩
  | 56 => ⟨S32x60x60x3x80, .f32⟩
  | 57 => ⟨S32x60x60x3x1, .f32⟩
  | 58 => ⟨S32x60x60x3, .f32⟩
  | 59 => ⟨S32x60x60x3, .i32⟩
  | 60 => ⟨S32x60x60x3x1, .i32⟩
  | 61 => ⟨S1x1x1x1x80, .i32⟩
  | 62 => ⟨S32x60x60x3x80, .i32⟩
  | 63 => ⟨S32x60x60x3x80, .i32⟩
  | 64 => ⟨S32x60x60x3x80, .i1⟩
  | 65 => ⟨S32x60x60x3x80, .f32⟩
  | 66 => ⟨S_, .f32⟩
  | 67 => ⟨S32x60x60x3x1, .f32⟩
  | 68 => ⟨S32x60x60x3x1, .f32⟩
  | 69 => ⟨S32x60x60x3x80, .f32⟩
  | 70 => ⟨S32x60x60x3x80, .f32⟩
  | 71 => ⟨S32x60x60x3x80, .f32⟩
  | 72 => ⟨S32x60x60x3x80, .f32⟩
  | 73 => ⟨S32x60x60x3x2, .f32⟩
  | 74 => ⟨S32x60x60x3x4, .f32⟩
  | 75 => ⟨S_, .f32⟩
  | 76 => ⟨S32x60x60x3x1, .f32⟩
  | 77 => ⟨S32x60x60x3x1, .f32⟩
  | 78 => ⟨S32x60x60x3x4, .f32⟩
  | 79 => ⟨S32x60x60x3x4, .f32⟩
  | 80 => ⟨S32x60x60x3x4, .f32⟩
  | 81 => ⟨S32x60x60x3x4, .f32⟩
  | 82 => ⟨S32x60x60x3x4, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S32x60x60x3x2, .f32⟩
  | 100 => ⟨S32x60x60x3x2, .f32⟩
  | 101 => ⟨S32x60x60x3x2, .f32⟩
  | 102 => ⟨S_, .f32⟩
  | 103 => ⟨S32x60x60x3x2, .f32⟩
  | 104 => ⟨S32x60x60x3x2, .f32⟩
  | 105 => ⟨S_, .f32⟩
  | 106 => ⟨S32x60x60x3x2, .f32⟩
  | 107 => ⟨S32x60x60x3x2, .f32⟩
  | 108 => ⟨S32x60x60x3x2, .f32⟩
  | 109 => ⟨S_, .f32⟩
  | 110 => ⟨S32x60x60x3x2, .f32⟩
  | 111 => ⟨S32x60x60x3x2, .f32⟩
  | 112 => ⟨S32x60x60x3x4, .f32⟩
  | 113 => ⟨S32x10800x4, .f32⟩
  | 114 => ⟨S32x60x60x3x1, .f32⟩
  | 115 => ⟨S32x60x60x3x1, .f32⟩
  | 116 => ⟨S32x60x60x3x1, .f32⟩
  | 117 => ⟨S_, .f32⟩
  | 118 => ⟨S32x60x60x3x1, .f32⟩
  | 119 => ⟨S32x60x60x3x1, .f32⟩
  | 120 => ⟨S_, .f32⟩
  | 121 => ⟨S32x60x60x3x1, .f32⟩
  | 122 => ⟨S32x60x60x3x1, .f32⟩
  | 123 => ⟨S32x60x60x3x80, .f32⟩
  | 124 => ⟨S_, .f32⟩
  | 125 => ⟨S32x60x60x3, .f32⟩
  | 126 => ⟨S_, .f32⟩
  | 127 => ⟨S32x60x60x3, .f32⟩
  | _ => ⟨S32x60x60x255, .f32⟩

abbrev hbmTy0_3 (i : Nat) : BufTy := match i % 128 with
  | 0 => ⟨S32x60x60x3, .f32⟩
  | 1 => ⟨S32x60x60x3x1, .f32⟩
  | 2 => ⟨S32x60x60x3x80, .f32⟩
  | 3 => ⟨S32x60x60x3x80, .f32⟩
  | 4 => ⟨S32x60x60x3x80, .f32⟩
  | 5 => ⟨S_, .f32⟩
  | 6 => ⟨S32x60x60x3, .f32⟩
  | 7 => ⟨S32x60x60x3x1, .f32⟩
  | 8 => ⟨S32x60x60x3x80, .f32⟩
  | 9 => ⟨S32x60x60x3x80, .f32⟩
  | 10 => ⟨S32x60x60x3x80, .f32⟩
  | 11 => ⟨S32x60x60x3x80, .f32⟩
  | 12 => ⟨S32x10800x80, .f32⟩
  | 13 => ⟨S_, .f32⟩
  | 14 => ⟨S3x2, .f32⟩
  | 15 => ⟨S3x2, .f32⟩
  | 16 => ⟨S32x50x4, .f32⟩
  | 17 => ⟨S1x1x4, .f32⟩
  | 18 => ⟨S32x50x4, .f32⟩
  | 19 => ⟨S32x50x4, .f32⟩
  | 20 => ⟨S32x50x1, .f32⟩
  | 21 => ⟨S32x50, .f32⟩
  | 22 => ⟨S_, .f32⟩
  | 23 => ⟨S32x50, .f32⟩
  | 24 => ⟨S32x50, .i1⟩
  | 25 => ⟨S32x50x1, .f32⟩
  | 26 => ⟨S32x50, .f32⟩
  | 27 => ⟨S32x50, .f32⟩
  | 28 => ⟨S_, .i32⟩
  | 29 => ⟨S_, .i32⟩
  | 30 => ⟨S_, .f32⟩
  | 31 => ⟨S32x50, .f32⟩
  | 32 => ⟨S32x50, .f32⟩
  | 33 => ⟨S_, .f32⟩
  | 34 => ⟨S32x50, .f32⟩
  | 35 => ⟨S32x50, .f32⟩
  | 36 => ⟨S32x50, .i32⟩
  | 37 => ⟨S32x50x1, .f32⟩
  | 38 => ⟨S32x50, .f32⟩
  | 39 => ⟨S32x50, .f32⟩
  | 40 => ⟨S_, .i32⟩
  | 41 => ⟨S_, .i32⟩
  | 42 => ⟨S_, .f32⟩
  | 43 => ⟨S32x50, .f32⟩
  | 44 => ⟨S32x50, .f32⟩
  | 45 => ⟨S_, .f32⟩
  | 46 => ⟨S32x50, .f32⟩
  | 47 => ⟨S32x50, .f32⟩
  | 48 => ⟨S32x50, .i32⟩
  | 49 => ⟨S32x50x2, .f32⟩
  | 50 => ⟨S32x50x1x2, .f32⟩
  | 51 => ⟨S1x1x3x2, .f32⟩
  | 52 => ⟨S32x50x3x2, .f32⟩
  | 53 => ⟨S32x50x3x2, .f32⟩
  | 54 => ⟨S32x50x3x2, .f32⟩
  | 55 => ⟨S32x50x3x1, .f32⟩
  | 56 => ⟨S32x50x3, .f32⟩
  | 57 => ⟨S32x50x3x1, .f32⟩
  | 58 => ⟨S32x50x3, .f32⟩
  | 59 => ⟨S32x50x3, .f32⟩
  | 60 => ⟨S32x50x1, .f32⟩
  | 61 => ⟨S32x50, .f32⟩
  | 62 => ⟨S32x50x1, .f32⟩
  | 63 => ⟨S32x50, .f32⟩
  | 64 => ⟨S32x50, .f32⟩
  | 65 => ⟨S32x50x1, .f32⟩
  | 66 => ⟨S3x1, .f32⟩
  | 67 => ⟨S3, .f32⟩
  | 68 => ⟨S3x1, .f32⟩
  | 69 => ⟨S3, .f32⟩
  | 70 => ⟨S3, .f32⟩
  | 71 => ⟨S1x1x3, .f32⟩
  | 72 => ⟨S32x50x3, .f32⟩
  | 73 => ⟨S32x50x3, .f32⟩
  | 74 => ⟨S32x50x3, .f32⟩
  | 75 => ⟨S32x50x3, .f32⟩
  | 76 => ⟨S_, .f32⟩
  | 77 => ⟨S32x50x3, .f32⟩
  | 78 => ⟨S32x50x3, .f32⟩
  | 79 => ⟨S32x50x3, .f32⟩
  | 80 => ⟨S_, .f32⟩
  | 81 => ⟨S32x50, .f32⟩
  | 82 => ⟨S32x50x1, .f32⟩
  | 83 => ⟨S32x50x3, .f32⟩
  | 84 => ⟨S32x50x3, .i1⟩
  | 85 => ⟨S3, .i32⟩
  | 86 => ⟨S_, .i32⟩
  | 87 => ⟨S_, .i32⟩
  | 88 => ⟨S32x50x3, .i32⟩
  | 89 => ⟨S32x50x3, .i32⟩
  | 90 => ⟨S32x50x3, .i32⟩
  | 91 => ⟨S_, .i32⟩
  | 92 => ⟨S32x50, .i32⟩
  | 93 => ⟨S32, .i32⟩
  | 94 => ⟨S32x1, .i32⟩
  | 95 => ⟨S_, .i32⟩
  | 96 => ⟨S32x1, .i32⟩
  | 97 => ⟨S32x1, .i32⟩
  | 98 => ⟨S32x50, .i32⟩
  | 99 => ⟨S32x50, .i32⟩
  | 100 => ⟨S_, .i32⟩
  | 101 => ⟨S32x50, .i32⟩
  | 102 => ⟨S32x50, .i32⟩
  | 103 => ⟨S32x50, .i32⟩
  | 104 => ⟨S_, .i32⟩
  | 105 => ⟨S32x50, .i32⟩
  | 106 => ⟨S32x50, .i32⟩
  | 107 => ⟨S32x50, .i32⟩
  | 108 => ⟨S_, .i32⟩
  | 109 => ⟨S_, .i32⟩
  | 110 => ⟨S32x50, .i32⟩
  | 111 => ⟨S32x50, .i32⟩
  | 112 => ⟨S_, .f32⟩
  | 113 => ⟨S86401, .f32⟩
  | 114 => ⟨S1600, .i32⟩
  | 115 => ⟨S_, .i32⟩
  | 116 => ⟨S1600, .i32⟩
  | 117 => ⟨S1600, .i1⟩
  | 118 => ⟨S_, .i32⟩
  | 119 => ⟨S1600, .i32⟩
  | 120 => ⟨S1600, .i32⟩
  | 121 => ⟨S1600, .i32⟩
  | 122 => ⟨S1600x1, .i32⟩
  | 123 => ⟨S_, .f32⟩
  | 124 => ⟨S1600, .f32⟩
  | 125 => ⟨S86401, .f32⟩
  | 126 => ⟨S86400, .f32⟩
  | 127 => ⟨S32x30x30x3x1, .f32⟩
  | _ => ⟨S32x60x60x255, .f32⟩

abbrev hbmTy0_4 (i : Nat) : BufTy := match i % 128 with
  | 0 => ⟨S_, .i32⟩
  | 1 => ⟨S32x50, .i32⟩
  | 2 => ⟨S32x50, .i1⟩
  | 3 => ⟨S_, .i32⟩
  | 4 => ⟨S32x50, .i32⟩
  | 5 => ⟨S32x50, .i32⟩
  | 6 => ⟨S32x50, .i32⟩
  | 7 => ⟨S32x50x1, .i32⟩
  | 8 => ⟨S32x50x2, .f32⟩
  | 9 => ⟨S32x50x1, .i1⟩
  | 10 => ⟨S_, .f32⟩
  | 11 => ⟨S_, .f32⟩
  | 12 => ⟨S32x50x2, .i1⟩
  | 13 => ⟨S32x50x2, .f32⟩
  | 14 => ⟨S32x50x2, .f32⟩
  | 15 => ⟨S32x50x1, .f32⟩
  | 16 => ⟨S32x50, .f32⟩
  | 17 => ⟨S32x50, .f32⟩
  | 18 => ⟨S32x50, .f32⟩
  | 19 => ⟨S32x50x1, .f32⟩
  | 20 => ⟨S32x50x1, .f32⟩
  | 21 => ⟨S32x50, .f32⟩
  | 22 => ⟨S32x50, .f32⟩
  | 23 => ⟨S32x50, .f32⟩
  | 24 => ⟨S32x50x1, .f32⟩
  | 25 => ⟨S32x50x2, .f32⟩
  | 26 => ⟨S32x50x2, .f32⟩
  | 27 => ⟨S32x50x1, .f32⟩
  | 28 => ⟨S32x50x5, .f32⟩
  | 29 => ⟨S_, .f32⟩
  | 30 => ⟨S86401x5, .f32⟩
  | 31 => ⟨S1600, .i32⟩
  | 32 => ⟨S1600x5, .f32⟩
  | 33 => ⟨S_, .i32⟩
  | 34 => ⟨S1600, .i32⟩
  | 35 => ⟨S1600, .i1⟩
  | 36 => ⟨S_, .i32⟩
  | 37 => ⟨S1600, .i32⟩
  | 38 => ⟨S1600, .i32⟩
  | 39 => ⟨S1600, .i32⟩
  | 40 => ⟨S1600x1, .i32⟩
  | 41 => ⟨S86401x5, .f32⟩
  | 42 => ⟨S86400x5, .f32⟩
  | 43 => ⟨S32x30x30x3x5, .f32⟩
  | 44 => ⟨S32x30x30x3x85, .f32⟩
  | 45 => ⟨S30, .f32⟩
  | 46 => ⟨S30, .f32⟩
  | 47 => ⟨S30x30, .f32⟩
  | 48 => ⟨S30x30, .f32⟩
  | 49 => ⟨S30x30x1, .f32⟩
  | 50 => ⟨S30x30x1, .f32⟩
  | 51 => ⟨S30x30x2, .f32⟩
  | 52 => ⟨S1x30x30x1x2, .f32⟩
  | 53 => ⟨S32x30x30x3x2, .f32⟩
  | 54 => ⟨S32x30x30x3x2, .f32⟩
  | 55 => ⟨S32x30x30x3x2, .f32⟩
  | 56 => ⟨S_, .f32⟩
  | 57 => ⟨S32x30x30x3x2, .f32⟩
  | 58 => ⟨S32x30x30x3x2, .f32⟩
  | 59 => ⟨S_, .f32⟩
  | 60 => ⟨S32x30x30x3x2, .f32⟩
  | 61 => ⟨S32x30x30x3x2, .f32⟩
  | 62 => ⟨S32x30x30x3x2, .f32⟩
  | 63 => ⟨S32x30x30x3x2, .f32⟩
  | 64 => ⟨S32x30x30x3x2, .f32⟩
  | 65 => ⟨S32x30x30x3x2, .f32⟩
  | 66 => ⟨S1x1x1x1x2, .f32⟩
  | 67 => ⟨S32x30x30x3x2, .f32⟩
  | 68 => ⟨S32x30x30x3x2, .f32⟩
  | 69 => ⟨S1x1x1x3x2, .f32⟩
  | 70 => ⟨S32x30x30x3x2, .f32⟩
  | 71 => ⟨S32x30x30x3x2, .f32⟩
  | 72 => ⟨S1x1x1x1x2, .f32⟩
  | 73 => ⟨S32x30x30x3x2, .f32⟩
  | 74 => ⟨S32x30x30x3x2, .f32⟩
  | 75 => ⟨S_, .f32⟩
  | 76 => ⟨S32x30x30x3x2, .f32⟩
  | 77 => ⟨S32x30x30x3x2, .f32⟩
  | 78 => ⟨S32x30x30x3x2, .f32⟩
  | 79 => ⟨S32x30x30x3x1x2, .f32⟩
  | 80 => ⟨S_, .f32⟩
  | 81 => ⟨S32x30x30x3x2, .f32⟩
  | 82 => ⟨S32x30x30x3x2, .f32⟩
  | 83 => ⟨S32x30x30x3x2, .f32⟩
  | 84 => ⟨S32x30x30x3x1x2, .f32⟩
  | 85 => ⟨S32x50x2, .f32⟩
  | 86 => ⟨S32x50x2, .f32⟩
  | 87 => ⟨S_, .f32⟩
  | 88 => ⟨S32x50x2, .f32⟩
  | 89 => ⟨S32x50x2, .f32⟩
  | 90 => ⟨S32x50x2, .f32⟩
  | 91 => ⟨S32x1x1x1x50x2, .f32⟩
  | 92 => ⟨S32x50x2, .f32⟩
  | 93 => ⟨S32x50x2, .f32⟩
  | 94 => ⟨S_, .f32⟩
  | 95 => ⟨S32x50x2, .f32⟩
  | 96 => ⟨S32x50x2, .f32⟩
  | 97 => ⟨S32x50x2, .f32⟩
  | 98 => ⟨S32x1x1x1x50x2, .f32⟩
  | 99 => ⟨S32x30x30x3x50x2, .f32⟩
  | 100 => ⟨S32x30x30x3x50x2, .f32⟩
  | 101 => ⟨S32x30x30x3x50x2, .f32⟩
  | 102 => ⟨S32x30x30x3x50x2, .f32⟩
  | 103 => ⟨S32x30x30x3x50x2, .f32⟩
  | 104 => ⟨S32x30x30x3x50x2, .f32⟩
  | 105 => ⟨S32x30x30x3x50x2, .f32⟩
  | 106 => ⟨S_, .f32⟩
  | 107 => ⟨S_, .f32⟩
  | 108 => ⟨S32x30x30x3x50x2, .f32⟩
  | 109 => ⟨S32x30x30x3x50x2, .f32⟩
  | 110 => ⟨S32x30x30x3x50x1, .f32⟩
  | 111 => ⟨S32x30x30x3x50, .f32⟩
  | 112 => ⟨S32x30x30x3x50x1, .f32⟩
  | 113 => ⟨S32x30x30x3x50, .f32⟩
  | 114 => ⟨S32x30x30x3x50, .f32⟩
  | 115 => ⟨S32x30x30x3x1, .f32⟩
  | 116 => ⟨S32x30x30x3, .f32⟩
  | 117 => ⟨S32x30x30x3x1, .f32⟩
  | 118 => ⟨S32x30x30x3, .f32⟩
  | 119 => ⟨S32x30x30x3, .f32⟩
  | 120 => ⟨S32x30x30x3x1, .f32⟩
  | 121 => ⟨S32x50x2, .f32⟩
  | 122 => ⟨S32x50x1, .f32⟩
  | 123 => ⟨S32x50, .f32⟩
  | 124 => ⟨S32x50x1, .f32⟩
  | 125 => ⟨S32x50, .f32⟩
  | 126 => ⟨S32x50, .f32⟩
  | 127 => ⟨S32x1x1x1x50, .f32⟩
  | _ => ⟨S32x60x60x255, .f32⟩

abbrev hbmTy0_5 (i : Nat) : BufTy := match i % 128 with
  | 0 => ⟨S32x30x30x3x50, .f32⟩
  | 1 => ⟨S32x30x30x3x50, .f32⟩
  | 2 => ⟨S32x30x30x3x50, .f32⟩
  | 3 => ⟨S32x30x30x3x50, .f32⟩
  | 4 => ⟨S_, .f32⟩
  | 5 => ⟨S32x30x30x3x50, .f32⟩
  | 6 => ⟨S32x30x30x3x50, .f32⟩
  | 7 => ⟨S32x30x30x3x50, .f32⟩
  | 8 => ⟨S_, .f32⟩
  | 9 => ⟨S32x30x30x3, .f32⟩
  | 10 => ⟨S32x30x30x3x1, .f32⟩
  | 11 => ⟨S_, .f32⟩
  | 12 => ⟨S32x30x30x3x1, .f32⟩
  | 13 => ⟨S32x30x30x3x1, .i1⟩
  | 14 => ⟨S32x30x30x3x1, .f32⟩
  | 15 => ⟨S32x30x30x3x1, .f32⟩
  | 16 => ⟨S32x30x30x3x1, .f32⟩
  | 17 => ⟨S32x30x30x3x1, .f32⟩
  | 18 => ⟨S_, .f32⟩
  | 19 => ⟨S32x30x30x3x1, .f32⟩
  | 20 => ⟨S32x30x30x3x1, .f32⟩
  | 21 => ⟨S_, .f32⟩
  | 22 => ⟨S32x30x30x3x1, .f32⟩
  | 23 => ⟨S32x30x30x3x1, .f32⟩
  | 24 => ⟨S_, .f32⟩
  | 25 => ⟨S32x30x30x3x1, .f32⟩
  | 26 => ⟨S32x30x30x3x1, .f32⟩
  | 27 => ⟨S_, .f32⟩
  | 28 => ⟨S32x30x30x3x1, .f32⟩
  | 29 => ⟨S32x30x30x3x1, .f32⟩
  | 30 => ⟨S_, .f32⟩
  | 31 => ⟨S32x30x30x3x1, .f32⟩
  | 32 => ⟨S32x30x30x3x1, .f32⟩
  | 33 => ⟨S32x30x30x3x1, .f32⟩
  | 34 => ⟨S32x30x30x3x1, .f32⟩
  | 35 => ⟨S32x30x30x3x1, .f32⟩
  | 36 => ⟨S_, .f32⟩
  | 37 => ⟨S32x30x30x3x1, .f32⟩
  | 38 => ⟨S32x30x30x3x1, .f32⟩
  | 39 => ⟨S_, .f32⟩
  | 40 => ⟨S32x30x30x3x1, .f32⟩
  | 41 => ⟨S32x30x30x3x1, .f32⟩
  | 42 => ⟨S32x30x30x3x1, .f32⟩
  | 43 => ⟨S32x30x30x3x1, .f32⟩
  | 44 => ⟨S32x30x30x3x80, .f32⟩
  | 45 => ⟨S_, .f32⟩
  | 46 => ⟨S32x30x30x3, .f32⟩
  | 47 => ⟨S_, .f32⟩
  | 48 => ⟨S32x30x30x3, .f32⟩
  | 49 => ⟨S32x30x30x3, .f32⟩
  | 50 => ⟨S32x30x30x3x1, .f32⟩
  | 51 => ⟨S32x30x30x3x80, .f32⟩
  | 52 => ⟨S32x30x30x3x80, .f32⟩
  | 53 => ⟨S32x30x30x3x80, .f32⟩
  | 54 => ⟨S_, .f32⟩
  | 55 => ⟨S32x30x30x3, .f32⟩
  | 56 => ⟨S32x30x30x3x1, .f32⟩
  | 57 => ⟨S32x30x30x3x80, .f32⟩
  | 58 => ⟨S32x30x30x3x80, .f32⟩
  | 59 => ⟨S32x30x30x3x1, .f32⟩
  | 60 => ⟨S32x30x30x3, .f32⟩
  | 61 => ⟨S32x30x30x3, .i32⟩
  | 62 => ⟨S32x30x30x3x1, .i32⟩
  | 63 => ⟨S1x1x1x1x80, .i32⟩
  | 64 => ⟨S32x30x30x3x80, .i32⟩
  | 65 => ⟨S32x30x30x3x80, .i32⟩
  | 66 => ⟨S32x30x30x3x80, .i1⟩
  | 67 => ⟨S32x30x30x3x80, .f32⟩
  | 68 => ⟨S_, .f32⟩
  | 69 => ⟨S32x30x30x3x1, .f32⟩
  | 70 => ⟨S32x30x30x3x1, .f32⟩
  | 71 => ⟨S32x30x30x3x80, .f32⟩
  | 72 => ⟨S32x30x30x3x80, .f32⟩
  | 73 => ⟨S32x30x30x3x80, .f32⟩
  | 74 => ⟨S32x30x30x3x80, .f32⟩
  | 75 => ⟨S32x30x30x3x2, .f32⟩
  | 76 => ⟨S32x30x30x3x4, .f32⟩
  | 77 => ⟨S_, .f32⟩
  | 78 => ⟨S32x30x30x3x1, .f32⟩
  | 79 => ⟨S32x30x30x3x1, .f32⟩
  | 80 => ⟨S32x30x30x3x4, .f32⟩
  | 81 => ⟨S32x30x30x3x4, .f32⟩
  | 82 => ⟨S32x30x30x3x4, .f32⟩
  | 83 => ⟨S32x30x30x3x4, .f32⟩
  | 84 => ⟨S32x30x30x3x4, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S32x30x30x3x2, .f32⟩
  | 101 => ⟨S32x30x30x3x2, .f32⟩
  | 102 => ⟨S32x30x30x3x2, .f32⟩
  | 103 => ⟨S_, .f32⟩
  | 104 => ⟨S32x30x30x3x2, .f32⟩
  | 105 => ⟨S32x30x30x3x2, .f32⟩
  | 106 => ⟨S_, .f32⟩
  | 107 => ⟨S32x30x30x3x2, .f32⟩
  | 108 => ⟨S32x30x30x3x2, .f32⟩
  | 109 => ⟨S32x30x30x3x2, .f32⟩
  | 110 => ⟨S_, .f32⟩
  | 111 => ⟨S32x30x30x3x2, .f32⟩
  | 112 => ⟨S32x30x30x3x2, .f32⟩
  | 113 => ⟨S32x30x30x3x4, .f32⟩
  | 114 => ⟨S32x2700x4, .f32⟩
  | 115 => ⟨S32x30x30x3x1, .f32⟩
  | 116 => ⟨S32x30x30x3x1, .f32⟩
  | 117 => ⟨S32x30x30x3x1, .f32⟩
  | 118 => ⟨S_, .f32⟩
  | 119 => ⟨S32x30x30x3x1, .f32⟩
  | 120 => ⟨S32x30x30x3x1, .f32⟩
  | 121 => ⟨S_, .f32⟩
  | 122 => ⟨S32x30x30x3x1, .f32⟩
  | 123 => ⟨S32x30x30x3x1, .f32⟩
  | 124 => ⟨S32x30x30x3x80, .f32⟩
  | 125 => ⟨S_, .f32⟩
  | 126 => ⟨S32x30x30x3, .f32⟩
  | 127 => ⟨S_, .f32⟩
  | _ => ⟨S32x60x60x255, .f32⟩

abbrev hbmTy0_6 (i : Nat) : BufTy := match i % 128 with
  | 0 => ⟨S32x30x30x3, .f32⟩
  | 1 => ⟨S32x30x30x3, .f32⟩
  | 2 => ⟨S32x30x30x3x1, .f32⟩
  | 3 => ⟨S32x30x30x3x80, .f32⟩
  | 4 => ⟨S32x30x30x3x80, .f32⟩
  | 5 => ⟨S32x30x30x3x80, .f32⟩
  | 6 => ⟨S_, .f32⟩
  | 7 => ⟨S32x30x30x3, .f32⟩
  | 8 => ⟨S32x30x30x3x1, .f32⟩
  | 9 => ⟨S32x30x30x3x80, .f32⟩
  | 10 => ⟨S32x30x30x3x80, .f32⟩
  | 11 => ⟨S32x30x30x3x80, .f32⟩
  | 12 => ⟨S32x30x30x3x80, .f32⟩
  | 13 => ⟨S32x2700x80, .f32⟩
  | 14 => ⟨S_, .f32⟩
  | 15 => ⟨S3x2, .f32⟩
  | 16 => ⟨S3x2, .f32⟩
  | 17 => ⟨S32x50x4, .f32⟩
  | 18 => ⟨S1x1x4, .f32⟩
  | 19 => ⟨S32x50x4, .f32⟩
  | 20 => ⟨S32x50x4, .f32⟩
  | 21 => ⟨S32x50x1, .f32⟩
  | 22 => ⟨S32x50, .f32⟩
  | 23 => ⟨S_, .f32⟩
  | 24 => ⟨S32x50, .f32⟩
  | 25 => ⟨S32x50, .i1⟩
  | 26 => ⟨S32x50x1, .f32⟩
  | 27 => ⟨S32x50, .f32⟩
  | 28 => ⟨S32x50, .f32⟩
  | 29 => ⟨S_, .i32⟩
  | 30 => ⟨S_, .i32⟩
  | 31 => ⟨S_, .f32⟩
  | 32 => ⟨S32x50, .f32⟩
  | 33 => ⟨S32x50, .f32⟩
  | 34 => ⟨S_, .f32⟩
  | 35 => ⟨S32x50, .f32⟩
  | 36 => ⟨S32x50, .f32⟩
  | 37 => ⟨S32x50, .i32⟩
  | 38 => ⟨S32x50x1, .f32⟩
  | 39 => ⟨S32x50, .f32⟩
  | 40 => ⟨S32x50, .f32⟩
  | 41 => ⟨S_, .i32⟩
  | 42 => ⟨S_, .i32⟩
  | 43 => ⟨S_, .f32⟩
  | 44 => ⟨S32x50, .f32⟩
  | 45 => ⟨S32x50, .f32⟩
  | 46 => ⟨S_, .f32⟩
  | 47 => ⟨S32x50, .f32⟩
  | 48 => ⟨S32x50, .f32⟩
  | 49 => ⟨S32x50, .i32⟩
  | 50 => ⟨S32x50x2, .f32⟩
  | 51 => ⟨S32x50x1x2, .f32⟩
  | 52 => ⟨S1x1x3x2, .f32⟩
  | 53 => ⟨S32x50x3x2, .f32⟩
  | 54 => ⟨S32x50x3x2, .f32⟩
  | 55 => ⟨S32x50x3x2, .f32⟩
  | 56 => ⟨S32x50x3x1, .f32⟩
  | 57 => ⟨S32x50x3, .f32⟩
  | 58 => ⟨S32x50x3x1, .f32⟩
  | 59 => ⟨S32x50x3, .f32⟩
  | 60 => ⟨S32x50x3, .f32⟩
  | 61 => ⟨S32x50x1, .f32⟩
  | 62 => ⟨S32x50, .f32⟩
  | 63 => ⟨S32x50x1, .f32⟩
  | 64 => ⟨S32x50, .f32⟩
  | 65 => ⟨S32x50, .f32⟩
  | 66 => ⟨S32x50x1, .f32⟩
  | 67 => ⟨S3x1, .f32⟩
  | 68 => ⟨S3, .f32⟩
  | 69 => ⟨S3x1, .f32⟩
  | 70 => ⟨S3, .f32⟩
  | 71 => ⟨S3, .f32⟩
  | 72 => ⟨S1x1x3, .f32⟩
  | 73 => ⟨S32x50x3, .f32⟩
  | 74 => ⟨S32x50x3, .f32⟩
  | 75 => ⟨S32x50x3, .f32⟩
  | 76 => ⟨S32x50x3, .f32⟩
  | 77 => ⟨S_, .f32⟩
  | 78 => ⟨S32x50x3, .f32⟩
  | 79 => ⟨S32x50x3, .f32⟩
  | 80 => ⟨S32x50x3, .f32⟩
  | 81 => ⟨S_, .f32⟩
  | 82 => ⟨S32x50, .f32⟩
  | 83 => ⟨S32x50x1, .f32⟩
  | 84 => ⟨S32x50x3, .f32⟩
  | 85 => ⟨S32x50x3, .i1⟩
  | 86 => ⟨S3, .i32⟩
  | 87 => ⟨S_, .i32⟩
  | 88 => ⟨S_, .i32⟩
  | 89 => ⟨S32x50x3, .i32⟩
  | 90 => ⟨S32x50x3, .i32⟩
  | 91 => ⟨S32x50x3, .i32⟩
  | 92 => ⟨S_, .i32⟩
  | 93 => ⟨S32x50, .i32⟩
  | 94 => ⟨S32, .i32⟩
  | 95 => ⟨S32x1, .i32⟩
  | 96 => ⟨S_, .i32⟩
  | 97 => ⟨S32x1, .i32⟩
  | 98 => ⟨S32x1, .i32⟩
  | 99 => ⟨S32x50, .i32⟩
  | 100 => ⟨S32x50, .i32⟩
  | 101 => ⟨S_, .i32⟩
  | 102 => ⟨S32x50, .i32⟩
  | 103 => ⟨S32x50, .i32⟩
  | 104 => ⟨S32x50, .i32⟩
  | 105 => ⟨S_, .i32⟩
  | 106 => ⟨S32x50, .i32⟩
  | 107 => ⟨S32x50, .i32⟩
  | 108 => ⟨S32x50, .i32⟩
  | 109 => ⟨S_, .i32⟩
  | 110 => ⟨S_, .i32⟩
  | 111 => ⟨S32x50, .i32⟩
  | 112 => ⟨S32x50, .i32⟩
  | 113 => ⟨S_, .f32⟩
  | 114 => ⟨S21601, .f32⟩
  | 115 => ⟨S1600, .i32⟩
  | 116 => ⟨S_, .i32⟩
  | 117 => ⟨S1600, .i32⟩
  | 118 => ⟨S1600, .i1⟩
  | 119 => ⟨S_, .i32⟩
  | 120 => ⟨S1600, .i32⟩
  | 121 => ⟨S1600, .i32⟩
  | 122 => ⟨S1600, .i32⟩
  | 123 => ⟨S1600x1, .i32⟩
  | 124 => ⟨S_, .f32⟩
  | 125 => ⟨S1600, .f32⟩
  | 126 => ⟨S21601, .f32⟩
  | 127 => ⟨S21600, .f32⟩
  | _ => ⟨S32x60x60x255, .f32⟩

abbrev hbmTy0_7 (i : Nat) : BufTy := match i % 128 with
  | 0 => ⟨S32x15x15x3x1, .f32⟩
  | 1 => ⟨S_, .i32⟩
  | 2 => ⟨S32x50, .i32⟩
  | 3 => ⟨S32x50, .i1⟩
  | 4 => ⟨S_, .i32⟩
  | 5 => ⟨S32x50, .i32⟩
  | 6 => ⟨S32x50, .i32⟩
  | 7 => ⟨S32x50, .i32⟩
  | 8 => ⟨S32x50x1, .i32⟩
  | 9 => ⟨S32x50x2, .f32⟩
  | 10 => ⟨S32x50x1, .i1⟩
  | 11 => ⟨S_, .f32⟩
  | 12 => ⟨S_, .f32⟩
  | 13 => ⟨S32x50x2, .i1⟩
  | 14 => ⟨S32x50x2, .f32⟩
  | 15 => ⟨S32x50x2, .f32⟩
  | 16 => ⟨S32x50x1, .f32⟩
  | 17 => ⟨S32x50, .f32⟩
  | 18 => ⟨S32x50, .f32⟩
  | 19 => ⟨S32x50, .f32⟩
  | 20 => ⟨S32x50x1, .f32⟩
  | 21 => ⟨S32x50x1, .f32⟩
  | 22 => ⟨S32x50, .f32⟩
  | 23 => ⟨S32x50, .f32⟩
  | 24 => ⟨S32x50, .f32⟩
  | 25 => ⟨S32x50x1, .f32⟩
  | 26 => ⟨S32x50x2, .f32⟩
  | 27 => ⟨S32x50x2, .f32⟩
  | 28 => ⟨S32x50x1, .f32⟩
  | 29 => ⟨S32x50x5, .f32⟩
  | 30 => ⟨S_, .f32⟩
  | 31 => ⟨S21601x5, .f32⟩
  | 32 => ⟨S1600, .i32⟩
  | 33 => ⟨S1600x5, .f32⟩
  | 34 => ⟨S_, .i32⟩
  | 35 => ⟨S1600, .i32⟩
  | 36 => ⟨S1600, .i1⟩
  | 37 => ⟨S_, .i32⟩
  | 38 => ⟨S1600, .i32⟩
  | 39 => ⟨S1600, .i32⟩
  | 40 => ⟨S1600, .i32⟩
  | 41 => ⟨S1600x1, .i32⟩
  | 42 => ⟨S21601x5, .f32⟩
  | 43 => ⟨S21600x5, .f32⟩
  | 44 => ⟨S32x15x15x3x5, .f32⟩
  | 45 => ⟨S32x15x15x3x85, .f32⟩
  | 46 => ⟨S15, .f32⟩
  | 47 => ⟨S15, .f32⟩
  | 48 => ⟨S15x15, .f32⟩
  | 49 => ⟨S15x15, .f32⟩
  | 50 => ⟨S15x15x1, .f32⟩
  | 51 => ⟨S15x15x1, .f32⟩
  | 52 => ⟨S15x15x2, .f32⟩
  | 53 => ⟨S1x15x15x1x2, .f32⟩
  | 54 => ⟨S32x15x15x3x2, .f32⟩
  | 55 => ⟨S32x15x15x3x2, .f32⟩
  | 56 => ⟨S32x15x15x3x2, .f32⟩
  | 57 => ⟨S_, .f32⟩
  | 58 => ⟨S32x15x15x3x2, .f32⟩
  | 59 => ⟨S32x15x15x3x2, .f32⟩
  | 60 => ⟨S_, .f32⟩
  | 61 => ⟨S32x15x15x3x2, .f32⟩
  | 62 => ⟨S32x15x15x3x2, .f32⟩
  | 63 => ⟨S32x15x15x3x2, .f32⟩
  | 64 => ⟨S32x15x15x3x2, .f32⟩
  | 65 => ⟨S32x15x15x3x2, .f32⟩
  | 66 => ⟨S32x15x15x3x2, .f32⟩
  | 67 => ⟨S1x1x1x1x2, .f32⟩
  | 68 => ⟨S32x15x15x3x2, .f32⟩
  | 69 => ⟨S32x15x15x3x2, .f32⟩
  | 70 => ⟨S1x1x1x3x2, .f32⟩
  | 71 => ⟨S32x15x15x3x2, .f32⟩
  | 72 => ⟨S32x15x15x3x2, .f32⟩
  | 73 => ⟨S1x1x1x1x2, .f32⟩
  | 74 => ⟨S32x15x15x3x2, .f32⟩
  | 75 => ⟨S32x15x15x3x2, .f32⟩
  | 76 => ⟨S_, .f32⟩
  | 77 => ⟨S32x15x15x3x2, .f32⟩
  | 78 => ⟨S32x15x15x3x2, .f32⟩
  | 79 => ⟨S32x15x15x3x2, .f32⟩
  | 80 => ⟨S32x15x15x3x1x2, .f32⟩
  | 81 => ⟨S_, .f32⟩
  | 82 => ⟨S32x15x15x3x2, .f32⟩
  | 83 => ⟨S32x15x15x3x2, .f32⟩
  | 84 => ⟨S32x15x15x3x2, .f32⟩
  | 85 => ⟨S32x15x15x3x1x2, .f32⟩
  | 86 => ⟨S32x50x2, .f32⟩
  | 87 => ⟨S32x50x2, .f32⟩
  | 88 => ⟨S_, .f32⟩
  | 89 => ⟨S32x50x2, .f32⟩
  | 90 => ⟨S32x50x2, .f32⟩
  | 91 => ⟨S32x50x2, .f32⟩
  | 92 => ⟨S32x1x1x1x50x2, .f32⟩
  | 93 => ⟨S32x50x2, .f32⟩
  | 94 => ⟨S32x50x2, .f32⟩
  | 95 => ⟨S_, .f32⟩
  | 96 => ⟨S32x50x2, .f32⟩
  | 97 => ⟨S32x50x2, .f32⟩
  | 98 => ⟨S32x50x2, .f32⟩
  | 99 => ⟨S32x1x1x1x50x2, .f32⟩
  | 100 => ⟨S32x15x15x3x50x2, .f32⟩
  | 101 => ⟨S32x15x15x3x50x2, .f32⟩
  | 102 => ⟨S32x15x15x3x50x2, .f32⟩
  | 103 => ⟨S32x15x15x3x50x2, .f32⟩
  | 104 => ⟨S32x15x15x3x50x2, .f32⟩
  | 105 => ⟨S32x15x15x3x50x2, .f32⟩
  | 106 => ⟨S32x15x15x3x50x2, .f32⟩
  | 107 => ⟨S_, .f32⟩
  | 108 => ⟨S_, .f32⟩
  | 109 => ⟨S32x15x15x3x50x2, .f32⟩
  | 110 => ⟨S32x15x15x3x50x2, .f32⟩
  | 111 => ⟨S32x15x15x3x50x1, .f32⟩
  | 112 => ⟨S32x15x15x3x50, .f32⟩
  | 113 => ⟨S32x15x15x3x50x1, .f32⟩
  | 114 => ⟨S32x15x15x3x50, .f32⟩
  | 115 => ⟨S32x15x15x3x50, .f32⟩
  | 116 => ⟨S32x15x15x3x1, .f32⟩
  | 117 => ⟨S32x15x15x3, .f32⟩
  | 118 => ⟨S32x15x15x3x1, .f32⟩
  | 119 => ⟨S32x15x15x3, .f32⟩
  | 120 => ⟨S32x15x15x3, .f32⟩
  | 121 => ⟨S32x15x15x3x1, .f32⟩
  | 122 => ⟨S32x50x2, .f32⟩
  | 123 => ⟨S32x50x1, .f32⟩
  | 124 => ⟨S32x50, .f32⟩
  | 125 => ⟨S32x50x1, .f32⟩
  | 126 => ⟨S32x50, .f32⟩
  | 127 => ⟨S32x50, .f32⟩
  | _ => ⟨S32x60x60x255, .f32⟩

abbrev hbmTy0_8 (i : Nat) : BufTy := match i % 128 with
  | 0 => ⟨S32x1x1x1x50, .f32⟩
  | 1 => ⟨S32x15x15x3x50, .f32⟩
  | 2 => ⟨S32x15x15x3x50, .f32⟩
  | 3 => ⟨S32x15x15x3x50, .f32⟩
  | 4 => ⟨S32x15x15x3x50, .f32⟩
  | 5 => ⟨S_, .f32⟩
  | 6 => ⟨S32x15x15x3x50, .f32⟩
  | 7 => ⟨S32x15x15x3x50, .f32⟩
  | 8 => ⟨S32x15x15x3x50, .f32⟩
  | 9 => ⟨S_, .f32⟩
  | 10 => ⟨S32x15x15x3, .f32⟩
  | 11 => ⟨S32x15x15x3x1, .f32⟩
  | 12 => ⟨S_, .f32⟩
  | 13 => ⟨S32x15x15x3x1, .f32⟩
  | 14 => ⟨S32x15x15x3x1, .i1⟩
  | 15 => ⟨S32x15x15x3x1, .f32⟩
  | 16 => ⟨S32x15x15x3x1, .f32⟩
  | 17 => ⟨S32x15x15x3x1, .f32⟩
  | 18 => ⟨S32x15x15x3x1, .f32⟩
  | 19 => ⟨S_, .f32⟩
  | 20 => ⟨S32x15x15x3x1, .f32⟩
  | 21 => ⟨S32x15x15x3x1, .f32⟩
  | 22 => ⟨S_, .f32⟩
  | 23 => ⟨S32x15x15x3x1, .f32⟩
  | 24 => ⟨S32x15x15x3x1, .f32⟩
  | 25 => ⟨S_, .f32⟩
  | 26 => ⟨S32x15x15x3x1, .f32⟩
  | 27 => ⟨S32x15x15x3x1, .f32⟩
  | 28 => ⟨S_, .f32⟩
  | 29 => ⟨S32x15x15x3x1, .f32⟩
  | 30 => ⟨S32x15x15x3x1, .f32⟩
  | 31 => ⟨S_, .f32⟩
  | 32 => ⟨S32x15x15x3x1, .f32⟩
  | 33 => ⟨S32x15x15x3x1, .f32⟩
  | 34 => ⟨S32x15x15x3x1, .f32⟩
  | 35 => ⟨S32x15x15x3x1, .f32⟩
  | 36 => ⟨S32x15x15x3x1, .f32⟩
  | 37 => ⟨S_, .f32⟩
  | 38 => ⟨S32x15x15x3x1, .f32⟩
  | 39 => ⟨S32x15x15x3x1, .f32⟩
  | 40 => ⟨S_, .f32⟩
  | 41 => ⟨S32x15x15x3x1, .f32⟩
  | 42 => ⟨S32x15x15x3x1, .f32⟩
  | 43 => ⟨S32x15x15x3x1, .f32⟩
  | 44 => ⟨S32x15x15x3x1, .f32⟩
  | 45 => ⟨S32x15x15x3x80, .f32⟩
  | 46 => ⟨S_, .f32⟩
  | 47 => ⟨S32x15x15x3, .f32⟩
  | 48 => ⟨S_, .f32⟩
  | 49 => ⟨S32x15x15x3, .f32⟩
  | 50 => ⟨S32x15x15x3, .f32⟩
  | 51 => ⟨S32x15x15x3x1, .f32⟩
  | 52 => ⟨S32x15x15x3x80, .f32⟩
  | 53 => ⟨S32x15x15x3x80, .f32⟩
  | 54 => ⟨S32x15x15x3x80, .f32⟩
  | 55 => ⟨S_, .f32⟩
  | 56 => ⟨S32x15x15x3, .f32⟩
  | 57 => ⟨S32x15x15x3x1, .f32⟩
  | 58 => ⟨S32x15x15x3x80, .f32⟩
  | 59 => ⟨S32x15x15x3x80, .f32⟩
  | 60 => ⟨S32x15x15x3x1, .f32⟩
  | 61 => ⟨S32x15x15x3, .f32⟩
  | 62 => ⟨S32x15x15x3, .i32⟩
  | 63 => ⟨S32x15x15x3x1, .i32⟩
  | 64 => ⟨S1x1x1x1x80, .i32⟩
  | 65 => ⟨S32x15x15x3x80, .i32⟩
  | 66 => ⟨S32x15x15x3x80, .i32⟩
  | 67 => ⟨S32x15x15x3x80, .i1⟩
  | 68 => ⟨S32x15x15x3x80, .f32⟩
  | 69 => ⟨S_, .f32⟩
  | 70 => ⟨S32x15x15x3x1, .f32⟩
  | 71 => ⟨S32x15x15x3x1, .f32⟩
  | 72 => ⟨S32x15x15x3x80, .f32⟩
  | 73 => ⟨S32x15x15x3x80, .f32⟩
  | 74 => ⟨S32x15x15x3x80, .f32⟩
  | 75 => ⟨S32x15x15x3x80, .f32⟩
  | 76 => ⟨S32x15x15x3x2, .f32⟩
  | 77 => ⟨S32x15x15x3x4, .f32⟩
  | 78 => ⟨S_, .f32⟩
  | 79 => ⟨S32x15x15x3x1, .f32⟩
  | 80 => ⟨S32x15x15x3x1, .f32⟩
  | 81 => ⟨S32x15x15x3x4, .f32⟩
  | 82 => ⟨S32x15x15x3x4, .f32⟩
  | 83 => ⟨S32x15x15x3x4, .f32⟩
  | 84 => ⟨S32x15x15x3x4, .f32⟩
  | 85 => ⟨S32x15x15x3x4, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S32x15x15x3x2, .f32⟩
  | 102 => ⟨S32x15x15x3x2, .f32⟩
  | 103 => ⟨S32x15x15x3x2, .f32⟩
  | 104 => ⟨S_, .f32⟩
  | 105 => ⟨S32x15x15x3x2, .f32⟩
  | 106 => ⟨S32x15x15x3x2, .f32⟩
  | 107 => ⟨S_, .f32⟩
  | 108 => ⟨S32x15x15x3x2, .f32⟩
  | 109 => ⟨S32x15x15x3x2, .f32⟩
  | 110 => ⟨S32x15x15x3x2, .f32⟩
  | 111 => ⟨S_, .f32⟩
  | 112 => ⟨S32x15x15x3x2, .f32⟩
  | 113 => ⟨S32x15x15x3x2, .f32⟩
  | 114 => ⟨S32x15x15x3x4, .f32⟩
  | 115 => ⟨S32x675x4, .f32⟩
  | 116 => ⟨S32x15x15x3x1, .f32⟩
  | 117 => ⟨S32x15x15x3x1, .f32⟩
  | 118 => ⟨S32x15x15x3x1, .f32⟩
  | 119 => ⟨S_, .f32⟩
  | 120 => ⟨S32x15x15x3x1, .f32⟩
  | 121 => ⟨S32x15x15x3x1, .f32⟩
  | 122 => ⟨S_, .f32⟩
  | 123 => ⟨S32x15x15x3x1, .f32⟩
  | 124 => ⟨S32x15x15x3x1, .f32⟩
  | 125 => ⟨S32x15x15x3x80, .f32⟩
  | 126 => ⟨S_, .f32⟩
  | 127 => ⟨S32x15x15x3, .f32⟩
  | _ => ⟨S32x60x60x255, .f32⟩

abbrev hbmTy0_9 (i : Nat) : BufTy := match i % 128 with
  | 0 => ⟨S_, .f32⟩
  | 1 => ⟨S32x15x15x3, .f32⟩
  | 2 => ⟨S32x15x15x3, .f32⟩
  | 3 => ⟨S32x15x15x3x1, .f32⟩
  | 4 => ⟨S32x15x15x3x80, .f32⟩
  | 5 => ⟨S32x15x15x3x80, .f32⟩
  | 6 => ⟨S32x15x15x3x80, .f32⟩
  | 7 => ⟨S_, .f32⟩
  | 8 => ⟨S32x15x15x3, .f32⟩
  | 9 => ⟨S32x15x15x3x1, .f32⟩
  | 10 => ⟨S32x15x15x3x80, .f32⟩
  | 11 => ⟨S32x15x15x3x80, .f32⟩
  | 12 => ⟨S32x15x15x3x80, .f32⟩
  | 13 => ⟨S32x15x15x3x80, .f32⟩
  | 14 => ⟨S32x675x80, .f32⟩
  | 15 => ⟨S32x14175x4, .f32⟩
  | 16 => ⟨S32x14175x80, .f32⟩
  | _ => ⟨S32x60x60x255, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S32x60x60x255, .f32⟩

abbrev bufTy : (tb : Table) → Fin (tcTables nBuf tb) → BufTy
  | .hbm, ⟨i, _⟩ => hbmTy i
  | _, _ => ⟨S32x60x60x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_cst_4 : Ref sig .tc := ⟨.hbm, 10, rfl⟩
abbrev main_cst_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_6 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_c_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_8 : Ref sig .tc := ⟨.hbm, 38, rfl⟩
abbrev main_c_9 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_17 : Ref sig .tc := ⟨.hbm, 106, rfl⟩
abbrev main_call3_v0 : Ref sig .tc := ⟨.hbm, 107, rfl⟩
abbrev main_call3_v1 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_v71 : Ref sig .tc := ⟨.hbm, 112, rfl⟩
abbrev main_c_19 : Ref sig .tc := ⟨.hbm, 113, rfl⟩
abbrev main_v72 : Ref sig .tc := ⟨.hbm, 114, rfl⟩
abbrev main_v73 : Ref sig .tc := ⟨.hbm, 115, rfl⟩
abbrev main_c_20 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_21 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_22 : Ref sig .tc := ⟨.hbm, 126, rfl⟩
abbrev main_v82 : Ref sig .tc := ⟨.hbm, 127, rfl⟩
abbrev main_v83 : Ref sig .tc := ⟨.hbm, 128, rfl⟩
abbrev main_c_23 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_24 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_25 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_26 : Ref sig .tc := ⟨.hbm, 159, rfl⟩
abbrev main_v108 : Ref sig .tc := ⟨.hbm, 160, rfl⟩
abbrev main_v109 : Ref sig .tc := ⟨.hbm, 161, rfl⟩
abbrev main_c_27 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_28 : Ref sig .tc := ⟨.hbm, 182, rfl⟩
abbrev main_v129 : Ref sig .tc := ⟨.hbm, 183, rfl⟩
abbrev main_v130 : Ref sig .tc := ⟨.hbm, 184, rfl⟩
abbrev main_cst_29 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_30 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_31 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_32 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_33 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_34 : Ref sig .tc := ⟨.hbm, 232, rfl⟩
abbrev main_call5_v0 : Ref sig .tc := ⟨.hbm, 233, rfl⟩
abbrev main_call5_v1 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_35 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_36 : Ref sig .tc := ⟨.hbm, 262, rfl⟩
abbrev main_v199 : Ref sig .tc := ⟨.hbm, 263, rfl⟩
abbrev main_v200 : Ref sig .tc := ⟨.hbm, 264, rfl⟩
abbrev main_cst_37 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_cst_38 : Ref sig .tc := ⟨.hbm, 272, rfl⟩
abbrev main_v207 : Ref sig .tc := ⟨.hbm, 273, rfl⟩
abbrev main_v208 : Ref sig .tc := ⟨.hbm, 274, rfl⟩
abbrev main_cst_39 : Ref sig .tc := ⟨.hbm, 275, rfl⟩
abbrev main_v209 : Ref sig .tc := ⟨.hbm, 276, rfl⟩
abbrev main_v210 : Ref sig .tc := ⟨.hbm, 277, rfl⟩
abbrev main_cst_40 : Ref sig .tc := ⟨.hbm, 278, rfl⟩
abbrev main_v211 : Ref sig .tc := ⟨.hbm, 279, rfl⟩
abbrev main_v212 : Ref sig .tc := ⟨.hbm, 280, rfl⟩
abbrev main_cst_41 : Ref sig .tc := ⟨.hbm, 281, rfl⟩
abbrev main_v213 : Ref sig .tc := ⟨.hbm, 282, rfl⟩
abbrev main_v214 : Ref sig .tc := ⟨.hbm, 283, rfl⟩
abbrev main_cst_42 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_cst_43 : Ref sig .tc := ⟨.hbm, 290, rfl⟩
abbrev main_v220 : Ref sig .tc := ⟨.hbm, 291, rfl⟩
abbrev main_v221 : Ref sig .tc := ⟨.hbm, 292, rfl⟩
abbrev main_cst_44 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_cst_45 : Ref sig .tc := ⟨.hbm, 299, rfl⟩
abbrev main_v227 : Ref sig .tc := ⟨.hbm, 300, rfl⟩
abbrev main_cst_46 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_47 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_call6_v0 : Ref sig .tc := ⟨.hbm, 316, rfl⟩
abbrev main_call6_v1 : Ref sig .tc := ⟨.hbm, 317, rfl⟩
abbrev main_call6_v2 : Ref sig .tc := ⟨.hbm, 318, rfl⟩
abbrev main_call6_v3 : Ref sig .tc := ⟨.hbm, 319, rfl⟩
abbrev main_call6_v4 : Ref sig .tc := ⟨.hbm, 320, rfl⟩
abbrev main_v241 : Ref sig .tc := ⟨.hbm, 321, rfl⟩
abbrev main_cst_48 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_cst_49 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_cst_50 : Ref sig .tc := ⟨.hbm, 339, rfl⟩
abbrev main_v257 : Ref sig .tc := ⟨.hbm, 340, rfl⟩
abbrev main_cst_51 : Ref sig .tc := ⟨.hbm, 341, rfl⟩
abbrev main_v258 : Ref sig .tc := ⟨.hbm, 342, rfl⟩
abbrev main_v259 : Ref sig .tc := ⟨.hbm, 343, rfl⟩
abbrev main_cst_52 : Ref sig .tc := ⟨.hbm, 344, rfl⟩
abbrev main_v260 : Ref sig .tc := ⟨.hbm, 345, rfl⟩
abbrev main_v261 : Ref sig .tc := ⟨.hbm, 346, rfl⟩
abbrev main_cst_53 : Ref sig .tc := ⟨.hbm, 347, rfl⟩
abbrev main_v262 : Ref sig .tc := ⟨.hbm, 348, rfl⟩
abbrev main_v263 : Ref sig .tc := ⟨.hbm, 349, rfl⟩
abbrev main_cst_54 : Ref sig .tc := ⟨.hbm, 350, rfl⟩
abbrev main_v264 : Ref sig .tc := ⟨.hbm, 351, rfl⟩
abbrev main_cst_55 : Ref sig .tc := ⟨.hbm, 352, rfl⟩
abbrev main_v265 : Ref sig .tc := ⟨.hbm, 353, rfl⟩
abbrev main_cst_56 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_cst_57 : Ref sig .tc := ⟨.hbm, 358, rfl⟩
abbrev main_v269 : Ref sig .tc := ⟨.hbm, 359, rfl⟩
abbrev main_v270 : Ref sig .tc := ⟨.hbm, 360, rfl⟩
abbrev main_cst_58 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_cst_59 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_cst_60 : Ref sig .tc := ⟨.hbm, 373, rfl⟩
abbrev main_v281 : Ref sig .tc := ⟨.hbm, 374, rfl⟩
abbrev main_v282 : Ref sig .tc := ⟨.hbm, 375, rfl⟩
abbrev main_cst_61 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_cst_62 : Ref sig .tc := ⟨.hbm, 380, rfl⟩
abbrev main_v286 : Ref sig .tc := ⟨.hbm, 381, rfl⟩
abbrev main_cst_63 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_cst_64 : Ref sig .tc := ⟨.hbm, 389, rfl⟩
abbrev main_v293 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_cst_65 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_cst_66 : Ref sig .tc := ⟨.hbm, 406, rfl⟩
abbrev main_v308 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_v312 : Ref sig .tc := ⟨.hbm, 411, rfl⟩
abbrev main_c_67 : Ref sig .tc := ⟨.hbm, 412, rfl⟩
abbrev main_c_68 : Ref sig .tc := ⟨.hbm, 413, rfl⟩
abbrev main_call7_v0 : Ref sig .tc := ⟨.hbm, 414, rfl⟩
abbrev main_call7_v1 : Ref sig .tc := ⟨.hbm, 415, rfl⟩
abbrev main_call7_v2 : Ref sig .tc := ⟨.hbm, 416, rfl⟩
abbrev main_call7_v3 : Ref sig .tc := ⟨.hbm, 417, rfl⟩
abbrev main_call7_v4 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_c_69 : Ref sig .tc := ⟨.hbm, 424, rfl⟩
abbrev main_c_70 : Ref sig .tc := ⟨.hbm, 425, rfl⟩
abbrev main_call8_v0 : Ref sig .tc := ⟨.hbm, 426, rfl⟩
abbrev main_call8_v1 : Ref sig .tc := ⟨.hbm, 427, rfl⟩
abbrev main_call8_v2 : Ref sig .tc := ⟨.hbm, 428, rfl⟩
abbrev main_call8_v3 : Ref sig .tc := ⟨.hbm, 429, rfl⟩
abbrev main_call8_v4 : Ref sig .tc := ⟨.hbm, 430, rfl⟩
abbrev main_v318 : Ref sig .tc := ⟨.hbm, 431, rfl⟩
abbrev main_v319 : Ref sig .tc := ⟨.hbm, 432, rfl⟩
abbrev main_v320 : Ref sig .tc := ⟨.hbm, 433, rfl⟩
abbrev main_v321 : Ref sig .tc := ⟨.hbm, 434, rfl⟩
abbrev main_v322 : Ref sig .tc := ⟨.hbm, 435, rfl⟩
abbrev main_v323 : Ref sig .tc := ⟨.hbm, 436, rfl⟩
abbrev main_v324 : Ref sig .tc := ⟨.hbm, 437, rfl⟩
abbrev main_v325 : Ref sig .tc := ⟨.hbm, 438, rfl⟩
abbrev main_v326 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_v331 : Ref sig .tc := ⟨.hbm, 444, rfl⟩
abbrev main_v332 : Ref sig .tc := ⟨.hbm, 445, rfl⟩
abbrev main_v333 : Ref sig .tc := ⟨.hbm, 446, rfl⟩
abbrev main_v334 : Ref sig .tc := ⟨.hbm, 447, rfl⟩
abbrev main_v335 : Ref sig .tc := ⟨.hbm, 448, rfl⟩
abbrev main_v336 : Ref sig .tc := ⟨.hbm, 449, rfl⟩
abbrev main_v337 : Ref sig .tc := ⟨.hbm, 450, rfl⟩
abbrev main_v338 : Ref sig .tc := ⟨.hbm, 451, rfl⟩
abbrev main_v339 : Ref sig .tc := ⟨.hbm, 452, rfl⟩
abbrev main_v340 : Ref sig .tc := ⟨.hbm, 453, rfl⟩
abbrev main_v341 : Ref sig .tc := ⟨.hbm, 454, rfl⟩
abbrev main_v342 : Ref sig .tc := ⟨.hbm, 455, rfl⟩
abbrev main_v343 : Ref sig .tc := ⟨.hbm, 456, rfl⟩
abbrev main_v344 : Ref sig .tc := ⟨.hbm, 457, rfl⟩
abbrev main_v345 : Ref sig .tc := ⟨.hbm, 458, rfl⟩
abbrev main_v346 : Ref sig .tc := ⟨.hbm, 459, rfl⟩
abbrev main_cst_71 : Ref sig .tc := ⟨.hbm, 460, rfl⟩
abbrev main_v347 : Ref sig .tc := ⟨.hbm, 461, rfl⟩
abbrev main_v348 : Ref sig .tc := ⟨.hbm, 462, rfl⟩
abbrev main_v349 : Ref sig .tc := ⟨.hbm, 463, rfl⟩
abbrev main_cst_72 : Ref sig .tc := ⟨.hbm, 464, rfl⟩
abbrev main_v350 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_c_73 : Ref sig .tc := ⟨.hbm, 470, rfl⟩
abbrev main_call9_v0 : Ref sig .tc := ⟨.hbm, 471, rfl⟩
abbrev main_call9_v1 : Ref sig .tc := ⟨.hbm, 472, rfl⟩
abbrev main_call9_v2 : Ref sig .tc := ⟨.hbm, 473, rfl⟩
abbrev main_v355 : Ref sig .tc := ⟨.hbm, 474, rfl⟩
abbrev main_c_74 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_c_75 : Ref sig .tc := ⟨.hbm, 479, rfl⟩
abbrev main_v359 : Ref sig .tc := ⟨.hbm, 480, rfl⟩
abbrev main_v360 : Ref sig .tc := ⟨.hbm, 481, rfl⟩
abbrev main_v361 : Ref sig .tc := ⟨.hbm, 482, rfl⟩
abbrev main_v362 : Ref sig .tc := ⟨.hbm, 483, rfl⟩
abbrev main_c_76 : Ref sig .tc := ⟨.hbm, 484, rfl⟩
abbrev main_v363 : Ref sig .tc := ⟨.hbm, 485, rfl⟩
abbrev main_v364 : Ref sig .tc := ⟨.hbm, 486, rfl⟩
abbrev main_v365 : Ref sig .tc := ⟨.hbm, 487, rfl⟩
abbrev main_c_77 : Ref sig .tc := ⟨.hbm, 488, rfl⟩
abbrev main_v366 : Ref sig .tc := ⟨.hbm, 489, rfl⟩
abbrev main_v367 : Ref sig .tc := ⟨.hbm, 490, rfl⟩
abbrev main_v368 : Ref sig .tc := ⟨.hbm, 491, rfl⟩
abbrev main_c_78 : Ref sig .tc := ⟨.hbm, 492, rfl⟩
abbrev main_call10_v0 : Ref sig .tc := ⟨.hbm, 493, rfl⟩
abbrev main_call10_v1 : Ref sig .tc := ⟨.hbm, 494, rfl⟩
abbrev main_v369 : Ref sig .tc := ⟨.hbm, 495, rfl⟩
abbrev main_cst_79 : Ref sig .tc := ⟨.hbm, 496, rfl⟩
abbrev main_v370 : Ref sig .tc := ⟨.hbm, 497, rfl⟩
abbrev main_v371 : Ref sig .tc := ⟨.hbm, 498, rfl⟩
abbrev main_c_80 : Ref sig .tc := ⟨.hbm, 499, rfl⟩
abbrev main_v372 : Ref sig .tc := ⟨.hbm, 500, rfl⟩
abbrev main_v373 : Ref sig .tc := ⟨.hbm, 501, rfl⟩
abbrev main_c_81 : Ref sig .tc := ⟨.hbm, 502, rfl⟩
abbrev main_v374 : Ref sig .tc := ⟨.hbm, 503, rfl⟩
abbrev main_v375 : Ref sig .tc := ⟨.hbm, 504, rfl⟩
abbrev main_v376 : Ref sig .tc := ⟨.hbm, 505, rfl⟩
abbrev main_v377 : Ref sig .tc := ⟨.hbm, 506, rfl⟩
abbrev main_cst_82 : Ref sig .tc := ⟨.hbm, 507, rfl⟩
abbrev main_v378 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_c_83 : Ref sig .tc := ⟨.hbm, 512, rfl⟩
abbrev main_v382 : Ref sig .tc := ⟨.hbm, 513, rfl⟩
abbrev main_v383 : Ref sig .tc := ⟨.hbm, 514, rfl⟩
abbrev main_c_84 : Ref sig .tc := ⟨.hbm, 515, rfl⟩
abbrev main_v384 : Ref sig .tc := ⟨.hbm, 516, rfl⟩
abbrev main_v385 : Ref sig .tc := ⟨.hbm, 517, rfl⟩
abbrev main_v386 : Ref sig .tc := ⟨.hbm, 518, rfl⟩
abbrev main_v387 : Ref sig .tc := ⟨.hbm, 519, rfl⟩
abbrev main_v388 : Ref sig .tc := ⟨.hbm, 520, rfl⟩
abbrev main_v389 : Ref sig .tc := ⟨.hbm, 521, rfl⟩
abbrev main_cst_85 : Ref sig .tc := ⟨.hbm, 522, rfl⟩
abbrev main_call11_v0 : Ref sig .tc := ⟨.hbm, 523, rfl⟩
abbrev main_call11_v1 : Ref sig .tc := ⟨.hbm, 524, rfl⟩
abbrev main_call11_v2 : Ref sig .tc := ⟨.hbm, 525, rfl⟩
abbrev main_v390 : Ref sig .tc := ⟨.hbm, 526, rfl⟩
abbrev main_v391 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_v395 : Ref sig .tc := ⟨.hbm, 531, rfl⟩
abbrev main_v396 : Ref sig .tc := ⟨.hbm, 532, rfl⟩
abbrev main_v397 : Ref sig .tc := ⟨.hbm, 533, rfl⟩
abbrev main_v398 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_v403 : Ref sig .tc := ⟨.hbm, 539, rfl⟩
abbrev main_v404 : Ref sig .tc := ⟨.hbm, 540, rfl⟩
abbrev main_cst_86 : Ref sig .tc := ⟨.hbm, 541, rfl⟩
abbrev main_v405 : Ref sig .tc := ⟨.hbm, 542, rfl⟩
abbrev main_v406 : Ref sig .tc := ⟨.hbm, 543, rfl⟩
abbrev main_v407 : Ref sig .tc := ⟨.hbm, 544, rfl⟩
abbrev main_c_87 : Ref sig .tc := ⟨.hbm, 545, rfl⟩
abbrev main_v408 : Ref sig .tc := ⟨.hbm, 546, rfl⟩
abbrev main_v409 : Ref sig .tc := ⟨.hbm, 547, rfl⟩
abbrev main_c_88 : Ref sig .tc := ⟨.hbm, 548, rfl⟩
abbrev main_v410 : Ref sig .tc := ⟨.hbm, 549, rfl⟩
abbrev main_v411 : Ref sig .tc := ⟨.hbm, 550, rfl⟩
abbrev main_v412 : Ref sig .tc := ⟨.hbm, 551, rfl⟩
abbrev main_v413 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_v417 : Ref sig .tc := ⟨.hbm, 556, rfl⟩
abbrev main_v418 : Ref sig .tc := ⟨.hbm, 557, rfl⟩
abbrev main_v419 : Ref sig .tc := ⟨.hbm, 558, rfl⟩
abbrev main_v420 : Ref sig .tc := ⟨.hbm, 559, rfl⟩
abbrev main_v421 : Ref sig .tc := ⟨.hbm, 560, rfl⟩
abbrev main_v422 : Ref sig .tc := ⟨.hbm, 561, rfl⟩
abbrev main_v423 : Ref sig .tc := ⟨.hbm, 562, rfl⟩
abbrev main_v424 : Ref sig .tc := ⟨.hbm, 563, rfl⟩
abbrev main_v425 : Ref sig .tc := ⟨.hbm, 564, rfl⟩
abbrev main_v426 : Ref sig .tc := ⟨.hbm, 565, rfl⟩
abbrev main_v427 : Ref sig .tc := ⟨.hbm, 566, rfl⟩
abbrev main_v428 : Ref sig .tc := ⟨.hbm, 567, rfl⟩
abbrev main_cst_89 : Ref sig .tc := ⟨.hbm, 568, rfl⟩
abbrev main_v429 : Ref sig .tc := ⟨.hbm, 569, rfl⟩
abbrev main_v430 : Ref sig .tc := ⟨.hbm, 570, rfl⟩
abbrev main_cst_90 : Ref sig .tc := ⟨.hbm, 571, rfl⟩
abbrev main_v431 : Ref sig .tc := ⟨.hbm, 572, rfl⟩
abbrev main_v432 : Ref sig .tc := ⟨.hbm, 573, rfl⟩
abbrev main_v433 : Ref sig .tc := ⟨.hbm, 574, rfl⟩
abbrev main_v434 : Ref sig .tc := ⟨.hbm, 575, rfl⟩
abbrev main_v435 : Ref sig .tc := ⟨.hbm, 576, rfl⟩
abbrev main_v436 : Ref sig .tc := ⟨.hbm, 577, rfl⟩
abbrev main_v437 : Ref sig .tc := ⟨.hbm, 578, rfl⟩
abbrev main_v438 : Ref sig .tc := ⟨.hbm, 579, rfl⟩
abbrev main_v439 : Ref sig .tc := ⟨.hbm, 580, rfl⟩
abbrev main_v440 : Ref sig .tc := ⟨.hbm, 581, rfl⟩
abbrev main_v441 : Ref sig .tc := ⟨.hbm, 582, rfl⟩
abbrev main_v442 : Ref sig .tc := ⟨.hbm, 583, rfl⟩
abbrev main_v443 : Ref sig .tc := ⟨.hbm, 584, rfl⟩
abbrev main_v444 : Ref sig .tc := ⟨.hbm, 585, rfl⟩
abbrev main_v445 : Ref sig .tc := ⟨.hbm, 586, rfl⟩
abbrev main_cst_91 : Ref sig .tc := ⟨.hbm, 587, rfl⟩
abbrev main_v446 : Ref sig .tc := ⟨.hbm, 588, rfl⟩
abbrev main_v447 : Ref sig .tc := ⟨.hbm, 589, rfl⟩
abbrev main_v448 : Ref sig .tc := ⟨.hbm, 590, rfl⟩
abbrev main_v449 : Ref sig .tc := ⟨.hbm, 591, rfl⟩
abbrev main_cst_92 : Ref sig .tc := ⟨.hbm, 592, rfl⟩
abbrev main_v450 : Ref sig .tc := ⟨.hbm, 593, rfl⟩
abbrev main_v451 : Ref sig .tc := ⟨.hbm, 594, rfl⟩
abbrev main_v452 : Ref sig .tc := ⟨.hbm, 595, rfl⟩
abbrev main_v453 : Ref sig .tc := ⟨.hbm, 596, rfl⟩
abbrev main_v454 : Ref sig .tc := ⟨.hbm, 597, rfl⟩
abbrev main_v455 : Ref sig .tc := ⟨.hbm, 598, rfl⟩
abbrev main_cst_93 : Ref sig .tc := ⟨.hbm, 599, rfl⟩
abbrev main_v456 : Ref sig .tc := ⟨.hbm, 600, rfl⟩
abbrev main_v457 : Ref sig .tc := ⟨.hbm, 601, rfl⟩
abbrev main_v458 : Ref sig .tc := ⟨.hbm, 602, rfl⟩
abbrev main_v459 : Ref sig .tc := ⟨.hbm, 603, rfl⟩
abbrev main_v460 : Ref sig .tc := ⟨.hbm, 604, rfl⟩
abbrev main_v461 : Ref sig .tc := ⟨.hbm, 605, rfl⟩
abbrev main_cst_94 : Ref sig .tc := ⟨.hbm, 606, rfl⟩
abbrev main_v462 : Ref sig .tc := ⟨.hbm, 607, rfl⟩
abbrev main_v463 : Ref sig .tc := ⟨.hbm, 608, rfl⟩
abbrev main_v464 : Ref sig .tc := ⟨.hbm, 609, rfl⟩
abbrev main_v465 : Ref sig .tc := ⟨.hbm, 610, rfl⟩
abbrev main_v466 : Ref sig .tc := ⟨.hbm, 611, rfl⟩
abbrev main_v467 : Ref sig .tc := ⟨.hbm, 612, rfl⟩
abbrev main_v468 : Ref sig .tc := ⟨.hbm, 613, rfl⟩
abbrev main_v469 : Ref sig .tc := ⟨.hbm, 614, rfl⟩
abbrev main_v470 : Ref sig .tc := ⟨.hbm, 615, rfl⟩
abbrev main_v471 : Ref sig .tc := ⟨.hbm, 616, rfl⟩
abbrev main_v472 : Ref sig .tc := ⟨.hbm, 617, rfl⟩
abbrev main_cst_95 : Ref sig .tc := ⟨.hbm, 618, rfl⟩
abbrev main_call12_v0 : Ref sig .tc := ⟨.hbm, 619, rfl⟩
abbrev main_call12_v1 : Ref sig .tc := ⟨.hbm, 620, rfl⟩
abbrev main_v473 : Ref sig .tc := ⟨.hbm, 621, rfl⟩
abbrev main_v474 : Ref sig .tc := ⟨.hbm, 622, rfl⟩
abbrev main_v475 : Ref sig .tc := ⟨.hbm, 623, rfl⟩
abbrev main_v476 : Ref sig .tc := ⟨.hbm, 624, rfl⟩
abbrev main_v477 : Ref sig .tc := ⟨.hbm, 625, rfl⟩
abbrev main_v478 : Ref sig .tc := ⟨.hbm, 626, rfl⟩
abbrev main_v479 : Ref sig .tc := ⟨.hbm, 627, rfl⟩
abbrev main_v480 : Ref sig .tc := ⟨.hbm, 628, rfl⟩
abbrev main_v481 : Ref sig .tc := ⟨.hbm, 629, rfl⟩
abbrev main_v482 : Ref sig .tc := ⟨.hbm, 630, rfl⟩
abbrev main_v483 : Ref sig .tc := ⟨.hbm, 631, rfl⟩
abbrev main_v484 : Ref sig .tc := ⟨.hbm, 632, rfl⟩
abbrev main_v485 : Ref sig .tc := ⟨.hbm, 633, rfl⟩
abbrev main_v486 : Ref sig .tc := ⟨.hbm, 634, rfl⟩
abbrev main_v487 : Ref sig .tc := ⟨.hbm, 635, rfl⟩
abbrev main_v488 : Ref sig .tc := ⟨.hbm, 636, rfl⟩
abbrev main_v489 : Ref sig .tc := ⟨.hbm, 637, rfl⟩
abbrev main_v490 : Ref sig .tc := ⟨.hbm, 638, rfl⟩
abbrev main_v491 : Ref sig .tc := ⟨.hbm, 639, rfl⟩
abbrev main_v492 : Ref sig .tc := ⟨.hbm, 640, rfl⟩
abbrev main_v493 : Ref sig .tc := ⟨.hbm, 641, rfl⟩
abbrev main_v494 : Ref sig .tc := ⟨.hbm, 642, rfl⟩
abbrev main_v495 : Ref sig .tc := ⟨.hbm, 643, rfl⟩
abbrev main_cst_96 : Ref sig .tc := ⟨.hbm, 644, rfl⟩
abbrev main_v496 : Ref sig .tc := ⟨.hbm, 645, rfl⟩
abbrev main_v497 : Ref sig .tc := ⟨.hbm, 646, rfl⟩
abbrev main_v498 : Ref sig .tc := ⟨.hbm, 647, rfl⟩
abbrev main_cst_97 : Ref sig .tc := ⟨.hbm, 648, rfl⟩
abbrev main_v499 : Ref sig .tc := ⟨.hbm, 649, rfl⟩
abbrev main_v500 : Ref sig .tc := ⟨.hbm, 650, rfl⟩
abbrev main_cst_98 : Ref sig .tc := ⟨.hbm, 651, rfl⟩
abbrev main_v501 : Ref sig .tc := ⟨.hbm, 652, rfl⟩
abbrev main_v502 : Ref sig .tc := ⟨.hbm, 653, rfl⟩
abbrev main_v503 : Ref sig .tc := ⟨.hbm, 654, rfl⟩
abbrev main_v504 : Ref sig .tc := ⟨.hbm, 655, rfl⟩
abbrev main_v505 : Ref sig .tc := ⟨.hbm, 656, rfl⟩
abbrev main_v506 : Ref sig .tc := ⟨.hbm, 657, rfl⟩
abbrev main_cst_99 : Ref sig .tc := ⟨.hbm, 658, rfl⟩
abbrev main_v507 : Ref sig .tc := ⟨.hbm, 659, rfl⟩
abbrev main_v508 : Ref sig .tc := ⟨.hbm, 660, rfl⟩
abbrev main_cst_100 : Ref sig .tc := ⟨.hbm, 661, rfl⟩
abbrev main_v509 : Ref sig .tc := ⟨.hbm, 662, rfl⟩
abbrev main_v510 : Ref sig .tc := ⟨.hbm, 663, rfl⟩
abbrev main_cst_101 : Ref sig .tc := ⟨.hbm, 664, rfl⟩
abbrev main_v511 : Ref sig .tc := ⟨.hbm, 665, rfl⟩
abbrev main_v512 : Ref sig .tc := ⟨.hbm, 666, rfl⟩
abbrev main_cst_102 : Ref sig .tc := ⟨.hbm, 667, rfl⟩
abbrev main_v513 : Ref sig .tc := ⟨.hbm, 668, rfl⟩
abbrev main_v514 : Ref sig .tc := ⟨.hbm, 669, rfl⟩
abbrev main_cst_103 : Ref sig .tc := ⟨.hbm, 670, rfl⟩
abbrev main_v515 : Ref sig .tc := ⟨.hbm, 671, rfl⟩
abbrev main_v516 : Ref sig .tc := ⟨.hbm, 672, rfl⟩
abbrev main_v517 : Ref sig .tc := ⟨.hbm, 673, rfl⟩
abbrev main_v518 : Ref sig .tc := ⟨.hbm, 674, rfl⟩
abbrev main_v519 : Ref sig .tc := ⟨.hbm, 675, rfl⟩
abbrev main_cst_104 : Ref sig .tc := ⟨.hbm, 676, rfl⟩
abbrev main_v520 : Ref sig .tc := ⟨.hbm, 677, rfl⟩
abbrev main_v521 : Ref sig .tc := ⟨.hbm, 678, rfl⟩
abbrev main_cst_105 : Ref sig .tc := ⟨.hbm, 679, rfl⟩
abbrev main_v522 : Ref sig .tc := ⟨.hbm, 680, rfl⟩
abbrev main_v523 : Ref sig .tc := ⟨.hbm, 681, rfl⟩
abbrev main_v524 : Ref sig .tc := ⟨.hbm, 682, rfl⟩
abbrev main_v525 : Ref sig .tc := ⟨.hbm, 683, rfl⟩
abbrev main_v526 : Ref sig .tc := ⟨.hbm, 684, rfl⟩
abbrev main_cst_106 : Ref sig .tc := ⟨.hbm, 685, rfl⟩
abbrev main_v527 : Ref sig .tc := ⟨.hbm, 686, rfl⟩
abbrev main_cst_107 : Ref sig .tc := ⟨.hbm, 687, rfl⟩
abbrev main_v528 : Ref sig .tc := ⟨.hbm, 688, rfl⟩
abbrev main_v529 : Ref sig .tc := ⟨.hbm, 689, rfl⟩
abbrev main_v530 : Ref sig .tc := ⟨.hbm, 690, rfl⟩
abbrev main_v531 : Ref sig .tc := ⟨.hbm, 691, rfl⟩
abbrev main_v532 : Ref sig .tc := ⟨.hbm, 692, rfl⟩
abbrev main_v533 : Ref sig .tc := ⟨.hbm, 693, rfl⟩
abbrev main_cst_108 : Ref sig .tc := ⟨.hbm, 694, rfl⟩
abbrev main_v534 : Ref sig .tc := ⟨.hbm, 695, rfl⟩
abbrev main_v535 : Ref sig .tc := ⟨.hbm, 696, rfl⟩
abbrev main_v536 : Ref sig .tc := ⟨.hbm, 697, rfl⟩
abbrev main_v537 : Ref sig .tc := ⟨.hbm, 698, rfl⟩
abbrev main_v538 : Ref sig .tc := ⟨.hbm, 699, rfl⟩
abbrev main_v539 : Ref sig .tc := ⟨.hbm, 700, rfl⟩
abbrev main_v540 : Ref sig .tc := ⟨.hbm, 701, rfl⟩
abbrev main_call13_v0 : Ref sig .tc := ⟨.hbm, 702, rfl⟩
abbrev main_call13_v1 : Ref sig .tc := ⟨.hbm, 703, rfl⟩
abbrev main_call13_v2 : Ref sig .tc := ⟨.hbm, 704, rfl⟩
abbrev main_call13_v3 : Ref sig .tc := ⟨.hbm, 705, rfl⟩
abbrev main_call13_v4 : Ref sig .tc := ⟨.hbm, 706, rfl⟩
abbrev main_v541 : Ref sig .tc := ⟨.hbm, 707, rfl⟩
abbrev main_cst_109 : Ref sig .tc := ⟨.hbm, 708, rfl⟩
abbrev main_v542 : Ref sig .tc := ⟨.hbm, 709, rfl⟩
abbrev main_v543 : Ref sig .tc := ⟨.hbm, 710, rfl⟩
abbrev main_v544 : Ref sig .tc := ⟨.hbm, 711, rfl⟩
abbrev main_v545 : Ref sig .tc := ⟨.hbm, 712, rfl⟩
abbrev main_v546 : Ref sig .tc := ⟨.hbm, 713, rfl⟩
abbrev main_v547 : Ref sig .tc := ⟨.hbm, 714, rfl⟩
abbrev main_v548 : Ref sig .tc := ⟨.hbm, 715, rfl⟩
abbrev main_v549 : Ref sig .tc := ⟨.hbm, 716, rfl⟩
abbrev main_cst_110 : Ref sig .tc := ⟨.hbm, 717, rfl⟩
abbrev main_v550 : Ref sig .tc := ⟨.hbm, 718, rfl⟩
abbrev main_v551 : Ref sig .tc := ⟨.hbm, 719, rfl⟩
abbrev main_v552 : Ref sig .tc := ⟨.hbm, 720, rfl⟩
abbrev main_v553 : Ref sig .tc := ⟨.hbm, 721, rfl⟩
abbrev main_v554 : Ref sig .tc := ⟨.hbm, 722, rfl⟩
abbrev main_v555 : Ref sig .tc := ⟨.hbm, 723, rfl⟩
abbrev main_v556 : Ref sig .tc := ⟨.hbm, 724, rfl⟩
abbrev main_cst_111 : Ref sig .tc := ⟨.hbm, 725, rfl⟩
abbrev main_v557 : Ref sig .tc := ⟨.hbm, 726, rfl⟩
abbrev main_cst_112 : Ref sig .tc := ⟨.hbm, 727, rfl⟩
abbrev main_v558 : Ref sig .tc := ⟨.hbm, 728, rfl⟩
abbrev main_v559 : Ref sig .tc := ⟨.hbm, 729, rfl⟩
abbrev main_cst_113 : Ref sig .tc := ⟨.hbm, 730, rfl⟩
abbrev main_v560 : Ref sig .tc := ⟨.hbm, 731, rfl⟩
abbrev main_v561 : Ref sig .tc := ⟨.hbm, 732, rfl⟩
abbrev main_cst_114 : Ref sig .tc := ⟨.hbm, 733, rfl⟩
abbrev main_v562 : Ref sig .tc := ⟨.hbm, 734, rfl⟩
abbrev main_v563 : Ref sig .tc := ⟨.hbm, 735, rfl⟩
abbrev main_cst_115 : Ref sig .tc := ⟨.hbm, 736, rfl⟩
abbrev main_v564 : Ref sig .tc := ⟨.hbm, 737, rfl⟩
abbrev main_v565 : Ref sig .tc := ⟨.hbm, 738, rfl⟩
abbrev main_cst_116 : Ref sig .tc := ⟨.hbm, 739, rfl⟩
abbrev main_v566 : Ref sig .tc := ⟨.hbm, 740, rfl⟩
abbrev main_v567 : Ref sig .tc := ⟨.hbm, 741, rfl⟩
abbrev main_v568 : Ref sig .tc := ⟨.hbm, 742, rfl⟩
abbrev main_cst_117 : Ref sig .tc := ⟨.hbm, 743, rfl⟩
abbrev main_v569 : Ref sig .tc := ⟨.hbm, 744, rfl⟩
abbrev main_v570 : Ref sig .tc := ⟨.hbm, 745, rfl⟩
abbrev main_cst_118 : Ref sig .tc := ⟨.hbm, 746, rfl⟩
abbrev main_v571 : Ref sig .tc := ⟨.hbm, 747, rfl⟩
abbrev main_v572 : Ref sig .tc := ⟨.hbm, 748, rfl⟩
abbrev main_v573 : Ref sig .tc := ⟨.hbm, 749, rfl⟩
abbrev main_cst_119 : Ref sig .tc := ⟨.hbm, 750, rfl⟩
abbrev main_v574 : Ref sig .tc := ⟨.hbm, 751, rfl⟩
abbrev main_v575 : Ref sig .tc := ⟨.hbm, 752, rfl⟩
abbrev main_v576 : Ref sig .tc := ⟨.hbm, 753, rfl⟩
abbrev main_v577 : Ref sig .tc := ⟨.hbm, 754, rfl⟩
abbrev main_v578 : Ref sig .tc := ⟨.hbm, 755, rfl⟩
abbrev main_v579 : Ref sig .tc := ⟨.hbm, 756, rfl⟩
abbrev main_v580 : Ref sig .tc := ⟨.hbm, 757, rfl⟩
abbrev main_cst_120 : Ref sig .tc := ⟨.hbm, 758, rfl⟩
abbrev main_v581 : Ref sig .tc := ⟨.hbm, 759, rfl⟩
abbrev main_v582 : Ref sig .tc := ⟨.hbm, 760, rfl⟩
abbrev main_cst_121 : Ref sig .tc := ⟨.hbm, 761, rfl⟩
abbrev main_v583 : Ref sig .tc := ⟨.hbm, 762, rfl⟩
abbrev main_v584 : Ref sig .tc := ⟨.hbm, 763, rfl⟩
abbrev main_v585 : Ref sig .tc := ⟨.hbm, 764, rfl⟩
abbrev main_cst_122 : Ref sig .tc := ⟨.hbm, 765, rfl⟩
abbrev main_v586 : Ref sig .tc := ⟨.hbm, 766, rfl⟩
abbrev main_cst_123 : Ref sig .tc := ⟨.hbm, 767, rfl⟩
abbrev main_v587 : Ref sig .tc := ⟨.hbm, 768, rfl⟩
abbrev main_v588 : Ref sig .tc := ⟨.hbm, 769, rfl⟩
abbrev main_v589 : Ref sig .tc := ⟨.hbm, 770, rfl⟩
abbrev main_v590 : Ref sig .tc := ⟨.hbm, 771, rfl⟩
abbrev main_v591 : Ref sig .tc := ⟨.hbm, 772, rfl⟩
abbrev main_v592 : Ref sig .tc := ⟨.hbm, 773, rfl⟩
abbrev main_cst_124 : Ref sig .tc := ⟨.hbm, 774, rfl⟩
abbrev main_v593 : Ref sig .tc := ⟨.hbm, 775, rfl⟩
abbrev main_v594 : Ref sig .tc := ⟨.hbm, 776, rfl⟩
abbrev main_v595 : Ref sig .tc := ⟨.hbm, 777, rfl⟩
abbrev main_v596 : Ref sig .tc := ⟨.hbm, 778, rfl⟩
abbrev main_v597 : Ref sig .tc := ⟨.hbm, 779, rfl⟩
abbrev main_v598 : Ref sig .tc := ⟨.hbm, 780, rfl⟩
abbrev main_v599 : Ref sig .tc := ⟨.hbm, 781, rfl⟩
abbrev main_cst_125 : Ref sig .tc := ⟨.hbm, 782, rfl⟩
abbrev main_v600 : Ref sig .tc := ⟨.hbm, 783, rfl⟩
abbrev main_v601 : Ref sig .tc := ⟨.hbm, 784, rfl⟩
abbrev main_v602 : Ref sig .tc := ⟨.hbm, 785, rfl⟩
abbrev main_v603 : Ref sig .tc := ⟨.hbm, 786, rfl⟩
abbrev main_v604 : Ref sig .tc := ⟨.hbm, 787, rfl⟩
abbrev main_v605 : Ref sig .tc := ⟨.hbm, 788, rfl⟩
abbrev main_v606 : Ref sig .tc := ⟨.hbm, 789, rfl⟩
abbrev main_v607 : Ref sig .tc := ⟨.hbm, 790, rfl⟩
abbrev main_cst_126 : Ref sig .tc := ⟨.hbm, 791, rfl⟩
abbrev main_v608 : Ref sig .tc := ⟨.hbm, 792, rfl⟩
abbrev main_v609 : Ref sig .tc := ⟨.hbm, 793, rfl⟩
abbrev main_v610 : Ref sig .tc := ⟨.hbm, 794, rfl⟩
abbrev main_v611 : Ref sig .tc := ⟨.hbm, 795, rfl⟩
abbrev main_v612 : Ref sig .tc := ⟨.hbm, 796, rfl⟩
abbrev main_c_127 : Ref sig .tc := ⟨.hbm, 797, rfl⟩
abbrev main_c_128 : Ref sig .tc := ⟨.hbm, 798, rfl⟩
abbrev main_call14_v0 : Ref sig .tc := ⟨.hbm, 799, rfl⟩
abbrev main_call14_v1 : Ref sig .tc := ⟨.hbm, 800, rfl⟩
abbrev main_call14_v2 : Ref sig .tc := ⟨.hbm, 801, rfl⟩
abbrev main_call14_v3 : Ref sig .tc := ⟨.hbm, 802, rfl⟩
abbrev main_call14_v4 : Ref sig .tc := ⟨.hbm, 803, rfl⟩
abbrev main_v613 : Ref sig .tc := ⟨.hbm, 804, rfl⟩
abbrev main_v614 : Ref sig .tc := ⟨.hbm, 805, rfl⟩
abbrev main_v615 : Ref sig .tc := ⟨.hbm, 806, rfl⟩
abbrev main_v616 : Ref sig .tc := ⟨.hbm, 807, rfl⟩
abbrev main_v617 : Ref sig .tc := ⟨.hbm, 808, rfl⟩
abbrev main_c_129 : Ref sig .tc := ⟨.hbm, 809, rfl⟩
abbrev main_c_130 : Ref sig .tc := ⟨.hbm, 810, rfl⟩
abbrev main_call15_v0 : Ref sig .tc := ⟨.hbm, 811, rfl⟩
abbrev main_call15_v1 : Ref sig .tc := ⟨.hbm, 812, rfl⟩
abbrev main_call15_v2 : Ref sig .tc := ⟨.hbm, 813, rfl⟩
abbrev main_call15_v3 : Ref sig .tc := ⟨.hbm, 814, rfl⟩
abbrev main_call15_v4 : Ref sig .tc := ⟨.hbm, 815, rfl⟩
abbrev main_v618 : Ref sig .tc := ⟨.hbm, 816, rfl⟩
abbrev main_v619 : Ref sig .tc := ⟨.hbm, 817, rfl⟩
abbrev main_v620 : Ref sig .tc := ⟨.hbm, 818, rfl⟩
abbrev main_v621 : Ref sig .tc := ⟨.hbm, 819, rfl⟩
abbrev main_v622 : Ref sig .tc := ⟨.hbm, 820, rfl⟩
abbrev main_v623 : Ref sig .tc := ⟨.hbm, 821, rfl⟩
abbrev main_v624 : Ref sig .tc := ⟨.hbm, 822, rfl⟩
abbrev main_v625 : Ref sig .tc := ⟨.hbm, 823, rfl⟩
abbrev main_v626 : Ref sig .tc := ⟨.hbm, 824, rfl⟩
abbrev main_v627 : Ref sig .tc := ⟨.hbm, 825, rfl⟩
abbrev main_v628 : Ref sig .tc := ⟨.hbm, 826, rfl⟩
abbrev main_v629 : Ref sig .tc := ⟨.hbm, 827, rfl⟩
abbrev main_v630 : Ref sig .tc := ⟨.hbm, 828, rfl⟩
abbrev main_v631 : Ref sig .tc := ⟨.hbm, 829, rfl⟩
abbrev main_v632 : Ref sig .tc := ⟨.hbm, 830, rfl⟩
abbrev main_v633 : Ref sig .tc := ⟨.hbm, 831, rfl⟩
abbrev main_v634 : Ref sig .tc := ⟨.hbm, 832, rfl⟩
abbrev main_v635 : Ref sig .tc := ⟨.hbm, 833, rfl⟩
abbrev main_v636 : Ref sig .tc := ⟨.hbm, 834, rfl⟩
abbrev main_v637 : Ref sig .tc := ⟨.hbm, 835, rfl⟩
abbrev main_v638 : Ref sig .tc := ⟨.hbm, 836, rfl⟩
abbrev main_v639 : Ref sig .tc := ⟨.hbm, 837, rfl⟩
abbrev main_v640 : Ref sig .tc := ⟨.hbm, 838, rfl⟩
abbrev main_v641 : Ref sig .tc := ⟨.hbm, 839, rfl⟩
abbrev main_v642 : Ref sig .tc := ⟨.hbm, 840, rfl⟩
abbrev main_v643 : Ref sig .tc := ⟨.hbm, 841, rfl⟩
abbrev main_v644 : Ref sig .tc := ⟨.hbm, 842, rfl⟩
abbrev main_v645 : Ref sig .tc := ⟨.hbm, 843, rfl⟩
abbrev main_v646 : Ref sig .tc := ⟨.hbm, 844, rfl⟩
abbrev main_cst_131 : Ref sig .tc := ⟨.hbm, 845, rfl⟩
abbrev main_v647 : Ref sig .tc := ⟨.hbm, 846, rfl⟩
abbrev main_v648 : Ref sig .tc := ⟨.hbm, 847, rfl⟩
abbrev main_v649 : Ref sig .tc := ⟨.hbm, 848, rfl⟩
abbrev main_cst_132 : Ref sig .tc := ⟨.hbm, 849, rfl⟩
abbrev main_v650 : Ref sig .tc := ⟨.hbm, 850, rfl⟩
abbrev main_v651 : Ref sig .tc := ⟨.hbm, 851, rfl⟩
abbrev main_v652 : Ref sig .tc := ⟨.hbm, 852, rfl⟩
abbrev main_v653 : Ref sig .tc := ⟨.hbm, 853, rfl⟩
abbrev main_v654 : Ref sig .tc := ⟨.hbm, 854, rfl⟩
abbrev main_c_133 : Ref sig .tc := ⟨.hbm, 855, rfl⟩
abbrev main_call16_v0 : Ref sig .tc := ⟨.hbm, 856, rfl⟩
abbrev main_call16_v1 : Ref sig .tc := ⟨.hbm, 857, rfl⟩
abbrev main_call16_v2 : Ref sig .tc := ⟨.hbm, 858, rfl⟩
abbrev main_v655 : Ref sig .tc := ⟨.hbm, 859, rfl⟩
abbrev main_c_134 : Ref sig .tc := ⟨.hbm, 860, rfl⟩
abbrev main_v656 : Ref sig .tc := ⟨.hbm, 861, rfl⟩
abbrev main_v657 : Ref sig .tc := ⟨.hbm, 862, rfl⟩
abbrev main_v658 : Ref sig .tc := ⟨.hbm, 863, rfl⟩
abbrev main_c_135 : Ref sig .tc := ⟨.hbm, 864, rfl⟩
abbrev main_v659 : Ref sig .tc := ⟨.hbm, 865, rfl⟩
abbrev main_v660 : Ref sig .tc := ⟨.hbm, 866, rfl⟩
abbrev main_v661 : Ref sig .tc := ⟨.hbm, 867, rfl⟩
abbrev main_v662 : Ref sig .tc := ⟨.hbm, 868, rfl⟩
abbrev main_c_136 : Ref sig .tc := ⟨.hbm, 869, rfl⟩
abbrev main_v663 : Ref sig .tc := ⟨.hbm, 870, rfl⟩
abbrev main_v664 : Ref sig .tc := ⟨.hbm, 871, rfl⟩
abbrev main_v665 : Ref sig .tc := ⟨.hbm, 872, rfl⟩
abbrev main_c_137 : Ref sig .tc := ⟨.hbm, 873, rfl⟩
abbrev main_v666 : Ref sig .tc := ⟨.hbm, 874, rfl⟩
abbrev main_v667 : Ref sig .tc := ⟨.hbm, 875, rfl⟩
abbrev main_v668 : Ref sig .tc := ⟨.hbm, 876, rfl⟩
abbrev main_c_138 : Ref sig .tc := ⟨.hbm, 877, rfl⟩
abbrev main_call17_v0 : Ref sig .tc := ⟨.hbm, 878, rfl⟩
abbrev main_call17_v1 : Ref sig .tc := ⟨.hbm, 879, rfl⟩
abbrev main_v669 : Ref sig .tc := ⟨.hbm, 880, rfl⟩
abbrev main_cst_139 : Ref sig .tc := ⟨.hbm, 881, rfl⟩
abbrev main_v670 : Ref sig .tc := ⟨.hbm, 882, rfl⟩
abbrev main_v671 : Ref sig .tc := ⟨.hbm, 883, rfl⟩
abbrev main_c_140 : Ref sig .tc := ⟨.hbm, 884, rfl⟩
abbrev main_v672 : Ref sig .tc := ⟨.hbm, 885, rfl⟩
abbrev main_v673 : Ref sig .tc := ⟨.hbm, 886, rfl⟩
abbrev main_c_141 : Ref sig .tc := ⟨.hbm, 887, rfl⟩
abbrev main_v674 : Ref sig .tc := ⟨.hbm, 888, rfl⟩
abbrev main_v675 : Ref sig .tc := ⟨.hbm, 889, rfl⟩
abbrev main_v676 : Ref sig .tc := ⟨.hbm, 890, rfl⟩
abbrev main_v677 : Ref sig .tc := ⟨.hbm, 891, rfl⟩
abbrev main_cst_142 : Ref sig .tc := ⟨.hbm, 892, rfl⟩
abbrev main_v678 : Ref sig .tc := ⟨.hbm, 893, rfl⟩
abbrev main_v679 : Ref sig .tc := ⟨.hbm, 894, rfl⟩
abbrev main_v680 : Ref sig .tc := ⟨.hbm, 895, rfl⟩
abbrev main_v681 : Ref sig .tc := ⟨.hbm, 896, rfl⟩
abbrev main_c_143 : Ref sig .tc := ⟨.hbm, 897, rfl⟩
abbrev main_v682 : Ref sig .tc := ⟨.hbm, 898, rfl⟩
abbrev main_v683 : Ref sig .tc := ⟨.hbm, 899, rfl⟩
abbrev main_c_144 : Ref sig .tc := ⟨.hbm, 900, rfl⟩
abbrev main_v684 : Ref sig .tc := ⟨.hbm, 901, rfl⟩
abbrev main_v685 : Ref sig .tc := ⟨.hbm, 902, rfl⟩
abbrev main_v686 : Ref sig .tc := ⟨.hbm, 903, rfl⟩
abbrev main_v687 : Ref sig .tc := ⟨.hbm, 904, rfl⟩
abbrev main_v688 : Ref sig .tc := ⟨.hbm, 905, rfl⟩
abbrev main_v689 : Ref sig .tc := ⟨.hbm, 906, rfl⟩
abbrev main_cst_145 : Ref sig .tc := ⟨.hbm, 907, rfl⟩
abbrev main_call18_v0 : Ref sig .tc := ⟨.hbm, 908, rfl⟩
abbrev main_call18_v1 : Ref sig .tc := ⟨.hbm, 909, rfl⟩
abbrev main_call18_v2 : Ref sig .tc := ⟨.hbm, 910, rfl⟩
abbrev main_v690 : Ref sig .tc := ⟨.hbm, 911, rfl⟩
abbrev main_v691 : Ref sig .tc := ⟨.hbm, 912, rfl⟩
abbrev main_v692 : Ref sig .tc := ⟨.hbm, 913, rfl⟩
abbrev main_v693 : Ref sig .tc := ⟨.hbm, 914, rfl⟩
abbrev main_v694 : Ref sig .tc := ⟨.hbm, 915, rfl⟩
abbrev main_v695 : Ref sig .tc := ⟨.hbm, 916, rfl⟩
abbrev main_v696 : Ref sig .tc := ⟨.hbm, 917, rfl⟩
abbrev main_v697 : Ref sig .tc := ⟨.hbm, 918, rfl⟩
abbrev main_v698 : Ref sig .tc := ⟨.hbm, 919, rfl⟩
abbrev main_v699 : Ref sig .tc := ⟨.hbm, 920, rfl⟩
abbrev main_v700 : Ref sig .tc := ⟨.hbm, 921, rfl⟩
abbrev main_v701 : Ref sig .tc := ⟨.hbm, 922, rfl⟩
abbrev main_v702 : Ref sig .tc := ⟨.hbm, 923, rfl⟩
abbrev main_v703 : Ref sig .tc := ⟨.hbm, 924, rfl⟩
abbrev main_v704 : Ref sig .tc := ⟨.hbm, 925, rfl⟩
abbrev main_cst_146 : Ref sig .tc := ⟨.hbm, 926, rfl⟩
abbrev main_v705 : Ref sig .tc := ⟨.hbm, 927, rfl⟩
abbrev main_v706 : Ref sig .tc := ⟨.hbm, 928, rfl⟩
abbrev main_v707 : Ref sig .tc := ⟨.hbm, 929, rfl⟩
abbrev main_c_147 : Ref sig .tc := ⟨.hbm, 930, rfl⟩
abbrev main_v708 : Ref sig .tc := ⟨.hbm, 931, rfl⟩
abbrev main_v709 : Ref sig .tc := ⟨.hbm, 932, rfl⟩
abbrev main_c_148 : Ref sig .tc := ⟨.hbm, 933, rfl⟩
abbrev main_v710 : Ref sig .tc := ⟨.hbm, 934, rfl⟩
abbrev main_v711 : Ref sig .tc := ⟨.hbm, 935, rfl⟩
abbrev main_v712 : Ref sig .tc := ⟨.hbm, 936, rfl⟩
abbrev main_v713 : Ref sig .tc := ⟨.hbm, 937, rfl⟩
abbrev main_v714 : Ref sig .tc := ⟨.hbm, 938, rfl⟩
abbrev main_v715 : Ref sig .tc := ⟨.hbm, 939, rfl⟩
abbrev main_v716 : Ref sig .tc := ⟨.hbm, 940, rfl⟩
abbrev main_v717 : Ref sig .tc := ⟨.hbm, 941, rfl⟩
abbrev main_v718 : Ref sig .tc := ⟨.hbm, 942, rfl⟩
abbrev main_v719 : Ref sig .tc := ⟨.hbm, 943, rfl⟩
abbrev main_v720 : Ref sig .tc := ⟨.hbm, 944, rfl⟩
abbrev main_v721 : Ref sig .tc := ⟨.hbm, 945, rfl⟩
abbrev main_v722 : Ref sig .tc := ⟨.hbm, 946, rfl⟩
abbrev main_v723 : Ref sig .tc := ⟨.hbm, 947, rfl⟩
abbrev main_v724 : Ref sig .tc := ⟨.hbm, 948, rfl⟩
abbrev main_v725 : Ref sig .tc := ⟨.hbm, 949, rfl⟩
abbrev main_v726 : Ref sig .tc := ⟨.hbm, 950, rfl⟩
abbrev main_v727 : Ref sig .tc := ⟨.hbm, 951, rfl⟩
abbrev main_v728 : Ref sig .tc := ⟨.hbm, 952, rfl⟩
abbrev main_cst_149 : Ref sig .tc := ⟨.hbm, 953, rfl⟩
abbrev main_v729 : Ref sig .tc := ⟨.hbm, 954, rfl⟩
abbrev main_v730 : Ref sig .tc := ⟨.hbm, 955, rfl⟩
abbrev main_cst_150 : Ref sig .tc := ⟨.hbm, 956, rfl⟩
abbrev main_v731 : Ref sig .tc := ⟨.hbm, 957, rfl⟩
abbrev main_v732 : Ref sig .tc := ⟨.hbm, 958, rfl⟩
abbrev main_v733 : Ref sig .tc := ⟨.hbm, 959, rfl⟩
abbrev main_v734 : Ref sig .tc := ⟨.hbm, 960, rfl⟩
abbrev main_v735 : Ref sig .tc := ⟨.hbm, 961, rfl⟩
abbrev main_v736 : Ref sig .tc := ⟨.hbm, 962, rfl⟩
abbrev main_v737 : Ref sig .tc := ⟨.hbm, 963, rfl⟩
abbrev main_v738 : Ref sig .tc := ⟨.hbm, 964, rfl⟩
abbrev main_v739 : Ref sig .tc := ⟨.hbm, 965, rfl⟩
abbrev main_v740 : Ref sig .tc := ⟨.hbm, 966, rfl⟩
abbrev main_v741 : Ref sig .tc := ⟨.hbm, 967, rfl⟩
abbrev main_v742 : Ref sig .tc := ⟨.hbm, 968, rfl⟩
abbrev main_v743 : Ref sig .tc := ⟨.hbm, 969, rfl⟩
abbrev main_v744 : Ref sig .tc := ⟨.hbm, 970, rfl⟩
abbrev main_v745 : Ref sig .tc := ⟨.hbm, 971, rfl⟩
abbrev main_cst_151 : Ref sig .tc := ⟨.hbm, 972, rfl⟩
abbrev main_v746 : Ref sig .tc := ⟨.hbm, 973, rfl⟩
abbrev main_v747 : Ref sig .tc := ⟨.hbm, 974, rfl⟩
abbrev main_v748 : Ref sig .tc := ⟨.hbm, 975, rfl⟩
abbrev main_v749 : Ref sig .tc := ⟨.hbm, 976, rfl⟩
abbrev main_cst_152 : Ref sig .tc := ⟨.hbm, 977, rfl⟩
abbrev main_v750 : Ref sig .tc := ⟨.hbm, 978, rfl⟩
abbrev main_v751 : Ref sig .tc := ⟨.hbm, 979, rfl⟩
abbrev main_v752 : Ref sig .tc := ⟨.hbm, 980, rfl⟩
abbrev main_v753 : Ref sig .tc := ⟨.hbm, 981, rfl⟩
abbrev main_v754 : Ref sig .tc := ⟨.hbm, 982, rfl⟩
abbrev main_v755 : Ref sig .tc := ⟨.hbm, 983, rfl⟩
abbrev main_cst_153 : Ref sig .tc := ⟨.hbm, 984, rfl⟩
abbrev main_v756 : Ref sig .tc := ⟨.hbm, 985, rfl⟩
abbrev main_v757 : Ref sig .tc := ⟨.hbm, 986, rfl⟩
abbrev main_v758 : Ref sig .tc := ⟨.hbm, 987, rfl⟩
abbrev main_v759 : Ref sig .tc := ⟨.hbm, 988, rfl⟩
abbrev main_v760 : Ref sig .tc := ⟨.hbm, 989, rfl⟩
abbrev main_v761 : Ref sig .tc := ⟨.hbm, 990, rfl⟩
abbrev main_cst_154 : Ref sig .tc := ⟨.hbm, 991, rfl⟩
abbrev main_v762 : Ref sig .tc := ⟨.hbm, 992, rfl⟩
abbrev main_v763 : Ref sig .tc := ⟨.hbm, 993, rfl⟩
abbrev main_v764 : Ref sig .tc := ⟨.hbm, 994, rfl⟩
abbrev main_v765 : Ref sig .tc := ⟨.hbm, 995, rfl⟩
abbrev main_v766 : Ref sig .tc := ⟨.hbm, 996, rfl⟩
abbrev main_v767 : Ref sig .tc := ⟨.hbm, 997, rfl⟩
abbrev main_v768 : Ref sig .tc := ⟨.hbm, 998, rfl⟩
abbrev main_v769 : Ref sig .tc := ⟨.hbm, 999, rfl⟩
abbrev main_v770 : Ref sig .tc := ⟨.hbm, 1000, rfl⟩
abbrev main_v771 : Ref sig .tc := ⟨.hbm, 1001, rfl⟩
abbrev main_v772 : Ref sig .tc := ⟨.hbm, 1002, rfl⟩
abbrev main_cst_155 : Ref sig .tc := ⟨.hbm, 1003, rfl⟩
abbrev main_call19_v0 : Ref sig .tc := ⟨.hbm, 1004, rfl⟩
abbrev main_call19_v1 : Ref sig .tc := ⟨.hbm, 1005, rfl⟩
abbrev main_v773 : Ref sig .tc := ⟨.hbm, 1006, rfl⟩
abbrev main_v774 : Ref sig .tc := ⟨.hbm, 1007, rfl⟩
abbrev main_v775 : Ref sig .tc := ⟨.hbm, 1008, rfl⟩
abbrev main_v776 : Ref sig .tc := ⟨.hbm, 1009, rfl⟩
abbrev main_v777 : Ref sig .tc := ⟨.hbm, 1010, rfl⟩
abbrev main_v778 : Ref sig .tc := ⟨.hbm, 1011, rfl⟩
abbrev main_v779 : Ref sig .tc := ⟨.hbm, 1012, rfl⟩
abbrev main_v780 : Ref sig .tc := ⟨.hbm, 1013, rfl⟩
abbrev main_v781 : Ref sig .tc := ⟨.hbm, 1014, rfl⟩
abbrev main_v782 : Ref sig .tc := ⟨.hbm, 1015, rfl⟩
abbrev main_v783 : Ref sig .tc := ⟨.hbm, 1016, rfl⟩
abbrev main_v784 : Ref sig .tc := ⟨.hbm, 1017, rfl⟩
abbrev main_v785 : Ref sig .tc := ⟨.hbm, 1018, rfl⟩
abbrev main_v786 : Ref sig .tc := ⟨.hbm, 1019, rfl⟩
abbrev main_v787 : Ref sig .tc := ⟨.hbm, 1020, rfl⟩
abbrev main_v788 : Ref sig .tc := ⟨.hbm, 1021, rfl⟩
abbrev main_v789 : Ref sig .tc := ⟨.hbm, 1022, rfl⟩
abbrev main_v790 : Ref sig .tc := ⟨.hbm, 1023, rfl⟩
abbrev main_v791 : Ref sig .tc := ⟨.hbm, 1024, rfl⟩
abbrev main_v792 : Ref sig .tc := ⟨.hbm, 1025, rfl⟩
abbrev main_v793 : Ref sig .tc := ⟨.hbm, 1026, rfl⟩
abbrev main_v794 : Ref sig .tc := ⟨.hbm, 1027, rfl⟩
abbrev main_v795 : Ref sig .tc := ⟨.hbm, 1028, rfl⟩
abbrev main_cst_156 : Ref sig .tc := ⟨.hbm, 1029, rfl⟩
abbrev main_v796 : Ref sig .tc := ⟨.hbm, 1030, rfl⟩
abbrev main_v797 : Ref sig .tc := ⟨.hbm, 1031, rfl⟩
abbrev main_v798 : Ref sig .tc := ⟨.hbm, 1032, rfl⟩
abbrev main_cst_157 : Ref sig .tc := ⟨.hbm, 1033, rfl⟩
abbrev main_v799 : Ref sig .tc := ⟨.hbm, 1034, rfl⟩
abbrev main_v800 : Ref sig .tc := ⟨.hbm, 1035, rfl⟩
abbrev main_cst_158 : Ref sig .tc := ⟨.hbm, 1036, rfl⟩
abbrev main_v801 : Ref sig .tc := ⟨.hbm, 1037, rfl⟩
abbrev main_v802 : Ref sig .tc := ⟨.hbm, 1038, rfl⟩
abbrev main_v803 : Ref sig .tc := ⟨.hbm, 1039, rfl⟩
abbrev main_v804 : Ref sig .tc := ⟨.hbm, 1040, rfl⟩
abbrev main_v805 : Ref sig .tc := ⟨.hbm, 1041, rfl⟩
abbrev main_v806 : Ref sig .tc := ⟨.hbm, 1042, rfl⟩
abbrev main_cst_159 : Ref sig .tc := ⟨.hbm, 1043, rfl⟩
abbrev main_v807 : Ref sig .tc := ⟨.hbm, 1044, rfl⟩
abbrev main_v808 : Ref sig .tc := ⟨.hbm, 1045, rfl⟩
abbrev main_cst_160 : Ref sig .tc := ⟨.hbm, 1046, rfl⟩
abbrev main_v809 : Ref sig .tc := ⟨.hbm, 1047, rfl⟩
abbrev main_v810 : Ref sig .tc := ⟨.hbm, 1048, rfl⟩
abbrev main_cst_161 : Ref sig .tc := ⟨.hbm, 1049, rfl⟩
abbrev main_v811 : Ref sig .tc := ⟨.hbm, 1050, rfl⟩
abbrev main_v812 : Ref sig .tc := ⟨.hbm, 1051, rfl⟩
abbrev main_cst_162 : Ref sig .tc := ⟨.hbm, 1052, rfl⟩
abbrev main_v813 : Ref sig .tc := ⟨.hbm, 1053, rfl⟩
abbrev main_v814 : Ref sig .tc := ⟨.hbm, 1054, rfl⟩
abbrev main_cst_163 : Ref sig .tc := ⟨.hbm, 1055, rfl⟩
abbrev main_v815 : Ref sig .tc := ⟨.hbm, 1056, rfl⟩
abbrev main_v816 : Ref sig .tc := ⟨.hbm, 1057, rfl⟩
abbrev main_v817 : Ref sig .tc := ⟨.hbm, 1058, rfl⟩
abbrev main_v818 : Ref sig .tc := ⟨.hbm, 1059, rfl⟩
abbrev main_v819 : Ref sig .tc := ⟨.hbm, 1060, rfl⟩
abbrev main_cst_164 : Ref sig .tc := ⟨.hbm, 1061, rfl⟩
abbrev main_v820 : Ref sig .tc := ⟨.hbm, 1062, rfl⟩
abbrev main_v821 : Ref sig .tc := ⟨.hbm, 1063, rfl⟩
abbrev main_cst_165 : Ref sig .tc := ⟨.hbm, 1064, rfl⟩
abbrev main_v822 : Ref sig .tc := ⟨.hbm, 1065, rfl⟩
abbrev main_v823 : Ref sig .tc := ⟨.hbm, 1066, rfl⟩
abbrev main_v824 : Ref sig .tc := ⟨.hbm, 1067, rfl⟩
abbrev main_v825 : Ref sig .tc := ⟨.hbm, 1068, rfl⟩
abbrev main_v826 : Ref sig .tc := ⟨.hbm, 1069, rfl⟩
abbrev main_cst_166 : Ref sig .tc := ⟨.hbm, 1070, rfl⟩
abbrev main_v827 : Ref sig .tc := ⟨.hbm, 1071, rfl⟩
abbrev main_cst_167 : Ref sig .tc := ⟨.hbm, 1072, rfl⟩
abbrev main_v828 : Ref sig .tc := ⟨.hbm, 1073, rfl⟩
abbrev main_v829 : Ref sig .tc := ⟨.hbm, 1074, rfl⟩
abbrev main_v830 : Ref sig .tc := ⟨.hbm, 1075, rfl⟩
abbrev main_v831 : Ref sig .tc := ⟨.hbm, 1076, rfl⟩
abbrev main_v832 : Ref sig .tc := ⟨.hbm, 1077, rfl⟩
abbrev main_v833 : Ref sig .tc := ⟨.hbm, 1078, rfl⟩
abbrev main_cst_168 : Ref sig .tc := ⟨.hbm, 1079, rfl⟩
abbrev main_v834 : Ref sig .tc := ⟨.hbm, 1080, rfl⟩
abbrev main_v835 : Ref sig .tc := ⟨.hbm, 1081, rfl⟩
abbrev main_v836 : Ref sig .tc := ⟨.hbm, 1082, rfl⟩
abbrev main_v837 : Ref sig .tc := ⟨.hbm, 1083, rfl⟩
abbrev main_v838 : Ref sig .tc := ⟨.hbm, 1084, rfl⟩
abbrev main_v839 : Ref sig .tc := ⟨.hbm, 1085, rfl⟩
abbrev main_v840 : Ref sig .tc := ⟨.hbm, 1086, rfl⟩
abbrev main_call20_v0 : Ref sig .tc := ⟨.hbm, 1087, rfl⟩
abbrev main_call20_v1 : Ref sig .tc := ⟨.hbm, 1088, rfl⟩
abbrev main_call20_v2 : Ref sig .tc := ⟨.hbm, 1089, rfl⟩
abbrev main_call20_v3 : Ref sig .tc := ⟨.hbm, 1090, rfl⟩
abbrev main_call20_v4 : Ref sig .tc := ⟨.hbm, 1091, rfl⟩
abbrev main_v841 : Ref sig .tc := ⟨.hbm, 1092, rfl⟩
abbrev main_cst_169 : Ref sig .tc := ⟨.hbm, 1093, rfl⟩
abbrev main_v842 : Ref sig .tc := ⟨.hbm, 1094, rfl⟩
abbrev main_v843 : Ref sig .tc := ⟨.hbm, 1095, rfl⟩
abbrev main_v844 : Ref sig .tc := ⟨.hbm, 1096, rfl⟩
abbrev main_v845 : Ref sig .tc := ⟨.hbm, 1097, rfl⟩
abbrev main_v846 : Ref sig .tc := ⟨.hbm, 1098, rfl⟩
abbrev main_v847 : Ref sig .tc := ⟨.hbm, 1099, rfl⟩
abbrev main_v848 : Ref sig .tc := ⟨.hbm, 1100, rfl⟩
abbrev main_v849 : Ref sig .tc := ⟨.hbm, 1101, rfl⟩
abbrev main_cst_170 : Ref sig .tc := ⟨.hbm, 1102, rfl⟩
abbrev main_v850 : Ref sig .tc := ⟨.hbm, 1103, rfl⟩
abbrev main_v851 : Ref sig .tc := ⟨.hbm, 1104, rfl⟩
abbrev main_v852 : Ref sig .tc := ⟨.hbm, 1105, rfl⟩
abbrev main_v853 : Ref sig .tc := ⟨.hbm, 1106, rfl⟩
abbrev main_v854 : Ref sig .tc := ⟨.hbm, 1107, rfl⟩
abbrev main_v855 : Ref sig .tc := ⟨.hbm, 1108, rfl⟩
abbrev main_v856 : Ref sig .tc := ⟨.hbm, 1109, rfl⟩
abbrev main_cst_171 : Ref sig .tc := ⟨.hbm, 1110, rfl⟩
abbrev main_v857 : Ref sig .tc := ⟨.hbm, 1111, rfl⟩
abbrev main_cst_172 : Ref sig .tc := ⟨.hbm, 1112, rfl⟩
abbrev main_v858 : Ref sig .tc := ⟨.hbm, 1113, rfl⟩
abbrev main_v859 : Ref sig .tc := ⟨.hbm, 1114, rfl⟩
abbrev main_cst_173 : Ref sig .tc := ⟨.hbm, 1115, rfl⟩
abbrev main_v860 : Ref sig .tc := ⟨.hbm, 1116, rfl⟩
abbrev main_v861 : Ref sig .tc := ⟨.hbm, 1117, rfl⟩
abbrev main_cst_174 : Ref sig .tc := ⟨.hbm, 1118, rfl⟩
abbrev main_v862 : Ref sig .tc := ⟨.hbm, 1119, rfl⟩
abbrev main_v863 : Ref sig .tc := ⟨.hbm, 1120, rfl⟩
abbrev main_cst_175 : Ref sig .tc := ⟨.hbm, 1121, rfl⟩
abbrev main_v864 : Ref sig .tc := ⟨.hbm, 1122, rfl⟩
abbrev main_v865 : Ref sig .tc := ⟨.hbm, 1123, rfl⟩
abbrev main_cst_176 : Ref sig .tc := ⟨.hbm, 1124, rfl⟩
abbrev main_v866 : Ref sig .tc := ⟨.hbm, 1125, rfl⟩
abbrev main_v867 : Ref sig .tc := ⟨.hbm, 1126, rfl⟩
abbrev main_v868 : Ref sig .tc := ⟨.hbm, 1127, rfl⟩
abbrev main_cst_177 : Ref sig .tc := ⟨.hbm, 1128, rfl⟩
abbrev main_v869 : Ref sig .tc := ⟨.hbm, 1129, rfl⟩
abbrev main_v870 : Ref sig .tc := ⟨.hbm, 1130, rfl⟩
abbrev main_cst_178 : Ref sig .tc := ⟨.hbm, 1131, rfl⟩
abbrev main_v871 : Ref sig .tc := ⟨.hbm, 1132, rfl⟩
abbrev main_v872 : Ref sig .tc := ⟨.hbm, 1133, rfl⟩
abbrev main_v873 : Ref sig .tc := ⟨.hbm, 1134, rfl⟩
abbrev main_cst_179 : Ref sig .tc := ⟨.hbm, 1135, rfl⟩
abbrev main_v874 : Ref sig .tc := ⟨.hbm, 1136, rfl⟩
abbrev main_v875 : Ref sig .tc := ⟨.hbm, 1137, rfl⟩
abbrev main_v876 : Ref sig .tc := ⟨.hbm, 1138, rfl⟩
abbrev main_v877 : Ref sig .tc := ⟨.hbm, 1139, rfl⟩
abbrev main_v878 : Ref sig .tc := ⟨.hbm, 1140, rfl⟩
abbrev main_v879 : Ref sig .tc := ⟨.hbm, 1141, rfl⟩
abbrev main_v880 : Ref sig .tc := ⟨.hbm, 1142, rfl⟩
abbrev main_cst_180 : Ref sig .tc := ⟨.hbm, 1143, rfl⟩
abbrev main_v881 : Ref sig .tc := ⟨.hbm, 1144, rfl⟩
abbrev main_v882 : Ref sig .tc := ⟨.hbm, 1145, rfl⟩
abbrev main_cst_181 : Ref sig .tc := ⟨.hbm, 1146, rfl⟩
abbrev main_v883 : Ref sig .tc := ⟨.hbm, 1147, rfl⟩
abbrev main_v884 : Ref sig .tc := ⟨.hbm, 1148, rfl⟩
abbrev main_v885 : Ref sig .tc := ⟨.hbm, 1149, rfl⟩
abbrev main_cst_182 : Ref sig .tc := ⟨.hbm, 1150, rfl⟩
abbrev main_v886 : Ref sig .tc := ⟨.hbm, 1151, rfl⟩
abbrev main_cst_183 : Ref sig .tc := ⟨.hbm, 1152, rfl⟩
abbrev main_v887 : Ref sig .tc := ⟨.hbm, 1153, rfl⟩
abbrev main_v888 : Ref sig .tc := ⟨.hbm, 1154, rfl⟩
abbrev main_v889 : Ref sig .tc := ⟨.hbm, 1155, rfl⟩
abbrev main_v890 : Ref sig .tc := ⟨.hbm, 1156, rfl⟩
abbrev main_v891 : Ref sig .tc := ⟨.hbm, 1157, rfl⟩
abbrev main_v892 : Ref sig .tc := ⟨.hbm, 1158, rfl⟩
abbrev main_cst_184 : Ref sig .tc := ⟨.hbm, 1159, rfl⟩
abbrev main_v893 : Ref sig .tc := ⟨.hbm, 1160, rfl⟩
abbrev main_v894 : Ref sig .tc := ⟨.hbm, 1161, rfl⟩
abbrev main_v895 : Ref sig .tc := ⟨.hbm, 1162, rfl⟩
abbrev main_v896 : Ref sig .tc := ⟨.hbm, 1163, rfl⟩
abbrev main_v897 : Ref sig .tc := ⟨.hbm, 1164, rfl⟩
abbrev main_v898 : Ref sig .tc := ⟨.hbm, 1165, rfl⟩
abbrev main_v899 : Ref sig .tc := ⟨.hbm, 1166, rfl⟩
abbrev main_v900 : Ref sig .tc := ⟨.hbm, 1167, rfl⟩
abbrev main_v901 : Ref sig .tc := ⟨.hbm, 1168, rfl⟩

abbrev nD : Nat := 1
abbrev τ : Topo := Topo.v7x

variable {F : FTy → Type} [FloatOps F]
-- ==== Proof.Common.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the three calls share: the six staging memrefs a body runs on, and the covering of a 675-row block by six
    stores of 128 rows, the last two of which overlap. -/

/-- The staging memrefs of one run of a body: anchors, predictions, labels in; loss, boxes, scores out. All three
    calls have the same block shapes. -/
structure Mems where
  a2 : Memref sig .tc .smem S3x2 .f32
  h2 : a2.IsWhole
  a3 : Memref sig .tc .vmem S1x1x675x85 .f32
  h3 : a3.IsWhole
  a4 : Memref sig .tc .vmem S1x50x5 .f32
  h4 : a4.IsWhole
  a5 : Memref sig .tc .vmem S1x1x128 .f32
  h5 : a5.IsWhole
  a6 : Memref sig .tc .vmem S1x1x675x4 .f32
  h6 : a6.IsWhole
  a7 : Memref sig .tc .vmem S1x1x675x80 .f32
  h7 : a7.IsWhole

/-- How six stores listed last first cover 675 rows: rows below 128 by the oldest, and so on; the rows from 640 on by
    the newest. -/
def cover6 : LoadRect.Cov :=
  .split 2 128 (.leaf 5) (.split 2 128 (.leaf 4) (.split 2 128 (.leaf 3) (.split 2 128 (.leaf 2) (.split 2 128 (.leaf 1) (.leaf 0)))))

/-- Stores whose rectangles pass the covering check reach every coordinate of the block. -/
theorem cover_whole {s : Shape} {e : EltTy} {Val : EltTy → Type} (L : List (View.Piece Val s e)) (t : LoadRect.Cov)
    (h : LoadRect.covChk (L.map Sigma.fst) (LoadRect.whole s) t = true) (y : s.Idx) : ∃ pc ∈ L, y ∈ pc.1.set := by
  have := LoadRect.cover_of_covChk L (LoadRect.whole s) t h y
  rwa [LoadRect.idx_whole] at this

end Cert.KernelIdeal.Gen

end
-- ==== Proof.Segment.lean ====
module

public import proofs.«01_k».proof.Proof.Common

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! One call as a segment of the program, and what it leaves in the buffers: stated for any of the calls. -/

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- The contents `W` as a call finds them on each core. -/
abbrev entry (W : Dev nD → Valuation τ sig (Elt F)) : (c : Dev nD) → (b : Ref sig .tc) → Buf (Elt F) ((c : Thread nD τ).loc b) := fun c b => W c b

section
variable {cfg : Cfg sig Λ₀} {c : Dev nD} (dat : Dat τ (Elt F) Unit ℕ (UR sig nD τ) ℕ cfg c) (W : Valuation τ sig (Elt F))

/-- After a call: its arrays at what the pipeline leaves, everything else as before. -/
def leave : Valuation τ sig (Elt F) := Pipeline.withArrays cfg.spec c W fun w => dat.arrAt w cfg.N

theorem leave_arr (hinj : Function.Injective (Pipeline.arrRef cfg.spec)) (w : Fin cfg.W) :
    leave dat W (Proc.devRef .tc (Pipeline.arrRef cfg.spec w)) = dat.arrAt w cfg.N := by
  unfold leave; exact Pipeline.withArrays_arr _ hinj c _ _ w

theorem leave_of_ne (b : Ref sig .tc) (hb : ∀ w, Pipeline.arrRef cfg.spec w ≠ b) :
    leave dat W (Proc.devRef .tc b) = W (Proc.devRef .tc b) := by
  unfold leave; exact Pipeline.withArrays_of_ne _ c _ _ b hb

/-- A buffer that is no output array is as before. -/
theorem leave_of (hinj : Function.Injective (Pipeline.arrRef cfg.spec)) (hA : ∀ w, dat.A w = W (Proc.devRef .tc (Pipeline.arrRef cfg.spec w)))
    (r : Ref sig .tc) (h : ∀ w : Fin cfg.W, Pipeline.arrRef cfg.spec w = r → (cfg.win w).isOut = false) :
    leave dat W (Proc.devRef .tc r) = W (Proc.devRef .tc r) := by
  by_cases hw : ∃ w : Fin cfg.W, Pipeline.arrRef cfg.spec w = r
  · obtain ⟨w, rfl⟩ := hw
    exact (leave_arr dat W hinj w).trans ((dat.arrAt_in w (h w rfl) _).trans (hA w))
  · exact leave_of_ne dat W r fun w e => hw ⟨w, e⟩
end

section
variable (pd : (p : Fin 3) → (c : Dev nD) → Dat τ (Elt F) Unit ℕ (UR sig nD τ) ℕ (Pipeline.pin (pcfgs (F := F)) adm p) c) (p : Fin 3)

/-- Call `p` as a segment: entered from every buffer at `W`, left at what the call leaves of `W`. -/
def callSeg (hl : Pipeline.LaunchFacts (nD := nD) (τ := τ) cfgs p) (W : Dev nD → Valuation τ sig (Elt F))
    (hbody : ∀ c, BodyObligation (pd p c) (defs₀ (F := F)) Variants.none () Set.univ)
    (hA : ∀ c w, (pd p c).A w = entry W c (Pipeline.arrRef (Pipeline.pin (pcfgs (F := F)) adm p).spec w))
    (hq : ∀ c w, (pd p c).q w = fullShare) (howed : ∀ c t, (pd p c).owed t = 0) (hrec : ∀ c x, x ∈ (pd p c).recorded 0)
    (hΦ : ∀ c t, (pd p c).Φ t = Pipeline.ΦA (Pipeline.pin (pcfgs (F := F)) adm p).spec c) :
    Pipeline.RegionSeg (pcfgs (F := F)) adm pd () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (leave (pd p c) (W c)) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (entry W c)
  hentry c := by
    rw [Pipeline.ownSems0_none]
    have hsplit := Pipeline.arrays_of_unscopedBufs (p := p) (pcfgs (F := F)) adm pd hl.win hl.arr_whole c
      ((pd p c).share_full fun w => hq c w) (entry W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pd ((pd p c).share_full fun w => hq c w)
      (entry W c) (fun b => leave (pd p c) (W c) b) ((pd p c).arrAt · (Pipeline.pin (pcfgs (F := F)) adm p).N)
      (fun w => (leave_arr (pd p c) (W c) hl.win.arr_inj w).symm)
      (fun b hb => leave_of_ne (pd p c) (W c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO
end

end Cert.KernelIdeal.Gen

end
-- ==== Proof.Model.lean ====
module

public import proofs.«01_k».proof.Proof.Common

@[expose] public section

set_option maxRecDepth 16384

noncomputable section

namespace Cert.KernelIdeal.Gen.Model

open Idealize.ShloMosaic Cert.KernelIdeal

variable {F : FTy → Type} [FloatOps F]

/-! The body of the three calls as functions of what it loads, in the body's own operations. The calls differ in two
    constants alone, the side `cw` of the grid and `cm`, one less; both are given by their binary32 words. -/

/-- The first rows of the six overlapping windows of 128 rows that cover a segment of 675. -/
def start : Fin 6 → ℕ := ![0, 128, 256, 384, 512, 547]

/-- What the body loads at a grid point, and the point's second coordinate. -/
structure In (F : FTy → Type) where
  /-- the six windows of the segment's predictions -/
  x : Fin 6 → Vec F S1x1x128x85 .f32
  /-- the image's boxes -/
  g : Vec F S1x50x5 .f32
  /-- the anchors' widths and heights -/
  aw : Fin 3 → F .f32
  ah : Fin 3 → F .f32
  /-- the segment's number -/
  s : BitVec 32

theorem stack6 : Shape.Concatenates [S1x128, S1x128, S1x128, S1x128, S1x128, S1x128] S6x128 0 := by decide
theorem stack4 : Shape.Concatenates [S1x128, S1x128, S1x128, S1x128] S4x128 0 := by decide

/-- A constant over a shape. -/
abbrev lit (S : Shape) (b : BitVec 32) : FVec F S .f32 := broadcast S (Scalar.ofBits .f32 b : F .f32)

variable (cw cm : BitVec 32) (I : In F)

/-! ### The predictions, channel by channel -/

/-- A window with its channels along the sublanes. -/
def planes (x : Vec F S1x1x128x85 .f32) : FVec F S85x128 .f32 :=
  transpose S85x128 [1, 0] (shapeCast S128x85 x (by decide)) (by decide)

/-- Channel `k` of the six windows, one to a sublane. -/
def chan (k : ℕ) (h : S85x128.Slices ![k, 0] S1x128) : FVec F S6x128 .f32 :=
  concatenate S6x128 0
    [⟨S1x128, extractStridedSlice S1x128 ![k, 0] (planes (I.x 0)) h⟩, ⟨S1x128, extractStridedSlice S1x128 ![k, 0] (planes (I.x 1)) h⟩,
     ⟨S1x128, extractStridedSlice S1x128 ![k, 0] (planes (I.x 2)) h⟩, ⟨S1x128, extractStridedSlice S1x128 ![k, 0] (planes (I.x 3)) h⟩,
     ⟨S1x128, extractStridedSlice S1x128 ![k, 0] (planes (I.x 4)) h⟩, ⟨S1x128, extractStridedSlice S1x128 ![k, 0] (planes (I.x 5)) h⟩]
    stack6
def tx : FVec F S6x128 .f32 := chan I 0 (by decide)
def ty : FVec F S6x128 .f32 := chan I 1 (by decide)
def tw : FVec F S6x128 .f32 := chan I 2 (by decide)
def th : FVec F S6x128 .f32 := chan I 3 (by decide)
def tc : FVec F S6x128 .f32 := chan I 4 (by decide)
def sx : FVec F S6x128 .f32 := logistic (tx I)
def sy : FVec F S6x128 .f32 := logistic (ty I)
def conf : FVec F S6x128 .f32 := logistic (tc I)

/-! ### The place of a row: its number, anchor, grid row and grid column -/

def sub : IVec S6x128 32 := iota .tc S6x128 32 [0] (by decide)
def lane : IVec S6x128 32 := iota .tc S6x128 32 [1] (by decide)
def rows (s : BitVec 32) : FVec F S6x128 .f32 :=
  sitofp .f32 (addi (addi (broadcast S6x128 (Scalar.muli s 675#32))
    (select (cmpi .eq sub (broadcast S6x128 5#32)) (broadcast S6x128 547#32) (muli sub (broadcast S6x128 128#32)))) lane)
/-- The lanes of the last window that the window before holds too. -/
def dup : IVec S6x128 1 := andi (cmpi .eq sub (broadcast S6x128 5#32)) (cmpi .slt lane (broadcast S6x128 93#32))
def cell (s : BitVec 32) : FVec F S6x128 .f32 := floor (mulf (addf (rows s) (lit S6x128 0x3F000000#32)) (lit S6x128 0x3EAAAAAB#32))
def ra (s : BitVec 32) : FVec F S6x128 .f32 := subf (rows s) (mulf (lit S6x128 0x40400000#32) (cell s))
def ri (s : BitVec 32) : FVec F S6x128 .f32 := floor (divf (addf (cell s) (lit S6x128 0x3F000000#32)) (lit S6x128 cw))
def rj (s : BitVec 32) : FVec F S6x128 .f32 := subf (cell s) (mulf (lit S6x128 cw) (ri cw s))

/-! ### The boxes of the image -/

def gcol (k : ℕ) (h : S50x5.Slices ![0, k] S50x1) : FVec F S50x1 .f32 :=
  extractStridedSlice S50x1 ![0, k] (shapeCast S50x5 I.g (by decide)) h
def gx : FVec F S50x1 .f32 := gcol I 0 (by decide)
def gy : FVec F S50x1 .f32 := gcol I 1 (by decide)
def gw : FVec F S50x1 .f32 := gcol I 2 (by decide)
def gh : FVec F S50x1 .f32 := gcol I 3 (by decide)
def gc : FVec F S50x1 .f32 := gcol I 4 (by decide)
def bw : FVec F S50x1 .f32 := mulf (gw I) (lit S50x1 cw)
def bh : FVec F S50x1 .f32 := mulf (gh I) (lit S50x1 cw)
def valid : IVec S50x1 1 := cmpf .ogt (bw cw I) (lit S50x1 0x00000000#32)
def jg : FVec F S50x1 .f32 := minimumf (lit S50x1 cm) (maximumf (lit S50x1 0x00000000#32) (floor (mulf (gx I) (lit S50x1 cw))))
def ig : FVec F S50x1 .f32 := minimumf (lit S50x1 cm) (maximumf (lit S50x1 0x00000000#32) (floor (mulf (gy I) (lit S50x1 cw))))
def aw (k : Fin 3) : F .f32 := Scalar.mulf (I.aw k) (Scalar.ofBits .f32 cw)
def ah (k : Fin 3) : F .f32 := Scalar.mulf (I.ah k) (Scalar.ofBits .f32 cw)
def ainter (k : Fin 3) : FVec F S50x1 .f32 :=
  mulf (minimumf (bw cw I) (broadcast S50x1 (aw cw I k))) (minimumf (bh cw I) (broadcast S50x1 (ah cw I k)))
def aiou (k : Fin 3) : FVec F S50x1 .f32 :=
  divf (ainter cw I k)
    (addf (subf (addf (mulf (bw cw I) (bh cw I)) (broadcast S50x1 (Scalar.mulf (aw cw I k) (ah cw I k)))) (ainter cw I k))
      (lit S50x1 0x3089705F#32))
def up1 : IVec S50x1 1 := cmpf .ogt (aiou cw I 1) (aiou cw I 0)
def kb : FVec F S50x1 .f32 :=
  select (cmpf .ogt (aiou cw I 2) (select (up1 cw I) (aiou cw I 1) (aiou cw I 0))) (lit S50x1 0x40000000#32)
    (select (up1 cw I) (lit S50x1 0x3F800000#32) (lit S50x1 0x00000000#32))
def ancw : FVec F S50x1 .f32 :=
  select (cmpf .oeq (kb cw I) (lit S50x1 0x00000000#32)) (broadcast S50x1 (aw cw I 0))
    (select (cmpf .oeq (kb cw I) (lit S50x1 0x3F800000#32)) (broadcast S50x1 (aw cw I 1)) (broadcast S50x1 (aw cw I 2)))
def anch : FVec F S50x1 .f32 :=
  select (cmpf .oeq (kb cw I) (lit S50x1 0x00000000#32)) (broadcast S50x1 (ah cw I 0))
    (select (cmpf .oeq (kb cw I) (lit S50x1 0x3F800000#32)) (broadcast S50x1 (ah cw I 1)) (broadcast S50x1 (ah cw I 2)))

/-- A column of the boxes over all lanes. -/
def bc (v : FVec F S50x1 .f32) : FVec F S50x128 .f32 := broadcastTo S50x128 (shapeCast S50x1 v (by decide)) (by decide)
def tjg : FVec F S50x128 .f32 := bc (select (valid cw I) (jg cw cm I) (lit S50x1 0xBF800000#32))
def tig : FVec F S50x128 .f32 := bc (ig cw cm I)
def tkb : FVec F S50x128 .f32 := bc (kb cw I)
def tax : FVec F S50x128 .f32 := bc (subf (mulf (gx I) (lit S50x1 cw)) (jg cw cm I))
def tay : FVec F S50x128 .f32 := bc (subf (mulf (gy I) (lit S50x1 cw)) (ig cw cm I))
def taw : FVec F S50x128 .f32 := bc (log (divf (select (valid cw I) (bw cw I) (lit S50x1 0x3F800000#32)) (ancw cw I)))
def tah : FVec F S50x128 .f32 := bc (log (divf (select (valid cw I) (bh cw I) (lit S50x1 0x3F800000#32)) (anch cw I)))
def tgc : FVec F S50x128 .f32 := bc (gc I)
def tx0 : FVec F S50x128 .f32 := bc (subf (gx I) (mulf (gw I) (lit S50x1 0x3F000000#32)))
def tx1 : FVec F S50x128 .f32 := bc (addf (gx I) (mulf (gw I) (lit S50x1 0x3F000000#32)))
def ty0 : FVec F S50x128 .f32 := bc (subf (gy I) (mulf (gh I) (lit S50x1 0x3F000000#32)))
def ty1 : FVec F S50x128 .f32 := bc (addf (gy I) (mulf (gh I) (lit S50x1 0x3F000000#32)))
def tarea : FVec F S50x128 .f32 := bc (mulf (gw I) (gh I))

/-! ### The predicted boxes -/

def awc : FVec F S6x128 .f32 :=
  select (cmpf .oeq (ra (F := F) I.s) (lit S6x128 0x00000000#32)) (broadcast S6x128 (aw cw I 0))
    (select (cmpf .oeq (ra (F := F) I.s) (lit S6x128 0x3F800000#32)) (broadcast S6x128 (aw cw I 1)) (broadcast S6x128 (aw cw I 2)))
def ahc : FVec F S6x128 .f32 :=
  select (cmpf .oeq (ra (F := F) I.s) (lit S6x128 0x00000000#32)) (broadcast S6x128 (ah cw I 0))
    (select (cmpf .oeq (ra (F := F) I.s) (lit S6x128 0x3F800000#32)) (broadcast S6x128 (ah cw I 1)) (broadcast S6x128 (ah cw I 2)))
def px : FVec F S6x128 .f32 := divf (addf (sx I) (rj cw I.s)) (lit S6x128 cw)
def py : FVec F S6x128 .f32 := divf (addf (sy I) (ri cw I.s)) (lit S6x128 cw)
def pw : FVec F S6x128 .f32 := divf (mulf (exp (tw I)) (awc cw I)) (lit S6x128 cw)
def ph : FVec F S6x128 .f32 := divf (mulf (exp (th I)) (ahc cw I)) (lit S6x128 cw)
def px0 : FVec F S6x128 .f32 := subf (px cw I) (mulf (pw cw I) (lit S6x128 0x3F000000#32))
def px1 : FVec F S6x128 .f32 := addf (px cw I) (mulf (pw cw I) (lit S6x128 0x3F000000#32))
def py0 : FVec F S6x128 .f32 := subf (py cw I) (mulf (ph cw I) (lit S6x128 0x3F000000#32))
def py1 : FVec F S6x128 .f32 := addf (py cw I) (mulf (ph cw I) (lit S6x128 0x3F000000#32))
def parea : FVec F S6x128 .f32 := mulf (pw cw I) (ph cw I)

/-! ### Each box against each predicted box -/

theorem slice50 {n : ℕ} (h : n < 50) : S50x128.Slices ![n, 0] S1x128 := by
  have : ∀ k : Fin 50, S50x128.Slices ![k.val, 0] S1x128 := by decide
  exact this ⟨n, h⟩
/-- Row `n` of a table of the boxes, over the six windows. -/
def row (q : FVec F S50x128 .f32) (n : ℕ) (h : n < 50) : FVec F S6x128 .f32 :=
  broadcastTo S6x128 (extractStridedSlice S1x128 ![n, 0] q (slice50 h)) (by decide)
def rowc (q : FVec F S50x128 .f32) (n : ℕ) (h : n < 50) : FVec F S6x128 .f32 :=
  broadcastTo S6x128 (shapeCast S1x128 (extractStridedSlice S1x128 ![n, 0] q (slice50 h)) (by decide)) (by decide)
def inter (n : ℕ) (h : n < 50) : FVec F S6x128 .f32 :=
  mulf (maximumf (lit S6x128 0x00000000#32) (subf (minimumf (px1 cw I) (row (tx1 I) n h)) (maximumf (px0 cw I) (row (tx0 I) n h))))
    (maximumf (lit S6x128 0x00000000#32) (subf (minimumf (py1 cw I) (row (ty1 I) n h)) (maximumf (py0 cw I) (row (ty0 I) n h))))
def iou (n : ℕ) (h : n < 50) : FVec F S6x128 .f32 :=
  divf (inter cw I n h) (addf (subf (addf (parea cw I) (row (tarea I) n h)) (inter cw I n h)) (lit S6x128 0x3089705F#32))
def hit (n : ℕ) (h : n < 50) : IVec S6x128 1 :=
  andi (andi (cmpf .oeq (rj cw I.s) (row (tjg cw cm I) n h)) (cmpf .oeq (ri cw I.s) (row (tig cw cm I) n h)))
    (cmpf .oeq (ra (F := F) I.s) (row (tkb cw I) n h))
/-- The greatest overlap with the first `n` boxes. -/
def best : (n : ℕ) → n ≤ 50 → FVec F S6x128 .f32
  | 0, _ => lit S6x128 0x00000000#32
  | n + 1, h => maximumf (best n (Nat.le_of_succ_le h)) (iou cw I n h)
/-- What the last box of the first `n` that falls on the cell assigns. -/
def last (v : (n : ℕ) → n < 50 → FVec F S6x128 .f32) : (n : ℕ) → n ≤ 50 → FVec F S6x128 .f32
  | 0, _ => lit S6x128 0x00000000#32
  | n + 1, h => select (hit cw cm I n h) (v n h) (last v n (Nat.le_of_succ_le h))
def ones (n : ℕ) (_ : n < 50) : FVec F S6x128 .f32 := lit S6x128 0x3F800000#32
def mask : FVec F S6x128 .f32 := last cw cm I ones 50 (le_refl _)
def mx : FVec F S6x128 .f32 := last cw cm I (rowc (tax cw cm I)) 50 (le_refl _)
def my : FVec F S6x128 .f32 := last cw cm I (rowc (tay cw cm I)) 50 (le_refl _)
def mw : FVec F S6x128 .f32 := last cw cm I (rowc (taw cw I)) 50 (le_refl _)
def mh : FVec F S6x128 .f32 := last cw cm I (rowc (tah cw I)) 50 (le_refl _)
def mc : FVec F S6x128 .f32 := last cw cm I (rowc (tgc I)) 50 (le_refl _)
def det : FVec F S6x128 .f32 := sitofp .f32 (extui 32 (cmpf .ogt (best cw I 50 (le_refl _)) (lit S6x128 0x3F19999A#32)) (by decide))

/-! ### What the body stores -/

theorem slice6 (k : Fin 6) : S6x128.Slices ![k.val, 0] S1x128 := by revert k; decide
/-- One sublane. -/
def sl (k : Fin 6) (v : FVec F S6x128 .f32) : FVec F S1x128 .f32 := extractStridedSlice S1x128 ![k.val, 0] v (slice6 k)
def logits (k : Fin 6) : FVec F S80x128 .f32 := extractStridedSlice S80x128 ![5, 0] (planes (I.x k)) (by decide)
def expo (k : Fin 6) : FVec F S80x128 .f32 :=
  exp (subf (logits I k) (broadcastTo S80x128 (shapeCast S1x128
    (multiReduction .maximumf [0] S128 (logits I k) 0xFF800000#32 (by decide) (.inl rfl) rfl) (by decide)) (by decide)))
def prob (k : Fin 6) : FVec F S80x128 .f32 :=
  divf (expo I k) (broadcastTo S80x128 (shapeCast S1x128
    (multiReduction .add [0] S128 (expo I k) 0x00000000#32 (by decide) (.inl rfl) rfl) (by decide)) (by decide))
def score (k : Fin 6) : FVec F S1x1x128x80 .f32 :=
  shapeCast S1x1x128x80 (transpose S128x80 [1, 0] (mulf (prob I k) (broadcastTo S80x128 (sl k (conf I)) (by decide))) (by decide)) (by decide)
def box (k : Fin 6) : FVec F S1x1x128x4 .f32 :=
  shapeCast S1x1x128x4 (transpose S128x4 [1, 0] (concatenate S4x128 0
    [⟨S1x128, mulf (sl k (px0 cw I)) (lit S1x128 0x43F00000#32)⟩, ⟨S1x128, mulf (sl k (py0 cw I)) (lit S1x128 0x43F00000#32)⟩,
     ⟨S1x128, mulf (sl k (px1 cw I)) (lit S1x128 0x43F00000#32)⟩, ⟨S1x128, mulf (sl k (py1 cw I)) (lit S1x128 0x43F00000#32)⟩]
    stack4) (by decide)) (by decide)
def classes : FVec F S80x1 .f32 := sitofp .f32 (iota .tc S80x1 32 [0] (by decide))
def off (k : Fin 6) : FVec F S80x128 .f32 :=
  subf (sitofp .f32 (extui 32 (cmpf .oeq (broadcastTo S80x128 classes (by decide)) (broadcastTo S80x128 (sl k (mc cw cm I)) (by decide))) (by decide)))
    (prob I k)
def clsrow (k : Fin 6) : FVec F S1x128 .f32 :=
  mulf (shapeCast S1x128 (multiReduction .add [0] S128 (mulf (off cw cm I k) (off cw cm I k)) 0x00000000#32 (by decide) (.inl rfl) rfl) (by decide))
    (sl k (mask cw cm I))
def cls : FVec F S6x128 .f32 :=
  concatenate S6x128 0 [⟨S1x128, clsrow cw cm I 0⟩, ⟨S1x128, clsrow cw cm I 1⟩, ⟨S1x128, clsrow cw cm I 2⟩,
    ⟨S1x128, clsrow cw cm I 3⟩, ⟨S1x128, clsrow cw cm I 4⟩, ⟨S1x128, clsrow cw cm I 5⟩] stack6
def noobj : FVec F S6x128 .f32 :=
  mulf (mulf (subf (lit S6x128 0x3F800000#32) (det cw I)) (subf (lit S6x128 0x3F800000#32) (mask cw cm I))) (mulf (conf I) (conf I))
def obj : FVec F S6x128 .f32 :=
  mulf (mulf (lit S6x128 0x40A00000#32) (mask cw cm I))
    (mulf (subf (lit S6x128 0x3F800000#32) (conf I)) (subf (lit S6x128 0x3F800000#32) (conf I)))
def sq (u v : FVec F S6x128 .f32) : FVec F S6x128 .f32 := mulf (subf u v) (subf u v)
def coord : FVec F S6x128 .f32 :=
  mulf (mask cw cm I) (addf (addf (addf (sq (mx cw cm I) (sx I)) (sq (my cw cm I) (sy I))) (sq (mw cw cm I) (tw I))) (sq (mh cw cm I) (th I)))
def cells : FVec F S6x128 .f32 :=
  select dup (lit S6x128 0x00000000#32) (addf (addf (addf (noobj cw cm I) (obj cw cm I)) (coord cw cm I)) (cls cw cm I))
def total : F .f32 :=
  Scalar.mulf (Scalar.ofBits .f32 0x3F000000#32)
    (extractAt ![0, 0, 0] (shapeCast S1x1x1 (multiReduction .add [1, 2] S1 (shapeCast S1x6x128 (cells cw cm I) (by decide)) 0x00000000#32
      (by decide) (.inl rfl) rfl) (by decide)) (by decide))
/-- The loss row after the point, from the row before it. -/
def lossRow (prev : FVec F S1x1x128 .f32) : FVec F S1x1x128 .f32 :=
  addf (shapeCast S1x1x128 prev (by decide)) (broadcast S1x1x128 (total cw cm I))

end Cert.KernelIdeal.Gen.Model
-- ==== Proof.Stores.lean ====
module

public import proofs.«01_k».proof.Proof.Model

@[expose] public section

set_option maxRecDepth 16384

noncomputable section

namespace Cert.KernelIdeal.Gen

open Idealize.ShloMosaic Idealize.ShloMosaic.TcCoe Idealize.ShloMosaic.Tactic Cert.KernelIdeal

variable {F : FTy → Type} [FloatOps F]

/-! The body's loads from its staging buffers, and its stores into them. -/

theorem inbWin (k : Fin 6) : ∀ a, (![0, 0, Model.start k, 0] : Fin 4 → ℕ) a + S1x1x128x85.size a ≤ S1x1x675x85.size a := by
  revert k; decide
theorem inbAnc (k : Fin 3) (d : Fin 2) : ∀ a, (![k.val, d.val] : Fin 2 → ℕ) a + S1x1.size a ≤ S3x2.size a := by
  revert k d; decide
theorem one_pos : 0 < S1x1.numel := by decide
theorem inbBox (k : Fin 6) : ∀ a, (![0, 0, Model.start k, 0] : Fin 4 → ℕ) a + (![1, 1, 128, 4] : Fin 4 → ℕ) a ≤ S1x1x675x4.size a := by
  revert k; decide
theorem inbScore (k : Fin 6) : ∀ a, (![0, 0, Model.start k, 0] : Fin 4 → ℕ) a + (![1, 1, 128, 80] : Fin 4 → ℕ) a ≤ S1x1x675x80.size a := by
  revert k; decide

/-- What a body loads from staging buffers that hold `x0`, `x1`, `x2`. -/
def Mems.load (M : Mems) (x0 : Vec F S3x2 .f32) (x1 : Vec F S1x1x675x85 .f32) (x2 : Vec F S1x50x5 .f32) (s : ℕ) : Model.In F where
  x k := View.readAt (Elt F) M.a3.view (Rect.unit (s := S1x1x675x85) ![0, 0, Model.start k, 0] S1x1x128x85.size (inbWin k)).toLoadRect (M.h3.unread x1)
  g := View.readAt (Elt F) M.a4.view (Rect.unit (s := S1x50x5) ![0, 0, 0] S1x50x5.size (by decide)).toLoadRect (M.h4.unread x2)
  aw k := View.readAt (Elt F) M.a2.view (Rect.unit (s := S3x2) ![k.val, 0] S1x1.size (inbAnc k 0)).toLoadRect (M.h2.unread x0) (Shape.Idx.first one_pos)
  ah k := View.readAt (Elt F) M.a2.view (Rect.unit (s := S3x2) ![k.val, 1] S1x1.size (inbAnc k 1)).toLoadRect (M.h2.unread x0) (Shape.Idx.first one_pos)
  s := BitVec.ofNat 32 s

namespace Model
variable (cw cm : BitVec 32) (I : In F)

def boxPiece (k : Fin 6) : View.Piece (Elt F) S1x1x675x4 .f32 :=
  ⟨Rect.unit ![0, 0, start k, 0] ![1, 1, 128, 4] (inbBox k), box cw I k⟩
def scorePiece (k : Fin 6) : View.Piece (Elt F) S1x1x675x80 .f32 :=
  ⟨Rect.unit ![0, 0, start k, 0] ![1, 1, 128, 80] (inbScore k), score I k⟩
/-- The stores of the boxes, the last first. -/
def boxPieces : List (View.Piece (Elt F) S1x1x675x4 .f32) :=
  [boxPiece cw I 5, boxPiece cw I 4, boxPiece cw I 3, boxPiece cw I 2, boxPiece cw I 1, boxPiece cw I 0]
def scorePieces : List (View.Piece (Elt F) S1x1x675x80 .f32) :=
  [scorePiece I 5, scorePiece I 4, scorePiece I 3, scorePiece I 2, scorePiece I 1, scorePiece I 0]
end Model

end Cert.KernelIdeal.Gen
-- ==== Proof.Calls.lean ====
module

public import proofs.«01_k».proof.Proof.Stores
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What a body does at a grid point, for any of the three calls. A call is known by its grid width's literals `cw` and
    `cm`, the number `S` of segments its loss row runs over, its bodies and their staging memrefs. -/

/-- The outputs' contents: loss row, boxes, scores. -/
abbrev Out3 (F : FTy → Type) [FloatOps F] := Vec F S1x1x128 .f32 × Vec F S1x1x675x4 .f32 × Vec F S1x1x675x80 .f32

/-- A body at one grid point. -/
abbrev BodyProg (F : FTy → Type) [FloatOps F] := Prog (TpuEff nD τ sig (Elt F) Λ₀ .tc) PUnit

/-- The condition under which a body clears its loss row: the segment `k` is zero. -/
abbrev ClearsAt (k : ℕ) : Prop := (Scalar.cmpi .ne (Scalar.extui (Scalar.cmpi .eq (BitVec.ofNat 32 k) 0#32)) 0#32) = 1#1

theorem clearsAt_iff {k : ℕ} (h : k < 16) : ClearsAt k ↔ k = 0 := by
  unfold ClearsAt
  word_cmp

/-- Run on the memrefs `M`, whose inputs hold `x0`, `x1`, `x2` and whose loss row's contents meet `P`, the body `e` leaves
    the inputs as they were and makes the stores `L3`, `L4`, `L5` (last first) into the outputs. -/
def Makes (c : Dev nD) (M : Mems) (e : BodyProg F) (x0 : Vec F S3x2 .f32) (x1 : Vec F S1x1x675x85 .f32) (x2 : Vec F S1x50x5 .f32)
    (P : M.a5.view.ty.Contents (Elt F) → Prop) (L3 : List (View.Piece (Elt F) S1x1x128 .f32)) (L4 : List (View.Piece (Elt F) S1x1x675x4 .f32))
    (L5 : List (View.Piece (Elt F) S1x1x675x80 .f32)) : Prop :=
  ∀ f3, P f3 → ∀ f4 f5 (E : Set ℕ) (K : PUnit → sProp 𝕄),
    iprop((M.a2.view.loc (c : Thread nD τ) ↦[M.a2.view.set]{fullShare} M.h2.unread x0)
        ∗ (M.a3.view.loc (c : Thread nD τ) ↦[M.a3.view.set]{fullShare} M.h3.unread x1)
        ∗ (M.a4.view.loc (c : Thread nD τ) ↦[M.a4.view.set]{fullShare} M.h4.unread x2)
        ∗ (M.a5.view.loc (c : Thread nD τ) ↦[M.a5.view.set]{fullShare} f3)
        ∗ (M.a6.view.loc (c : Thread nD τ) ↦[M.a6.view.set]{fullShare} f4)
        ∗ (M.a7.view.loc (c : Thread nD τ) ↦[M.a7.view.set]{fullShare} f5)
        ∗ (iprop((M.a2.view.loc (c : Thread nD τ) ↦[M.a2.view.set]{fullShare} M.h2.unread x0)
            ∗ (M.a3.view.loc (c : Thread nD τ) ↦[M.a3.view.set]{fullShare} M.h3.unread x1)
            ∗ (M.a4.view.loc (c : Thread nD τ) ↦[M.a4.view.set]{fullShare} M.h4.unread x2)
            ∗ (M.a5.view.loc (c : Thread nD τ) ↦[M.a5.view.set]{fullShare} M.a5.view.writes (Elt F) f3 L3)
            ∗ (M.a6.view.loc (c : Thread nD τ) ↦[M.a6.view.set]{fullShare} M.a6.view.writes (Elt F) f4 L4)
            ∗ (M.a7.view.loc (c : Thread nD τ) ↦[M.a7.view.set]{fullShare} M.a7.view.writes (Elt F) f5 L5)) -∗ K ⟨⟩))
      ⊢ wp frame (wpE (defs₀ (F := F)) Variants.none c none) E e K

/-- Some stores that the body makes. -/
abbrev Run (c : Dev nD) (M : Mems) (e : BodyProg F) (x0 : Vec F S3x2 .f32) (x1 : Vec F S1x1x675x85 .f32) (x2 : Vec F S1x50x5 .f32)
    (P : M.a5.view.ty.Contents (Elt F) → Prop) :=
  Σ' (L3 : List (View.Piece (Elt F) S1x1x128 .f32)), Σ' (L4 : List (View.Piece (Elt F) S1x1x675x4 .f32)),
    { L5 : List (View.Piece (Elt F) S1x1x675x80 .f32) // Makes c M e x0 x1 x2 P L3 L4 L5 }

section
variable {c : Dev nD} {M : Mems} {e : BodyProg F} {x0 : Vec F S3x2 .f32} {x1 : Vec F S1x1x675x85 .f32} {x2 : Vec F S1x50x5 .f32}
  {P : M.a5.view.ty.Contents (Elt F) → Prop} {L3 : List (View.Piece (Elt F) S1x1x128 .f32)} {L4 : List (View.Piece (Elt F) S1x1x675x4 .f32)}
  {L5 : List (View.Piece (Elt F) S1x1x675x80 .f32)}

theorem Run.makes (r : Run c M e x0 x1 x2 P) (e3 : r.1 = L3) (e4 : r.2.1 = L4) (e5 : r.2.2.1 = L5) : Makes c M e x0 x1 x2 P L3 L4 L5 := by
  subst e3 e4 e5; exact r.2.2.2

/-- The stores amount to the contents `o`, whatever the buffers held before. -/
structure Reads (M : Mems) (L3 : List (View.Piece (Elt F) S1x1x128 .f32)) (L4 : List (View.Piece (Elt F) S1x1x675x4 .f32))
    (L5 : List (View.Piece (Elt F) S1x1x675x80 .f32)) (o : Out3 F) : Prop where
  loss : ∀ f, M.a5.view.read (Elt F) (M.a5.view.writes (Elt F) f L3) = o.1
  boxes : ∀ f, M.a6.view.read (Elt F) (M.a6.view.writes (Elt F) f L4) = o.2.1
  scores : ∀ f, M.a7.view.read (Elt F) (M.a7.view.writes (Elt F) f L5) = o.2.2

/-- As a step of a pipeline: buffers found at `b0`, `b1`, … are left at the inputs' blocks and at the outputs the stores amount to. -/
theorem Makes.step (h : Makes c M e x0 x1 x2 P L3 L4 L5) (Φ O : sProp 𝕄) {T0 T1 T2 T3 T4 T5 : Type}
    {b0 : T0 → Vec F S3x2 .f32} {b1 : T1 → Vec F S1x1x675x85 .f32} {b2 : T2 → Vec F S1x50x5 .f32} {b3 : T3 → Vec F S1x1x128 .f32}
    {b4 : T4 → Vec F S1x1x675x4 .f32} {b5 : T5 → Vec F S1x1x675x80 .f32} {o : Out3 F} (ho : Reads M L3 L4 L5 o)
    (h0 : ∀ d, b0 d = x0) (h1 : ∀ d, b1 d = x1) (h2 : ∀ d, b2 d = x2) (h3 : ∀ d f, M.a5.view.read (Elt F) f = b3 d → P f) :
    iprop(Φ ∗ O ∗ (∃ d, owns (c : Thread nD τ) M.a2 fullShare (b0 d)) ∗ (∃ d, owns (c : Thread nD τ) M.a3 fullShare (b1 d))
        ∗ (∃ d, owns (c : Thread nD τ) M.a4 fullShare (b2 d)) ∗ (∃ d, owns (c : Thread nD τ) M.a5 fullShare (b3 d))
        ∗ (∃ d, owns (c : Thread nD τ) M.a6 fullShare (b4 d)) ∗ (∃ d, owns (c : Thread nD τ) M.a7 fullShare (b5 d)))
      ⊢ wp frame (wpE (defs₀ (F := F)) Variants.none c none) Set.univ e fun _ =>
        iprop(Φ ∗ O ∗ owns (c : Thread nD τ) M.a2 fullShare x0 ∗ owns (c : Thread nD τ) M.a3 fullShare x1 ∗ owns (c : Thread nD τ) M.a4 fullShare x2
          ∗ owns (c : Thread nD τ) M.a5 fullShare o.1 ∗ owns (c : Thread nD τ) M.a6 fullShare o.2.1 ∗ owns (c : Thread nD τ) M.a7 fullShare o.2.2) := by
  unfold owns
  simp only [h0, h1, h2]
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  obtain rfl := M.h2.eq_unread hf0; obtain rfl := M.h3.eq_unread hf1; obtain rfl := M.h4.eq_unread hf2
  iapply (h f3 (h3 d3 f3 hf3) f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists _; isplitr; · ipureintro; exact M.h2.read_unread _
    iexact H0
  isplitl [H1]
  · iexists _; isplitr; · ipureintro; exact M.h3.read_unread _
    iexact H1
  isplitl [H2]
  · iexists _; isplitr; · ipureintro; exact M.h4.read_unread _
    iexact H2
  isplitl [H3]
  · iexists _; isplitr; · ipureintro; exact ho.loss f3
    iexact H3
  isplitl [H4]
  · iexists _; isplitr; · ipureintro; exact ho.boxes f4
    iexact H4
  iexists _; isplitr; · ipureintro; exact ho.scores f5
  iexact H5
end

/-- The whole loss row as a store's place. -/
abbrev lossRect : Rect S1x1x128 := Rect.unit ![0, 0, 0] S1x1x128.size (by decide)
/-- The store that clears the loss row, -/
abbrev clearPiece : View.Piece (Elt F) S1x1x128 .f32 := ⟨lossRect, k0_pay2⟩
/-- the row then loaded, -/
abbrev clearedRow (M : Mems) : Vec F S1x1x128 .f32 := View.readCov (Val := Elt F) M.a5.view [clearPiece] lossRect.toLoadRect
/-- and the row loaded where it holds `xo3`. -/
abbrev carriedRow (M : Mems) (xo3 : Vec F S1x1x128 .f32) : Vec F S1x1x128 .f32 :=
  View.readAt (Elt F) M.a5.view lossRect.toLoadRect (M.h5.unread xo3)

/-- A staging buffer for each of boxes and scores, through which their contents are stated. -/
abbrev boxView : View sig .tc .vmem S1x1x675x4 .f32 := (Memref.whole cc0_stg4_0 : Memref sig .tc .vmem S1x1x675x4 .f32).view
abbrev scoreView : View sig .tc .vmem S1x1x675x80 .f32 := (Memref.whole cc0_stg5_0 : Memref sig .tc .vmem S1x1x675x80 .f32).view

section
variable (cw cm : BitVec 32)

/-- The outputs of a body that loads `I` and, of its loss row, `x`. -/
def outOf (I : Model.In F) (x : Vec F S1x1x128 .f32) : Out3 F :=
  (Model.lossRow cw cm I x, boxView.read (Elt F) (boxView.writes (Elt F) boxView.junk (Model.boxPieces cw I)),
    scoreView.read (Elt F) (scoreView.writes (Elt F) scoreView.junk (Model.scorePieces I)))

theorem cover_boxes (I : Model.In F) (y : S1x1x675x4.Idx) : ∃ pc ∈ Model.boxPieces cw I, y ∈ pc.1.set := cover_whole _ cover6 (by sl_kernel_rfl) y
theorem cover_scores (I : Model.In F) (y : S1x1x675x80.Idx) : ∃ pc ∈ Model.scorePieces I, y ∈ pc.1.set := cover_whole _ cover6 (by sl_kernel_rfl) y

/-- Stores that end in a whole loss row and cover the boxes and the scores amount to what they read back as. -/
theorem reads_of (M : Mems) (w : Vec F S1x1x128 .f32) (rest : List (View.Piece (Elt F) S1x1x128 .f32))
    {L4 : List (View.Piece (Elt F) S1x1x675x4 .f32)} {L5 : List (View.Piece (Elt F) S1x1x675x80 .f32)}
    (h4 : ∀ y, ∃ pc ∈ L4, y ∈ pc.1.set) (h5 : ∀ y, ∃ pc ∈ L5, y ∈ pc.1.set) :
    Reads M (⟨lossRect, w⟩ :: rest) L4 L5 (w, boxView.read (Elt F) (boxView.writes (Elt F) boxView.junk L4),
      scoreView.read (Elt F) (scoreView.writes (Elt F) scoreView.junk L5)) :=
  ⟨fun f => View.read_writes_full M.a5.view f _ _ _, fun f => View.read_writes_of_cover M.a6.view f boxView boxView.junk L4 h4,
    fun f => View.read_writes_of_cover M.a7.view f scoreView scoreView.junk L5 h5⟩

theorem reads_outOf (M : Mems) (I : Model.In F) (x : Vec F S1x1x128 .f32) (rest : List (View.Piece (Elt F) S1x1x128 .f32)) :
    Reads M (⟨lossRect, Model.lossRow cw cm I x⟩ :: rest) (Model.boxPieces cw I) (Model.scorePieces I) (outOf cw cm I x) := by
  unfold outOf
  exact reads_of M _ rest (cover_boxes cw I) (cover_scores I)

variable (c : Dev nD) (S : ℕ) {N : ℕ} (e : Fin N → BodyProg F) (mems : Fin N → Mems)

/-- A call's bodies make the model's stores: at a first segment from a cleared loss row, elsewhere from the row found. -/
structure Steps : Prop where
  clears : ∀ t : Fin N, t.val % S = 0 → ∀ x0 x1 x2, Makes c (mems t) (e t) x0 x1 x2 (fun _ => True)
    [⟨lossRect, Model.lossRow cw cm ((mems t).load x0 x1 x2 (t.val % S)) (clearedRow (mems t))⟩, clearPiece]
    (Model.boxPieces cw ((mems t).load x0 x1 x2 (t.val % S))) (Model.scorePieces ((mems t).load x0 x1 x2 (t.val % S)))
  adds : ∀ t : Fin N, ¬t.val % S = 0 → ∀ x0 x1 x2 xo3, Makes c (mems t) (e t) x0 x1 x2 (fun f => f = (mems t).h5.unread xo3)
    [⟨lossRect, Model.lossRow cw cm ((mems t).load x0 x1 x2 (t.val % S)) (carriedRow (mems t) xo3)⟩]
    (Model.boxPieces cw ((mems t).load x0 x1 x2 (t.val % S))) (Model.scorePieces ((mems t).load x0 x1 x2 (t.val % S)))

variable (x0 : Fin N → Vec F S3x2 .f32) (x1 : Fin N → Vec F S1x1x675x85 .f32) (x2 : Fin N → Vec F S1x50x5 .f32)

/-- What point `t` loads. -/
abbrev loads (t : Fin N) : Model.In F := (mems t).load (x0 t) (x1 t) (x2 t) (t.val % S)

/-- What the output staging buffers hold after the body at position `n`: the loss row is carried from the position before
    unless this one clears it. -/
def outsAt : (n : ℕ) → n < N → Out3 F
  | 0, hn => outOf cw cm (loads S mems x0 x1 x2 ⟨0, hn⟩) (clearedRow (mems ⟨0, hn⟩))
  | n + 1, hn => outOf cw cm (loads S mems x0 x1 x2 ⟨n + 1, hn⟩)
      (if (n + 1) % S = 0 then clearedRow (mems ⟨n + 1, hn⟩) else carriedRow (mems ⟨n + 1, hn⟩) (outsAt n (Nat.lt_of_succ_lt hn)).1)

/-- The position before `t`. -/
theorem pred_lt (t : Fin N) : t.val - 1 < N := Nat.lt_of_le_of_lt (Nat.sub_le _ _) t.isLt

theorem outsAt_clears (t : Fin N) (h : t.val % S = 0) :
    outsAt cw cm S mems x0 x1 x2 t.val t.isLt = outOf cw cm (loads S mems x0 x1 x2 t) (clearedRow (mems t)) := by
  obtain ⟨n, hn⟩ := t
  cases n with
  | zero => rfl
  | succ n => rw [outsAt, if_pos h]

theorem outsAt_adds (t : Fin N) (h : ¬t.val % S = 0) :
    outsAt cw cm S mems x0 x1 x2 t.val t.isLt
      = outOf cw cm (loads S mems x0 x1 x2 t) (carriedRow (mems t) (outsAt cw cm S mems x0 x1 x2 (t.val - 1) (pred_lt t)).1) := by
  obtain ⟨n, hn⟩ := t
  cases n with
  | zero => exact absurd (Nat.zero_mod _) h
  | succ n => rw [outsAt, if_neg h]; rfl

variable {cw cm c S e mems x0 x1 x2}

/-- The body at point `t` leaves the outputs at `outsAt`. -/
theorem Steps.step (h : Steps cw cm c S e mems) (t : Fin N) (Φ O : sProp 𝕄) {T0 T1 T2 T3 T4 T5 : Type}
    {b0 : T0 → Vec F S3x2 .f32} {b1 : T1 → Vec F S1x1x675x85 .f32} {b2 : T2 → Vec F S1x50x5 .f32} {b3 : T3 → Vec F S1x1x128 .f32}
    {b4 : T4 → Vec F S1x1x675x4 .f32} {b5 : T5 → Vec F S1x1x675x80 .f32}
    (h0 : ∀ d, b0 d = x0 t) (h1 : ∀ d, b1 d = x1 t) (h2 : ∀ d, b2 d = x2 t)
    (h3 : ¬t.val % S = 0 → ∀ d, b3 d = (outsAt cw cm S mems x0 x1 x2 (t.val - 1) (pred_lt t)).1) :
    iprop(Φ ∗ O ∗ (∃ d, owns (c : Thread nD τ) (mems t).a2 fullShare (b0 d)) ∗ (∃ d, owns (c : Thread nD τ) (mems t).a3 fullShare (b1 d))
        ∗ (∃ d, owns (c : Thread nD τ) (mems t).a4 fullShare (b2 d)) ∗ (∃ d, owns (c : Thread nD τ) (mems t).a5 fullShare (b3 d))
        ∗ (∃ d, owns (c : Thread nD τ) (mems t).a6 fullShare (b4 d)) ∗ (∃ d, owns (c : Thread nD τ) (mems t).a7 fullShare (b5 d)))
      ⊢ wp frame (wpE (defs₀ (F := F)) Variants.none c none) Set.univ (e t) fun _ =>
        iprop(Φ ∗ O ∗ owns (c : Thread nD τ) (mems t).a2 fullShare (x0 t) ∗ owns (c : Thread nD τ) (mems t).a3 fullShare (x1 t)
          ∗ owns (c : Thread nD τ) (mems t).a4 fullShare (x2 t)
          ∗ owns (c : Thread nD τ) (mems t).a5 fullShare (outsAt cw cm S mems x0 x1 x2 t.val t.isLt).1
          ∗ owns (c : Thread nD τ) (mems t).a6 fullShare (outsAt cw cm S mems x0 x1 x2 t.val t.isLt).2.1
          ∗ owns (c : Thread nD τ) (mems t).a7 fullShare (outsAt cw cm S mems x0 x1 x2 t.val t.isLt).2.2) := by
  by_cases ht : t.val % S = 0
  · exact (h.clears t ht (x0 t) (x1 t) (x2 t)).step Φ O ((outsAt_clears cw cm S mems x0 x1 x2 t ht) ▸ reads_outOf cw cm _ _ _ _) h0 h1 h2 fun _ _ _ => trivial
  · exact (h.adds t ht (x0 t) (x1 t) (x2 t) _).step Φ O ((outsAt_adds cw cm S mems x0 x1 x2 t ht) ▸ reads_outOf cw cm _ _ _ _) h0 h1 h2
      fun d f hf => (mems t).h5.eq_unread (hf.trans (h3 ht d))
end

end Cert.KernelIdeal.Gen

end
-- ==== Proof.Region0.lean ====
module

public import proofs.«01_k».proof.Proof.Calls

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Call 0 of the three: its body's run at a grid point, its pipeline's proof data from the buffers as it finds them (`V`),
    and that the body does what they say. -/

/-- The body with its parts put together. -/
def body0 (i : grid0.Coords) (M : Mems) : { e : BodyProg F // cc0_kern i M.a2 M.h2 M.a3 M.h3 M.a4 M.h4 M.a5 M.h5 M.a6 M.h6 M.a7 M.h7 = e } := by
  refine ⟨?_, ?eq⟩
  case eq =>
    simp only [cc0_kern_eq_skeleton]; unfold cc0_kern_skel
    simp only [k0_part68_eq_skeleton, k0_part1_eq_skeleton, k0_part2_eq_skeleton, k0_part3_eq_skeleton,
      k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton]
    exact rfl

section
variable (c : Dev nD) (i : grid0.Coords) (M : Mems) (x0 : Vec F S3x2 .f32) (x1 : Vec F S1x1x675x85 .f32) (x2 : Vec F S1x50x5 .f32)

set_option maxHeartbeats 1000000 in
/-- The body at a point that clears the loss row. -/
def run0_A (h : ClearsAt (i 1).val) : Run c M (cc0_kern i M.a2 M.h2 M.a3 M.h3 M.a4 M.h4 M.a5 M.h5 M.a6 M.h6 M.a7 M.h7) x0 x1 x2 fun _ => True := by
  refine ⟨?_, ?_, ?_, fun f3 _ f4 f5 E K => ?run⟩
  case run =>
    rw [(body0 i M).2]; unfold body0
    iintro ⟨H0, H1, H2, H3, H4, H5, Hk⟩
    sl_exec (disch := first | sl_exact h)
    sl_step
    iapply Hk
    isplitl [H0]; · iexact H0
    isplitl [H1]; · iexact H1
    isplitl [H2]; · iexact H2
    isplitl [H3]; · iexact H3
    isplitl [H4]; · iexact H4
    iexact H5

set_option maxHeartbeats 1000000 in
/-- The body at a point that adds to the loss row `xo3`. -/
def run0_B (h : ¬ClearsAt (i 1).val) (xo3 : Vec F S1x1x128 .f32) :
    Run c M (cc0_kern i M.a2 M.h2 M.a3 M.h3 M.a4 M.h4 M.a5 M.h5 M.a6 M.h6 M.a7 M.h7) x0 x1 x2 fun f => f = M.h5.unread xo3 := by
  refine ⟨?_, ?_, ?_, fun f3 hf f4 f5 E K => ?run⟩
  case run =>
    subst hf
    rw [(body0 i M).2]; unfold body0
    iintro ⟨H0, H1, H2, H3, H4, H5, Hk⟩
    sl_exec (disch := first | sl_exact h)
    sl_step
    iapply Hk
    isplitl [H0]; · iexact H0
    isplitl [H1]; · iexact H1
    isplitl [H2]; · iexact H2
    isplitl [H3]; · iexact H3
    isplitl [H4]; · iexact H4
    iexact H5
end

/-- The staging memrefs the pipeline passes at point `t`. -/
abbrev mems0 (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)

/-- The segment of a point. -/
theorem seg0 (t : Fin cfg0.N) : (grid0.coords t 1).val = t.val % 16 := by
  have : (grid0.coords t 1).val = t.val / 1 % 16 := Pipeline.Grid.coords_val t 1 (by decide) rfl
  rwa [Nat.div_one] at this

/-- The bodies make the model's stores. -/
theorem steps0 (c : Dev nD) : Steps (F := F) 0x42700000#32 0x426C0000#32 c 16 bodyAt0 mems0 where
  clears t h x0 x1 x2 := by
    have h' : ClearsAt (grid0.coords t 1).val := by rw [seg0 t, h]; exact (clearsAt_iff (by decide)).mpr rfl
    rw [← seg0 t]
    exact (run0_A c (grid0.coords t) (mems0 t) x0 x1 x2 h').makes (by sl_kernel_rfl) (by sl_kernel_rfl) (by sl_kernel_rfl)
  adds t h x0 x1 x2 xo3 := by
    have h' : ¬ClearsAt (grid0.coords t 1).val := by rw [seg0 t]; exact fun hc => h ((clearsAt_iff (by omega)).mp hc)
    rw [← seg0 t]
    exact (run0_B c (grid0.coords t) (mems0 t) x0 x1 x2 h' xo3).makes (by sl_kernel_rfl) (by sl_kernel_rfl) (by sl_kernel_rfl)

variable (V : (c : Dev nD) → (b : Ref sig .tc) → Buf (Elt F) ((c : Thread nD τ).loc b)) (c : Dev nD)

/-- Window `w`'s block at point `t`, read off its array. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output staging buffers hold after each point. -/
abbrev outsAt0 : (n : ℕ) → n < cfg0.N → Out3 F := outsAt 0x42700000#32 0x426C0000#32 16 mems0 (iblk0 V c 0) (iblk0 V c 1) (iblk0 V c 2)

/-- The pipeline's proof data: each input's buffer keeps its block, the outputs' hold `outsAt0`. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (w : Fin cfg0.W) : (dat0 V c).A w = V c (Pipeline.arrRef spec0 w) := rfl
theorem after0_3 (t : Fin cfg0.N) : (dat0 V c).after 3 t = (outsAt0 V c t.val t.isLt).1 := rfl
theorem after0_4 (t : Fin cfg0.N) : (dat0 V c).after 4 t = (outsAt0 V c t.val t.isLt).2.1 := rfl
theorem after0_5 (t : Fin cfg0.N) : (dat0 V c).after 5 t = (outsAt0 V c t.val t.isLt).2.2 := rfl

theorem defs₀_row0 (t : Fin cfg0.N) :
    defs₀ (F := F) .tc cfg0.body (cfg0.bodyArgs t (cfg0.slots t)) = bodyAt0 t := by
  unfold defs₀; rw [Defs.onTc_tc]

/-- The body does at every point what the proof data say. -/
theorem body_obligation0 : BodyObligation (dat0 (F := F) V c) (defs₀ (F := F)) Variants.none () Set.univ := fun t => by
  rw [bigSep_W0, bigSep_W0, defs₀_row0]
  exact (steps0 c).step (x0 := iblk0 V c 0) (x1 := iblk0 V c 1) (x2 := iblk0 V c 2) t _ _
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t)
    ((dat0 V c).before_in_eq_fetched 2 rfl (fun _ => rfl) (fun _ _ _ => rfl) (fun _ => rfl) t)
    (fun h d => by
      have hN : t.val < 512 := lt_of_lt_of_eq t.isLt (show cfg0.N = 512 from N_0)
      exact (dat0 V c).before_out_kept 3 rfl t (by omega) (Bool.eq_false_iff.mpr fun h' => by have := (flush0_3 _).mp h'; dsimp only at this; omega)
        (fun _ => rfl) (fun _ _ => rfl) d)

end Cert.KernelIdeal.Gen

end
-- ==== Proof.Region1.lean ====
module

public import proofs.«01_k».proof.Proof.Calls

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Call 1 of the three: its body's run at a grid point, its pipeline's proof data from the buffers as it finds them (`V`),
    and that the body does what they say. -/

/-- The body with its parts put together. -/
def body1 (i : grid1.Coords) (M : Mems) : { e : BodyProg F // cc1_kern i M.a2 M.h2 M.a3 M.h3 M.a4 M.h4 M.a5 M.h5 M.a6 M.h6 M.a7 M.h7 = e } := by
  refine ⟨?_, ?eq⟩
  case eq =>
    simp only [cc1_kern_eq_skeleton]; unfold cc1_kern_skel
    simp only [k1_part68_eq_skeleton, k1_part1_eq_skeleton, k1_part2_eq_skeleton, k1_part3_eq_skeleton,
      k1_part4_eq_skeleton, k1_part5_eq_skeleton, k1_part6_eq_skeleton, k1_part7_eq_skeleton, k1_part8_eq_skeleton,
      k1_part9_eq_skeleton, k1_part10_eq_skeleton, k1_part11_eq_skeleton, k1_part12_eq_skeleton,
      k1_part13_eq_skeleton, k1_part14_eq_skeleton, k1_part15_eq_skeleton, k1_part16_eq_skeleton,
      k1_part17_eq_skeleton, k1_part18_eq_skeleton, k1_part19_eq_skeleton, k1_part20_eq_skeleton,
      k1_part21_eq_skeleton, k1_part22_eq_skeleton, k1_part23_eq_skeleton, k1_part24_eq_skeleton,
      k1_part25_eq_skeleton, k1_part26_eq_skeleton, k1_part27_eq_skeleton, k1_part28_eq_skeleton,
      k1_part29_eq_skeleton, k1_part30_eq_skeleton, k1_part31_eq_skeleton, k1_part32_eq_skeleton,
      k1_part33_eq_skeleton, k1_part34_eq_skeleton, k1_part35_eq_skeleton, k1_part36_eq_skeleton,
      k1_part37_eq_skeleton, k1_part38_eq_skeleton, k1_part39_eq_skeleton, k1_part40_eq_skeleton,
      k1_part41_eq_skeleton, k1_part42_eq_skeleton, k1_part43_eq_skeleton, k1_part44_eq_skeleton,
      k1_part45_eq_skeleton, k1_part46_eq_skeleton, k1_part47_eq_skeleton, k1_part48_eq_skeleton,
      k1_part49_eq_skeleton, k1_part50_eq_skeleton, k1_part51_eq_skeleton, k1_part52_eq_skeleton,
      k1_part53_eq_skeleton, k1_part54_eq_skeleton, k1_part55_eq_skeleton, k1_part56_eq_skeleton,
      k1_part57_eq_skeleton, k1_part58_eq_skeleton, k1_part59_eq_skeleton, k1_part60_eq_skeleton,
      k1_part61_eq_skeleton, k1_part62_eq_skeleton, k1_part63_eq_skeleton, k1_part64_eq_skeleton,
      k1_part65_eq_skeleton, k1_part66_eq_skeleton, k1_part67_eq_skeleton]
    exact rfl

section
variable (c : Dev nD) (i : grid1.Coords) (M : Mems) (x0 : Vec F S3x2 .f32) (x1 : Vec F S1x1x675x85 .f32) (x2 : Vec F S1x50x5 .f32)

set_option maxHeartbeats 1000000 in
/-- The body at a point that clears the loss row. -/
def run1_A (h : ClearsAt (i 1).val) : Run c M (cc1_kern i M.a2 M.h2 M.a3 M.h3 M.a4 M.h4 M.a5 M.h5 M.a6 M.h6 M.a7 M.h7) x0 x1 x2 fun _ => True := by
  refine ⟨?_, ?_, ?_, fun f3 _ f4 f5 E K => ?run⟩
  case run =>
    rw [(body1 i M).2]; unfold body1
    iintro ⟨H0, H1, H2, H3, H4, H5, Hk⟩
    sl_exec (disch := first | sl_exact h)
    sl_step
    iapply Hk
    isplitl [H0]; · iexact H0
    isplitl [H1]; · iexact H1
    isplitl [H2]; · iexact H2
    isplitl [H3]; · iexact H3
    isplitl [H4]; · iexact H4
    iexact H5

set_option maxHeartbeats 1000000 in
/-- The body at a point that adds to the loss row `xo3`. -/
def run1_B (h : ¬ClearsAt (i 1).val) (xo3 : Vec F S1x1x128 .f32) :
    Run c M (cc1_kern i M.a2 M.h2 M.a3 M.h3 M.a4 M.h4 M.a5 M.h5 M.a6 M.h6 M.a7 M.h7) x0 x1 x2 fun f => f = M.h5.unread xo3 := by
  refine ⟨?_, ?_, ?_, fun f3 hf f4 f5 E K => ?run⟩
  case run =>
    subst hf
    rw [(body1 i M).2]; unfold body1
    iintro ⟨H0, H1, H2, H3, H4, H5, Hk⟩
    sl_exec (disch := first | sl_exact h)
    sl_step
    iapply Hk
    isplitl [H0]; · iexact H0
    isplitl [H1]; · iexact H1
    isplitl [H2]; · iexact H2
    isplitl [H3]; · iexact H3
    isplitl [H4]; · iexact H4
    iexact H5
end

/-- The staging memrefs the pipeline passes at point `t`. -/
abbrev mems1 (t : Fin cfg1.N) : Mems where
  a2 := win1_0.stage (cfg1.slots t 0)
  h2 := hstage1_0 ((cfg1.slots t 0).cast nbuf1_0)
  a3 := win1_1.stage (cfg1.slots t 1)
  h3 := hstage1_1 ((cfg1.slots t 1).cast nbuf1_1)
  a4 := win1_2.stage (cfg1.slots t 2)
  h4 := hstage1_2 ((cfg1.slots t 2).cast nbuf1_2)
  a5 := win1_3.stage (cfg1.slots t 3)
  h5 := hstage1_3 ((cfg1.slots t 3).cast nbuf1_3)
  a6 := win1_4.stage (cfg1.slots t 4)
  h6 := hstage1_4 ((cfg1.slots t 4).cast nbuf1_4)
  a7 := win1_5.stage (cfg1.slots t 5)
  h7 := hstage1_5 ((cfg1.slots t 5).cast nbuf1_5)

/-- The segment of a point. -/
theorem seg1 (t : Fin cfg1.N) : (grid1.coords t 1).val = t.val % 4 := by
  have : (grid1.coords t 1).val = t.val / 1 % 4 := Pipeline.Grid.coords_val t 1 (by decide) rfl
  rwa [Nat.div_one] at this

/-- The bodies make the model's stores. -/
theorem steps1 (c : Dev nD) : Steps (F := F) 0x41F00000#32 0x41E80000#32 c 4 bodyAt1 mems1 where
  clears t h x0 x1 x2 := by
    have h' : ClearsAt (grid1.coords t 1).val := by rw [seg1 t, h]; exact (clearsAt_iff (by decide)).mpr rfl
    rw [← seg1 t]
    exact (run1_A c (grid1.coords t) (mems1 t) x0 x1 x2 h').makes (by sl_kernel_rfl) (by sl_kernel_rfl) (by sl_kernel_rfl)
  adds t h x0 x1 x2 xo3 := by
    have h' : ¬ClearsAt (grid1.coords t 1).val := by rw [seg1 t]; exact fun hc => h ((clearsAt_iff (by omega)).mp hc)
    rw [← seg1 t]
    exact (run1_B c (grid1.coords t) (mems1 t) x0 x1 x2 h' xo3).makes (by sl_kernel_rfl) (by sl_kernel_rfl) (by sl_kernel_rfl)

variable (V : (c : Dev nD) → (b : Ref sig .tc) → Buf (Elt F) ((c : Thread nD τ).loc b)) (c : Dev nD)

/-- Window `w`'s block at point `t`, read off its array. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output staging buffers hold after each point. -/
abbrev outsAt1 : (n : ℕ) → n < cfg1.N → Out3 F := outsAt 0x41F00000#32 0x41E80000#32 4 mems1 (iblk1 V c 0) (iblk1 V c 1) (iblk1 V c 2)

/-- The pipeline's proof data: each input's buffer keeps its block, the outputs' hold `outsAt1`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

theorem A_eq1 (w : Fin cfg1.W) : (dat1 V c).A w = V c (Pipeline.arrRef spec1 w) := rfl
theorem after1_3 (t : Fin cfg1.N) : (dat1 V c).after 3 t = (outsAt1 V c t.val t.isLt).1 := rfl
theorem after1_4 (t : Fin cfg1.N) : (dat1 V c).after 4 t = (outsAt1 V c t.val t.isLt).2.1 := rfl
theorem after1_5 (t : Fin cfg1.N) : (dat1 V c).after 5 t = (outsAt1 V c t.val t.isLt).2.2 := rfl

theorem defs₀_row1 (t : Fin cfg1.N) :
    defs₀ (F := F) .tc cfg1.body (cfg1.bodyArgs t (cfg1.slots t)) = bodyAt1 t := by
  unfold defs₀; rw [Defs.onTc_tc]

/-- The body does at every point what the proof data say. -/
theorem body_obligation1 : BodyObligation (dat1 (F := F) V c) (defs₀ (F := F)) Variants.none () Set.univ := fun t => by
  rw [bigSep_W1, bigSep_W1, defs₀_row1]
  exact (steps1 c).step (x0 := iblk1 V c 0) (x1 := iblk1 V c 1) (x2 := iblk1 V c 2) t _ _
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t)
    ((dat1 V c).before_in_eq_fetched 2 rfl (fun _ => rfl) (fun _ _ _ => rfl) (fun _ => rfl) t)
    (fun h d => by
      have hN : t.val < 128 := lt_of_lt_of_eq t.isLt (show cfg1.N = 128 from N_1)
      exact (dat1 V c).before_out_kept 3 rfl t (by omega) (Bool.eq_false_iff.mpr fun h' => by have := (flush1_3 _).mp h'; dsimp only at this; omega)
        (fun _ => rfl) (fun _ _ => rfl) d)

end Cert.KernelIdeal.Gen

end
-- ==== Proof.Region2.lean ====
module

public import proofs.«01_k».proof.Proof.Calls

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Call 2 of the three: its body's run at a grid point, its pipeline's proof data from the buffers as it finds them (`V`),
    and that the body does what they say. -/

/-- The body with its parts put together. -/
def body2 (i : grid2.Coords) (M : Mems) : { e : BodyProg F // cc2_kern i M.a2 M.h2 M.a3 M.h3 M.a4 M.h4 M.a5 M.h5 M.a6 M.h6 M.a7 M.h7 = e } := by
  refine ⟨?_, ?eq⟩
  case eq =>
    simp only [cc2_kern_eq_skeleton]; unfold cc2_kern_skel
    simp only [k2_part68_eq_skeleton, k2_part1_eq_skeleton, k2_part2_eq_skeleton, k2_part3_eq_skeleton,
      k2_part4_eq_skeleton, k2_part5_eq_skeleton, k2_part6_eq_skeleton, k2_part7_eq_skeleton, k2_part8_eq_skeleton,
      k2_part9_eq_skeleton, k2_part10_eq_skeleton, k2_part11_eq_skeleton, k2_part12_eq_skeleton,
      k2_part13_eq_skeleton, k2_part14_eq_skeleton, k2_part15_eq_skeleton, k2_part16_eq_skeleton,
      k2_part17_eq_skeleton, k2_part18_eq_skeleton, k2_part19_eq_skeleton, k2_part20_eq_skeleton,
      k2_part21_eq_skeleton, k2_part22_eq_skeleton, k2_part23_eq_skeleton, k2_part24_eq_skeleton,
      k2_part25_eq_skeleton, k2_part26_eq_skeleton, k2_part27_eq_skeleton, k2_part28_eq_skeleton,
      k2_part29_eq_skeleton, k2_part30_eq_skeleton, k2_part31_eq_skeleton, k2_part32_eq_skeleton,
      k2_part33_eq_skeleton, k2_part34_eq_skeleton, k2_part35_eq_skeleton, k2_part36_eq_skeleton,
      k2_part37_eq_skeleton, k2_part38_eq_skeleton, k2_part39_eq_skeleton, k2_part40_eq_skeleton,
      k2_part41_eq_skeleton, k2_part42_eq_skeleton, k2_part43_eq_skeleton, k2_part44_eq_skeleton,
      k2_part45_eq_skeleton, k2_part46_eq_skeleton, k2_part47_eq_skeleton, k2_part48_eq_skeleton,
      k2_part49_eq_skeleton, k2_part50_eq_skeleton, k2_part51_eq_skeleton, k2_part52_eq_skeleton,
      k2_part53_eq_skeleton, k2_part54_eq_skeleton, k2_part55_eq_skeleton, k2_part56_eq_skeleton,
      k2_part57_eq_skeleton, k2_part58_eq_skeleton, k2_part59_eq_skeleton, k2_part60_eq_skeleton,
      k2_part61_eq_skeleton, k2_part62_eq_skeleton, k2_part63_eq_skeleton, k2_part64_eq_skeleton,
      k2_part65_eq_skeleton, k2_part66_eq_skeleton, k2_part67_eq_skeleton]
    exact rfl

section
variable (c : Dev nD) (i : grid2.Coords) (M : Mems) (x0 : Vec F S3x2 .f32) (x1 : Vec F S1x1x675x85 .f32) (x2 : Vec F S1x50x5 .f32)

set_option maxHeartbeats 1000000 in
/-- The body at a point that clears the loss row. -/
def run2_A (h : ClearsAt (i 1).val) : Run c M (cc2_kern i M.a2 M.h2 M.a3 M.h3 M.a4 M.h4 M.a5 M.h5 M.a6 M.h6 M.a7 M.h7) x0 x1 x2 fun _ => True := by
  refine ⟨?_, ?_, ?_, fun f3 _ f4 f5 E K => ?run⟩
  case run =>
    rw [(body2 i M).2]; unfold body2
    iintro ⟨H0, H1, H2, H3, H4, H5, Hk⟩
    sl_exec (disch := first | sl_exact h)
    sl_step
    iapply Hk
    isplitl [H0]; · iexact H0
    isplitl [H1]; · iexact H1
    isplitl [H2]; · iexact H2
    isplitl [H3]; · iexact H3
    isplitl [H4]; · iexact H4
    iexact H5
end

/-- The staging memrefs the pipeline passes at point `t`. -/
abbrev mems2 (t : Fin cfg2.N) : Mems where
  a2 := win2_0.stage (cfg2.slots t 0)
  h2 := hstage2_0 ((cfg2.slots t 0).cast nbuf2_0)
  a3 := win2_1.stage (cfg2.slots t 1)
  h3 := hstage2_1 ((cfg2.slots t 1).cast nbuf2_1)
  a4 := win2_2.stage (cfg2.slots t 2)
  h4 := hstage2_2 ((cfg2.slots t 2).cast nbuf2_2)
  a5 := win2_3.stage (cfg2.slots t 3)
  h5 := hstage2_3 ((cfg2.slots t 3).cast nbuf2_3)
  a6 := win2_4.stage (cfg2.slots t 4)
  h6 := hstage2_4 ((cfg2.slots t 4).cast nbuf2_4)
  a7 := win2_5.stage (cfg2.slots t 5)
  h7 := hstage2_5 ((cfg2.slots t 5).cast nbuf2_5)

/-- The segment of a point. -/
theorem seg2 (t : Fin cfg2.N) : (grid2.coords t 1).val = t.val % 1 := by
  have : (grid2.coords t 1).val = t.val / 1 % 1 := Pipeline.Grid.coords_val t 1 (by decide) rfl
  rwa [Nat.div_one] at this

/-- The bodies make the model's stores. -/
theorem steps2 (c : Dev nD) : Steps (F := F) 0x41700000#32 0x41600000#32 c 1 bodyAt2 mems2 where
  clears t h x0 x1 x2 := by
    have h' : ClearsAt (grid2.coords t 1).val := by rw [seg2 t, h]; exact (clearsAt_iff (by decide)).mpr rfl
    rw [← seg2 t]
    exact (run2_A c (grid2.coords t) (mems2 t) x0 x1 x2 h').makes (by sl_kernel_rfl) (by sl_kernel_rfl) (by sl_kernel_rfl)
  adds _ h := absurd (Nat.mod_one _) h

variable (V : (c : Dev nD) → (b : Ref sig .tc) → Buf (Elt F) ((c : Thread nD τ).loc b)) (c : Dev nD)

/-- Window `w`'s block at point `t`, read off its array. -/
def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output staging buffers hold after each point. -/
abbrev outsAt2 : (n : ℕ) → n < cfg2.N → Out3 F := outsAt 0x41700000#32 0x41600000#32 1 mems2 (iblk2 V c 0) (iblk2 V c 1) (iblk2 V c 2)

/-- The pipeline's proof data: each input's buffer keeps its block, the outputs' hold `outsAt2`. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

theorem A_eq2 (w : Fin cfg2.W) : (dat2 V c).A w = V c (Pipeline.arrRef spec2 w) := rfl
theorem after2_3 (t : Fin cfg2.N) : (dat2 V c).after 3 t = (outsAt2 V c t.val t.isLt).1 := rfl
theorem after2_4 (t : Fin cfg2.N) : (dat2 V c).after 4 t = (outsAt2 V c t.val t.isLt).2.1 := rfl
theorem after2_5 (t : Fin cfg2.N) : (dat2 V c).after 5 t = (outsAt2 V c t.val t.isLt).2.2 := rfl

theorem defs₀_row2 (t : Fin cfg2.N) :
    defs₀ (F := F) .tc cfg2.body (cfg2.bodyArgs t (cfg2.slots t)) = bodyAt2 t := by
  unfold defs₀; rw [Defs.onTc_tc]

/-- The body does at every point what the proof data say. -/
theorem body_obligation2 : BodyObligation (dat2 (F := F) V c) (defs₀ (F := F)) Variants.none () Set.univ := fun t => by
  rw [bigSep_W2, bigSep_W2, defs₀_row2]
  exact (steps2 c).step (x0 := iblk2 V c 0) (x1 := iblk2 V c 1) (x2 := iblk2 V c 2) t _ _
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t)
    ((dat2 V c).before_in_eq_fetched 2 rfl (fun _ => rfl) (fun _ _ _ => rfl) (fun _ => rfl) t)
    (fun h => absurd (Nat.mod_one _) h)

end Cert.KernelIdeal.Gen

end
-- ==== Proof.Run.lean ====
module

public import proofs.«01_k».proof.Proof.Segment
public import proofs.«01_k».proof.Proof.Region0
public import proofs.«01_k».proof.Proof.Region1
public import proofs.«01_k».proof.Proof.Region2

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole program: the three calls among the host operations, run from the launch to the return. -/

variable (m : (ℓ : Loc nD τ sig) → Buf (Elt F) ℓ) (ρ : Dev nD → PrngReg)

/-- The program's argument arrays. -/
abbrev argRefs : List (Ref sig .tc) := [main_arg0, main_arg1, main_arg2, main_arg3, main_arg4]

/-! The host operations between the calls: what each stretch writes; none writes an argument. -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v6, main_v7, main_v8]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v10, main_v11, main_v12, main_v13, main_cst, main_v14, main_cst_0, main_v15, main_v16, main_v17, main_cst_1, main_v18, main_v19, main_v20, main_v21, main_cst_2, main_v22, main_v23, main_v24, main_v25]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! The buffers' contents at each boundary between host operations and calls, from the launch on; no boundary changes an argument. -/

/-- The arguments' buffers hold at `W` what they were launched with. -/
abbrev Kept (W : Dev nD → Valuation τ sig (Elt F)) : Prop := ∀ c, ∀ a ∈ argRefs, W c (Proc.devRef .tc a) = m ((c : Thread nD τ).loc a)

variable {m} in
theorem Kept.next {W W' : Dev nD → Valuation τ sig (Elt F)} (h : Kept m W)
    (h' : ∀ c, ∀ a ∈ argRefs, W' c (Proc.devRef .tc a) = W c (Proc.devRef .tc a)) : Kept m W' :=
  fun c a ha => (h' c a ha).trans (h c a ha)

abbrev W0 : Dev nD → Valuation τ sig (Elt F) := fun c b => (s₀ m ρ).mem ((c : Dev nD), b)
theorem W0_args : Kept m (W0 m ρ) := fun _ _ _ => rfl

abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args : Kept m (W1 m ρ) := (W0_args m ρ).next fun c a ha => W1_of m ρ c a (hostOps0_args a ha)
abbrev V1 := entry (W1 m ρ)
abbrev W2 : Dev nD → Valuation τ sig (Elt F) := fun c => leave (dat0 (V1 m ρ) c) (W1 m ρ c)
theorem W2_arr (c : Dev nD) (w : Fin cfg0.W) : W2 m ρ c (Proc.devRef .tc (Pipeline.arrRef spec0 w)) = (dat0 (V1 m ρ) c).arrAt w cfg0.N :=
  leave_arr (dat0 (V1 m ρ) c) _ launch0.win.arr_inj w
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) :=
  leave_of (dat0 (V1 m ρ) c) _ launch0.win.arr_inj (A_eq0 (V1 m ρ) c) r h
theorem argsIn0 : ∀ a ∈ argRefs, ∀ w : Fin cfg0.W, Pipeline.arrRef spec0 w = a → (cfg0.win w).isOut = false :=
  ListAll.forall_mem_of_all_decide (by decide +kernel)
theorem W2_args : Kept m (W2 m ρ) := (W1_args m ρ).next fun c a ha => W2_of m ρ c a (argsIn0 a ha)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args : Kept m (W3 m ρ) := (W2_args m ρ).next fun c a ha => W3_of m ρ c a (hostOps1_args a ha)
abbrev V3 := entry (W3 m ρ)
abbrev W4 : Dev nD → Valuation τ sig (Elt F) := fun c => leave (dat1 (V3 m ρ) c) (W3 m ρ c)
theorem W4_arr (c : Dev nD) (w : Fin cfg1.W) : W4 m ρ c (Proc.devRef .tc (Pipeline.arrRef spec1 w)) = (dat1 (V3 m ρ) c).arrAt w cfg1.N :=
  leave_arr (dat1 (V3 m ρ) c) _ launch1.win.arr_inj w
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) :=
  leave_of (dat1 (V3 m ρ) c) _ launch1.win.arr_inj (A_eq1 (V3 m ρ) c) r h
theorem argsIn1 : ∀ a ∈ argRefs, ∀ w : Fin cfg1.W, Pipeline.arrRef spec1 w = a → (cfg1.win w).isOut = false :=
  ListAll.forall_mem_of_all_decide (by decide +kernel)
theorem W4_args : Kept m (W4 m ρ) := (W3_args m ρ).next fun c a ha => W4_of m ρ c a (argsIn1 a ha)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args : Kept m (W5 m ρ) := (W4_args m ρ).next fun c a ha => W5_of m ρ c a (hostOps2_args a ha)
abbrev V5 := entry (W5 m ρ)
abbrev W6 : Dev nD → Valuation τ sig (Elt F) := fun c => leave (dat2 (V5 m ρ) c) (W5 m ρ c)
theorem W6_arr (c : Dev nD) (w : Fin cfg2.W) : W6 m ρ c (Proc.devRef .tc (Pipeline.arrRef spec2 w)) = (dat2 (V5 m ρ) c).arrAt w cfg2.N :=
  leave_arr (dat2 (V5 m ρ) c) _ launch2.win.arr_inj w
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) :=
  leave_of (dat2 (V5 m ρ) c) _ launch2.win.arr_inj (A_eq2 (V5 m ρ) c) r h
theorem argsIn2 : ∀ a ∈ argRefs, ∀ w : Fin cfg2.W, Pipeline.arrRef spec2 w = a → (cfg2.win w).isOut = false :=
  ListAll.forall_mem_of_all_decide (by decide +kernel)
theorem W6_args : Kept m (W6 m ρ) := (W5_args m ρ).next fun c a ha => W6_of m ρ c a (argsIn2 a ha)

abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args : Kept m (W7 m ρ) := (W6_args m ρ).next fun c a ha => W7_of m ρ c a (hostOps3_args a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)

/-! The proof data of the three pipelines together, and what is held between the segments. -/

/-- Each pipeline's proof data at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! Each call as a segment. -/

def reg0 : Pipeline.RegionSeg (pcfgs (F := F)) adm (pdats m ρ) () defs₀ 𝒱₀ L lv 0 :=
  callSeg (pdats m ρ) 0 launch0 (W1 m ρ) (body_obligation0 (V1 m ρ)) (A_eq0 (V1 m ρ)) (fun _ _ => rfl) (fun _ _ => rfl)
    (fun _ _ => trivial) (fun _ _ => rfl)
def reg1 : Pipeline.RegionSeg (pcfgs (F := F)) adm (pdats m ρ) () defs₀ 𝒱₀ L lv 1 :=
  callSeg (pdats m ρ) 1 launch1 (W3 m ρ) (body_obligation1 (V3 m ρ)) (A_eq1 (V3 m ρ)) (fun _ _ => rfl) (fun _ _ => rfl)
    (fun _ _ => trivial) (fun _ _ => rfl)
def reg2 : Pipeline.RegionSeg (pcfgs (F := F)) adm (pdats m ρ) () defs₀ 𝒱₀ L lv 2 :=
  callSeg (pdats m ρ) 2 launch2 (W5 m ρ) (body_obligation2 (V5 m ρ)) (A_eq2 (V5 m ρ)) (fun _ _ => rfl) (fun _ _ => rfl)
    (fun _ _ => trivial) (fun _ _ => rfl)

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole program ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- It ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩, h.2⟩) (run_all m ρ)

/-- It ends with each result at the last boundary's contents and its arguments as they were. -/
theorem results : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_v24) = W7 m ρ c (Proc.devRef .tc main_v24)
      ∧ r.2.mem ((c.tc : Thread nD τ).loc main_v25) = W7 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h.1 c _ (mem_uc main_v23 (by decide)), h.1 c _ (mem_uc main_v24 (by decide)), h.1 c _ (mem_uc main_v25 (by decide)),
       (h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩) (run_all m ρ)

end Cert.KernelIdeal.Gen

end
-- ==== Proof.KFrame.lean ====
module

public import proofs.«01_k».proof.Defs
public import proofs.«01_k».proof.Proof.Gen.Kernel
public import proofs.«01_k».proof.Proof.Gen.KernelIdeal
public import proofs.«01_k».proof.Proof.Run
public import Idealize.ShloMosaic.Lib.Tactic

@[expose] public section

set_option maxRecDepth 16384

noncomputable section

namespace Cert.Proof

open Idealize.ShloMosaic Idealize.SL.Sem

/-- What the frame says of the kernel's text, at any float semantics. -/
def Framed : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)
theorem framed : Framed := fun m g _ => Cert.KernelIdeal.Gen.frame (F := Bits) m g

/-- The kernel as printed and the kernel read at the extended reals are one text, so the frame is one statement. -/
theorem framed_eq : Framed = Cert.quiescent_Kernel (hKernel := Cert.Kernel.Gen.facts) := by sl_kernel_rfl
theorem kernel_frame : Cert.quiescent_Kernel (hKernel := Cert.Kernel.Gen.facts) := framed_eq.mp framed

end Cert.Proof

end
-- ==== Proof.Spec.lean ====
module

public import Idealize.ShloMosaic.Lib.Pointwise

@[expose] public section

set_option maxRecDepth 16384

noncomputable section

namespace Cert.Spec

open Idealize.ShloMosaic

/-! What one level of the loss says of one predicted row, over the extended reals. A row is a cell of the grid of side
    `W` and an anchor: row `r` has anchor `r % 3`, column `r / 3 % W` and line `r / 3 / W`. -/

/-- A binary32 constant as a real. -/
abbrev lit (b : BitVec 32) : EReal := Ideal.ofBits .f32 b
abbrev half : EReal := lit 0x3F000000#32

/-- What a row's values depend on: its side as a real, its predictions, its place and the anchors' sides. -/
structure Row where
  w : EReal
  f : Fin 85 → EReal
  col : ℕ
  line : ℕ
  anc : Fin 3
  A : Fin 3 → Fin 2 → EReal

namespace Row
variable (R : Row)

/-- An anchor's side in cells. -/
def side (a : Fin 3) (d : Fin 2) : EReal := R.A a d * R.w
/-- The place along an axis: the column along the first, the line along the second. -/
def place (d : Fin 2) : EReal := if d = 0 then (R.col : EReal) else (R.line : EReal)
def sig (d : Fin 85) : EReal := Ideal.logistic (R.f d)
/-- The predicted box's centre and extent along an axis. -/
def ctr (d : Fin 2) : EReal := Ideal.div (R.sig ⟨d.val, by omega⟩ + R.place d) R.w
def ext (d : Fin 2) : EReal := Ideal.div (Ideal.exp (R.f ⟨2 + d.val, by omega⟩) * R.side R.anc d) R.w
def lo (d : Fin 2) : EReal := R.ctr d - R.ext d * half
def hi (d : Fin 2) : EReal := R.ctr d + R.ext d * half
def area : EReal := R.ext 0 * R.ext 1
def conf : EReal := R.sig 4

/-- The box in pixels. -/
def box (c : Fin 4) : EReal := (if c.val < 2 then R.lo ⟨c.val % 2, by omega⟩ else R.hi ⟨c.val % 2, by omega⟩) * lit 0x43F00000#32

/-! The softmax of the classes. -/
def top : EReal := Finset.univ.fold max (lit 0xFF800000#32) fun c : Fin 80 => R.f ⟨5 + c.val, by omega⟩
def expo (c : Fin 80) : EReal := Ideal.exp (R.f ⟨5 + c.val, by omega⟩ - R.top)
def prob (c : Fin 80) : EReal := Ideal.div (R.expo c) (∑ d : Fin 80, R.expo d)
def score (c : Fin 80) : EReal := R.conf * R.prob c

end Row

/-- A box of the image, and what depends on the level alone: the side, the side less one, and the anchors. -/
structure Box where
  w : EReal
  m : EReal
  g : Fin 5 → EReal
  A : Fin 3 → Fin 2 → EReal

namespace Box
variable (T : Box)

/-- The box's extent in cells. -/
def wh (d : Fin 2) : EReal := T.g ⟨2 + d.val, by omega⟩ * T.w
def valid : Prop := 0 < T.wh 0
/-- Its cell along an axis, clipped to the grid. -/
def cell (d : Fin 2) : EReal := min T.m (max 0 (Ideal.liftRound Int.floor (T.g ⟨d.val, by omega⟩ * T.w)))
def side (a : Fin 3) (d : Fin 2) : EReal := T.A a d * T.w
def ainter (a : Fin 3) : EReal := min (T.wh 0) (T.side a 0) * min (T.wh 1) (T.side a 1)
def aiou (a : Fin 3) : EReal :=
  Ideal.div (T.ainter a) (T.wh 0 * T.wh 1 + T.side a 0 * T.side a 1 - T.ainter a + lit 0x3089705F#32)
open Classical in
/-- The first anchor of the greatest overlap. -/
def best : Fin 3 :=
  if max (T.aiou 0) (T.aiou 1) < T.aiou 2 then 2 else if T.aiou 0 < T.aiou 1 then 1 else 0
open Classical in
/-- What the box assigns to its cell: the centre in the cell, the logarithm of the extent over the anchor's, the class. -/
def adj (c : Fin 5) : EReal :=
  if h : c.val < 2 then T.g ⟨c.val, by omega⟩ * T.w - T.cell ⟨c.val, h⟩
  else if h : c.val < 4 then Ideal.log (Ideal.div (if T.valid then T.wh ⟨c.val - 2, by omega⟩ else 1) (T.side T.best ⟨c.val - 2, by omega⟩))
  else T.g 4
def lo (d : Fin 2) : EReal := T.g ⟨d.val, by omega⟩ - T.g ⟨2 + d.val, by omega⟩ * half
def hi (d : Fin 2) : EReal := T.g ⟨d.val, by omega⟩ + T.g ⟨2 + d.val, by omega⟩ * half
def area : EReal := T.g 2 * T.g 3
/-- The box falls on the row. -/
def falls (R : Row) : Prop := T.valid ∧ T.cell 0 = (R.col : EReal) ∧ T.cell 1 = (R.line : EReal) ∧ T.best = R.anc

/-- The overlap with a predicted box. -/
def inter (R : Row) : EReal :=
  max 0 (min (R.hi 0) (T.hi 0) - max (R.lo 0) (T.lo 0)) * max 0 (min (R.hi 1) (T.hi 1) - max (R.lo 1) (T.lo 1))
def iou (R : Row) : EReal := Ideal.div (T.inter R) (R.area + T.area - T.inter R + lit 0x3089705F#32)
end Box

open Classical in
/-- The value of the last index below `n` with the property, or zero. -/
def last (p : ℕ → Prop) (v : ℕ → EReal) : ℕ → EReal
  | 0 => 0
  | n + 1 => if p n then v n else last p v n

theorem last_of_none {p : ℕ → Prop} (v : ℕ → EReal) {n : ℕ} (h : ∀ k < n, ¬p k) : last p v n = 0 := by
  induction n with
  | zero => rfl
  | succ n ih => rw [last, if_neg (h n (by omega)), ih fun k hk => h k (by omega)]

theorem last_of_last {p : ℕ → Prop} (v : ℕ → EReal) {n k : ℕ} (hk : k < n) (hp : p k) (h : ∀ j < n, k < j → ¬p j) : last p v n = v k := by
  induction n with
  | zero => omega
  | succ n ih =>
    rw [last]
    rcases Nat.lt_succ_iff_lt_or_eq.1 hk with h' | rfl
    · rw [if_neg (h n (by omega) h'), ih h' fun j hj => h j (by omega)]
    · rw [if_pos hp]

/-- Either no index has the property or there is a last one. -/
theorem none_or_last (p : ℕ → Prop) (n : ℕ) : (∀ k < n, ¬p k) ∨ ∃ k < n, p k ∧ ∀ j < n, k < j → ¬p j := by
  induction n with
  | zero => exact .inl fun k hk => by omega
  | succ n ih =>
    by_cases hp : p n
    · exact .inr ⟨n, by omega, hp, fun j _ _ => by omega⟩
    · rcases ih with h | ⟨k, hk, hpk, h⟩
      · exact .inl fun k hk => by
          rcases Nat.lt_succ_iff_lt_or_eq.1 hk with h' | rfl
          exacts [h k h', hp]
      · exact .inr ⟨k, by omega, hpk, fun j hj hkj => by
          rcases Nat.lt_succ_iff_lt_or_eq.1 hj with h' | rfl
          exacts [h j h' hkj, hp]⟩

/-! The loss of a row against the image's fifty boxes. -/

section
variable (R : Row) (T : ℕ → Box)

def mask : EReal := last (fun n => (T n).falls R) (fun _ => 1) 50
def target (c : Fin 5) : EReal := last (fun n => (T n).falls R) (fun n => (T n).adj c) 50
open Classical in
/-- Whether some box overlaps the predicted one by more than the threshold. -/
def seen : EReal := if ∃ n < 50, lit 0x3F19999A#32 < (T n).iou R then 1 else 0
def noobj : EReal := (1 - seen R T) * (1 - mask R T) * (R.conf * R.conf)
def obj : EReal := lit 0x40A00000#32 * mask R T * ((1 - R.conf) * (1 - R.conf))
open Classical in
def miss (c : Fin 80) : EReal := (if (c.val : EReal) = target R T 4 then 1 else 0) - R.prob c
def clsTerm (c : Fin 80) : EReal := mask R T * (miss R T c * miss R T c)
/-- The coordinates' targets are met by the sigmoids of the first two predictions and by the next two themselves. -/
def pred (c : Fin 4) : EReal := if c.val < 2 then R.sig ⟨c.val, by omega⟩ else R.f ⟨c.val, by omega⟩
def off (c : Fin 4) : EReal := target R T ⟨c.val, by omega⟩ - pred R c
def coordTerm (c : Fin 4) : EReal := mask R T * (off R T c * off R T c)
def loss : EReal := noobj R T + obj R T + ∑ c, coordTerm R T c + ∑ c, clsTerm R T c
end

theorem mask_cases (R : Row) (T : ℕ → Box) : mask R T = 0 ∨ mask R T = 1 := by
  rcases none_or_last (fun n => (T n).falls R) 50 with h | ⟨k, hk, hp, h⟩
  · exact .inl (last_of_none _ h)
  · exact .inr (last_of_last (fun _ => (1 : EReal)) hk hp h)

end Cert.Spec

end
-- ==== Proof.Place.lean ====
module

public import proofs.«01_k».proof.Proof.Model
public import proofs.«01_k».proof.Proof.Spec

@[expose] public section

set_option maxRecDepth 16384

noncomputable section

namespace Cert.KernelIdeal.Gen.Model

open Idealize.ShloMosaic Cert.KernelIdeal Cert.Spec

/-! The model at an index: the channels, and the place of a row. -/

variable (I : In Ideal)

theorem six {P : Fin 6 → Prop} (h0 : P 0) (h1 : P 1) (h2 : P 2) (h3 : P 3) (h4 : P 4) (h5 : P 5) : ∀ k, P k
  | 0 => h0 | 1 => h1 | 2 => h2 | 3 => h3 | 4 => h4 | 5 => h5

theorem planes_at (x : Vec Ideal S1x1x128x85 .f32) (c : Fin 85) (l : Fin 128) : planes x (ix2 c l) = x (ix4 0 0 l c) := by
  pointwise [planes]

theorem chan_at (c : ℕ) (h) (hc : c < 85) (k : Fin 6) (l : Fin 128) : chan I c h (ix2 k l) = I.x k (ix4 0 0 l ⟨c, hc⟩) := by
  revert k; refine six ?_ ?_ ?_ ?_ ?_ ?_ <;> pointwise [chan, planes_at]

/-- The number of a row. -/
def num (s : ℕ) (k : Fin 6) (l : Fin 128) : ℕ := s * 675 + start k + l.val

theorem sitofp_nat (n : ℕ) (h : n < 2 ^ 31) : FloatOps.sitofp (F := Ideal) .f32 (BitVec.ofNat 32 n) = (n : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem word (s a l : ℕ) : IntOp.addi (IntOp.addi (Scalar.muli (BitVec.ofNat 32 s) 675#32) (BitVec.ofNat 32 a)) (BitVec.ofNat 32 l)
    = BitVec.ofNat 32 (s * 675 + a + l) := by
  show BitVec.ofNat 32 s * BitVec.ofNat 32 675 + BitVec.ofNat 32 a + BitVec.ofNat 32 l = _
  simp only [BitVec.ofNat_add, BitVec.ofNat_mul]

theorem start_word (k : Fin 6) : Scalar.select (IntOp.cmpi CmpIPredicate.eq (BitVec.ofNat 32 k.val) 5#32) (547#32) (IntOp.muli (BitVec.ofNat 32 k.val) 128#32)
    = BitVec.ofNat 32 (start k) := by
  revert k; decide

theorem start_le (k : Fin 6) : start k ≤ 547 := by revert k; decide

theorem num_lt {s : ℕ} (hs : s < 16) (k : Fin 6) (l : Fin 128) : num s k l < 10800 := by
  have := start_le k
  have := l.isLt
  unfold num; omega

theorem rows_at (s : ℕ) (hs : s < 16) (k : Fin 6) (l : Fin 128) : rows (F := Ideal) (BitVec.ofNat 32 s) (ix2 k l) = (num s k l : EReal) := by
  pointwise [rows, sub, lane]
  rw [start_word, word, sitofp_nat _ (by have := num_lt hs k l; unfold num at this; omega), num]

theorem nat_coe (n : ℕ) : (n : EReal) = ((n : ℝ) : EReal) := by simp
theorem lit_half : Spec.lit 0x3F000000#32 = ((1 / 2 : ℝ) : EReal) := by simp [Ideal.ofBits, Ideal.ieee, -EReal.coe_mul]; norm_num
theorem lit_third : Spec.lit 0x3EAAAAAB#32 = ((11184811 / 33554432 : ℝ) : EReal) := by simp [Ideal.ofBits, Ideal.ieee, -EReal.coe_mul]; norm_num
theorem lit_three : Spec.lit 0x40400000#32 = ((3 : ℝ) : EReal) := by simp [Ideal.ofBits, Ideal.ieee, -EReal.coe_mul]; norm_num
theorem lit_two : Spec.lit 0x40000000#32 = ((2 : ℝ) : EReal) := by simp [Ideal.ofBits, Ideal.ieee, -EReal.coe_mul]; norm_num
theorem lit_neg_one : Spec.lit 0xBF800000#32 = ((-1 : ℝ) : EReal) := by simp [Ideal.ofBits, Ideal.ieee, -EReal.coe_mul]; norm_num
theorem lit_60 : Spec.lit 0x42700000#32 = ((60 : ℕ) : EReal) := by rw [nat_coe]; simp [Ideal.ofBits, Ideal.ieee, -EReal.coe_mul]; norm_num
theorem lit_59 : Spec.lit 0x426C0000#32 = ((59 : ℕ) : EReal) := by rw [nat_coe]; simp [Ideal.ofBits, Ideal.ieee, -EReal.coe_mul]; norm_num
theorem lit_30 : Spec.lit 0x41F00000#32 = ((30 : ℕ) : EReal) := by rw [nat_coe]; simp [Ideal.ofBits, Ideal.ieee, -EReal.coe_mul]; norm_num
theorem lit_29 : Spec.lit 0x41E80000#32 = ((29 : ℕ) : EReal) := by rw [nat_coe]; simp [Ideal.ofBits, Ideal.ieee, -EReal.coe_mul]; norm_num
theorem lit_15 : Spec.lit 0x41700000#32 = ((15 : ℕ) : EReal) := by rw [nat_coe]; simp [Ideal.ofBits, Ideal.ieee, -EReal.coe_mul]; norm_num
theorem lit_14 : Spec.lit 0x41600000#32 = ((14 : ℕ) : EReal) := by rw [nat_coe]; simp [Ideal.ofBits, Ideal.ieee, -EReal.coe_mul]; norm_num

/-- The kernel's `floor((r + 1/2) * (1/3))`, its third rounded to binary32, is the quotient by three. -/
theorem floor_third (r : ℕ) (hr : r < 10800) :
    Ideal.liftRound Int.floor (((r : EReal) + Spec.lit 0x3F000000#32) * Spec.lit 0x3EAAAAAB#32) = ((r / 3 : ℕ) : EReal) := by
  rw [lit_half, lit_third, nat_coe, ← EReal.coe_add, ← EReal.coe_mul]
  show (((⌊((r : ℝ) + 1 / 2) * (11184811 / 33554432)⌋ : ℤ) : ℝ) : EReal) = _
  have h : ⌊((r : ℝ) + 1 / 2) * (11184811 / 33554432)⌋ = ((r / 3 : ℕ) : ℤ) := by
    rw [Int.floor_eq_iff]
    have h1 : 3 * (r / 3) ≤ r := by omega
    have h2 : r + 1 ≤ 3 * (r / 3) + 3 := by omega
    have h1' : 3 * ((r / 3 : ℕ) : ℝ) ≤ r := by exact_mod_cast h1
    have h2' : (r : ℝ) + 1 ≤ 3 * ((r / 3 : ℕ) : ℝ) + 3 := by exact_mod_cast h2
    have h3 : (r : ℝ) ≤ 10799 := by exact_mod_cast (by omega : r ≤ 10799)
    simp only [Int.cast_natCast]
    constructor <;> linarith
  rw [h, Int.cast_natCast, ← nat_coe]

/-- `floor((n + 1/2) / W)` is the quotient by `W`. -/
theorem floor_div (n W : ℕ) (hW : 0 < W) :
    Ideal.liftRound Int.floor (Ideal.div ((n : EReal) + Spec.lit 0x3F000000#32) (W : EReal)) = ((n / W : ℕ) : EReal) := by
  have hW' : (0 : ℝ) < W := by exact_mod_cast hW
  have h0 : (W : EReal) ≠ 0 := by exact_mod_cast hW.ne'
  unfold Ideal.div
  rw [if_neg h0, lit_half, nat_coe, nat_coe W, ← EReal.coe_add, ← EReal.coe_inv, ← EReal.coe_mul]
  show (((⌊((n : ℝ) + 1 / 2) * (W : ℝ)⁻¹⌋ : ℤ) : ℝ) : EReal) = _
  have h : ⌊((n : ℝ) + 1 / 2) * (W : ℝ)⁻¹⌋ = ((n / W : ℕ) : ℤ) := by
    rw [Int.floor_eq_iff, ← div_eq_mul_inv]
    have h1 : W * (n / W) ≤ n := Nat.mul_div_le n W
    have h2 : n + 1 ≤ W * (n / W) + W := by have := Nat.lt_mul_div_succ n hW; rw [Nat.mul_add] at this; omega
    have h1' : (W : ℝ) * ((n / W : ℕ) : ℝ) ≤ n := by exact_mod_cast h1
    have h2' : (n : ℝ) + 1 ≤ W * ((n / W : ℕ) : ℝ) + W := by exact_mod_cast h2
    constructor
    · rw [le_div_iff₀ hW']; simp only [Int.cast_natCast]; linarith
    · rw [div_lt_iff₀ hW']; simp only [Int.cast_natCast]; linarith
  rw [h, Int.cast_natCast, ← nat_coe]

/-- What is left of a number after its quotient. -/
theorem sub_mul_div (n W : ℕ) (v : EReal) (hv : v = (W : EReal)) : (n : EReal) - v * ((n / W : ℕ) : EReal) = ((n % W : ℕ) : EReal) := by
  have h : (n : ℝ) - W * ((n / W : ℕ) : ℝ) = ((n % W : ℕ) : ℝ) := by
    have : ((n % W : ℕ) : ℝ) + W * ((n / W : ℕ) : ℝ) = n := by exact_mod_cast Nat.mod_add_div n W
    linarith
  rw [hv, nat_coe, nat_coe W, nat_coe (n / W), ← EReal.coe_mul, ← EReal.coe_sub, h, ← nat_coe]

section
variable (s : ℕ) (hs : s < 16) (k : Fin 6) (l : Fin 128)
include hs

theorem cell_at : cell (F := Ideal) (BitVec.ofNat 32 s) (ix2 k l) = ((num s k l / 3 : ℕ) : EReal) := by
  pointwise [cell, rows_at s hs]
  exact floor_third _ (num_lt hs k l)

theorem ra_at : ra (F := Ideal) (BitVec.ofNat 32 s) (ix2 k l) = ((num s k l % 3 : ℕ) : EReal) := by
  pointwise [ra, rows_at s hs, cell_at s hs]
  exact sub_mul_div _ 3 _ (lit_three.trans (by rw [nat_coe]; norm_num))

variable {cw : BitVec 32} {W : ℕ} (hw : Spec.lit cw = (W : EReal)) (hW : 0 < W)
include hw hW
theorem ri_at : ri (F := Ideal) cw (BitVec.ofNat 32 s) (ix2 k l) = ((num s k l / 3 / W : ℕ) : EReal) := by
  pointwise [ri, cell_at s hs]
  rw [show Ideal.ofBits FTy.f32 cw = (W : EReal) from hw]
  exact floor_div _ _ hW

theorem rj_at : rj (F := Ideal) cw (BitVec.ofNat 32 s) (ix2 k l) = ((num s k l / 3 % W : ℕ) : EReal) := by
  pointwise [rj, cell_at s hs, ri_at s hs k l hw hW]
  exact sub_mul_div _ W _ hw
end

end Cert.KernelIdeal.Gen.Model

end
-- ==== Proof.RowVal.lean ====
module

public import proofs.«01_k».proof.Proof.Place

@[expose] public section

set_option maxRecDepth 16384

noncomputable section

namespace Cert.KernelIdeal.Gen.Model

open Idealize.ShloMosaic Cert.KernelIdeal Cert.Spec

/-! The model's predicted boxes and scores are the specification's. -/

/-- The anchors' sides. -/
def ancOf (I : In Ideal) (a : Fin 3) (d : Fin 2) : EReal := if d = 0 then I.aw a else I.ah a

/-- The row at lane `l` of window `k` of segment `s`. -/
def rowOf (cw : BitVec 32) (W : ℕ) (I : In Ideal) (s : ℕ) (k : Fin 6) (l : Fin 128) : Row where
  w := Spec.lit cw
  f c := I.x k (ix4 0 0 l c)
  col := num s k l / 3 % W
  line := num s k l / 3 / W
  anc := ⟨num s k l % 3, Nat.mod_lt _ (by norm_num)⟩
  A := ancOf I

section
variable {cw : BitVec 32} {W : ℕ} (I : In Ideal) {s : ℕ} (k : Fin 6) (l : Fin 128)

theorem sig_at (d : ℕ) (h) (hd : d < 85) : logistic (chan I d h) (ix2 k l) = (rowOf cw W I s k l).sig ⟨d, hd⟩ := by
  pointwise [chan_at I d h hd, Row.sig, rowOf]

theorem sl_at (v : FVec Ideal S6x128 .f32) : sl k v (ix2 0 l) = v (ix2 k l) := by
  pointwise [sl]

theorem four {P : Fin 4 → Prop} (h0 : P 0) (h1 : P 1) (h2 : P 2) (h3 : P 3) : ∀ k, P k
  | 0 => h0 | 1 => h1 | 2 => h2 | 3 => h3

theorem pick (a : ℕ) (ha : a < 3) (v : Fin 3 → EReal) :
    (if (a : EReal) = 0 then v 0 else if (a : EReal) = 1 then v 1 else v 2) = v ⟨a, ha⟩ := by
  interval_cases a <;> simp

section
variable (hs : s < 16) (hI : I.s = BitVec.ofNat 32 s)
include hs hI

theorem awc_at : awc cw I (ix2 k l) = (rowOf cw W I s k l).side (rowOf cw W I s k l).anc 0 := by
  pointwise [awc, aw, hI, ra_at s hs]
  exact pick _ (Nat.mod_lt _ (by norm_num)) fun a => I.aw a * Spec.lit cw

theorem ahc_at : ahc cw I (ix2 k l) = (rowOf cw W I s k l).side (rowOf cw W I s k l).anc 1 := by
  pointwise [ahc, ah, hI, ra_at s hs]
  exact pick _ (Nat.mod_lt _ (by norm_num)) fun a => I.ah a * Spec.lit cw

theorem pw_at : pw cw I (ix2 k l) = (rowOf cw W I s k l).ext 0 := by
  pointwise [pw, tw, awc_at (W := W) I k l hs hI, chan_at I 2 _ (by decide)]
  rfl

theorem ph_at : ph cw I (ix2 k l) = (rowOf cw W I s k l).ext 1 := by
  pointwise [ph, th, ahc_at (W := W) I k l hs hI, chan_at I 3 _ (by decide)]
  rfl

variable (hw : Spec.lit cw = (W : EReal)) (hW : 0 < W)
include hw hW

theorem px_at : px cw I (ix2 k l) = (rowOf cw W I s k l).ctr 0 := by
  pointwise [px, sx, tx, hI, rj_at s hs k l hw hW, sig_at (cw := cw) (W := W) (s := s) I k l 0 _ (by decide)]
  rfl

theorem py_at : py cw I (ix2 k l) = (rowOf cw W I s k l).ctr 1 := by
  pointwise [py, sy, ty, hI, ri_at s hs k l hw hW, sig_at (cw := cw) (W := W) (s := s) I k l 1 _ (by decide)]
  rfl

theorem px0_at : px0 cw I (ix2 k l) = (rowOf cw W I s k l).lo 0 := by
  pointwise [px0, px_at I k l hs hI hw hW, pw_at (W := W) I k l hs hI]; rfl
theorem px1_at : px1 cw I (ix2 k l) = (rowOf cw W I s k l).hi 0 := by
  pointwise [px1, px_at I k l hs hI hw hW, pw_at (W := W) I k l hs hI]; rfl
theorem py0_at : py0 cw I (ix2 k l) = (rowOf cw W I s k l).lo 1 := by
  pointwise [py0, py_at I k l hs hI hw hW, ph_at (W := W) I k l hs hI]; rfl
theorem py1_at : py1 cw I (ix2 k l) = (rowOf cw W I s k l).hi 1 := by
  pointwise [py1, py_at I k l hs hI hw hW, ph_at (W := W) I k l hs hI]; rfl
theorem parea_at : parea cw I (ix2 k l) = (rowOf cw W I s k l).area := by
  pointwise [parea, pw_at (W := W) I k l hs hI, ph_at (W := W) I k l hs hI]; rfl

/-- The stored boxes. -/
theorem box_at (c : Fin 4) : box cw I k (ix4 0 0 l c) = (rowOf cw W I s k l).box c := by
  revert c
  refine four ?_ ?_ ?_ ?_ <;>
    pointwise [box, sl_at, px0_at I k l hs hI hw hW, px1_at I k l hs hI hw hW, py0_at I k l hs hI hw hW, py1_at I k l hs hI hw hW, Row.box]
end

theorem expo_at (c : Fin 80) : expo I k (ix2 c l) = (rowOf cw W I s k l).expo c := by
  pointwise [expo, logits, planes_at]
  rfl

theorem prob_at (c : Fin 80) : prob I k (ix2 c l) = (rowOf cw W I s k l).prob c := by
  pointwise [prob, expo_at (cw := cw) (W := W) (s := s) I k l]
  rfl

theorem conf_at : conf I (ix2 k l) = (rowOf cw W I s k l).conf := by
  unfold conf tc
  exact sig_at I k l 4 _ (by decide)

/-- The stored scores. -/
theorem score_at (c : Fin 80) : score I k (ix4 0 0 l c) = (rowOf cw W I s k l).score c := by
  pointwise [score, sl_at, prob_at (cw := cw) (W := W) (s := s) I k l, conf_at (cw := cw) (W := W) (s := s) I k l]
  exact mul_comm (G := EReal) _ _
end

end Cert.KernelIdeal.Gen.Model

end
-- ==== Proof.LossVal.lean ====
module

public import proofs.«01_k».proof.Proof.RowVal

@[expose] public section

set_option maxRecDepth 16384

noncomputable section

namespace Cert.KernelIdeal.Gen.Model

open Idealize.ShloMosaic Cert.KernelIdeal Cert.Spec

/-! The model's loss of a row is the specification's. -/

/-- Box `n` of the image. -/
def boxOf (cw cm : BitVec 32) (I : In Ideal) (n : ℕ) : Box where
  w := Spec.lit cw
  m := Spec.lit cm
  g c := if h : n < 50 then I.g (ix3 0 ⟨n, h⟩ c) else 0
  A := ancOf I

theorem and3 (a b c : Bool) : IntOp.andi (IntOp.andi (BitVec.ofBool a) (BitVec.ofBool b)) (BitVec.ofBool c) = 1#1 ↔ a = true ∧ b = true ∧ c = true := by
  revert a b c; decide

theorem lit_threshold : ¬ Spec.lit 0x3F19999A#32 < 0 := by
  have : Spec.lit 0x3F19999A#32 = ((10066330 / 16777216 : ℝ) : EReal) := by simp [Ideal.ofBits, Ideal.ieee, -EReal.coe_mul]; norm_num
  rw [this, not_lt]
  exact_mod_cast (by norm_num : (0 : ℝ) ≤ 10066330 / 16777216)

theorem flag (p : Prop) [Decidable p] [Decidable p] :
    FloatOps.sitofp (F := Ideal) .f32 (BitVec.setWidth 32 (BitVec.ofBool (decide p))) = if p then 1 else 0 := by
  by_cases h : p
  · rw [if_pos h, decide_eq_true h]; exact (sitofp_nat 1 (by norm_num)).trans (by simp)
  · rw [if_neg h, decide_eq_false h]; exact (sitofp_nat 0 (by norm_num)).trans (by simp)

/-- A factor of zero or one distributes over any sum of extended reals. -/
theorem flag_mul_add {m : EReal} (h : m = 0 ∨ m = 1) (a b : EReal) : m * (a + b) = m * a + m * b := by
  rcases h with rfl | rfl <;> simp
theorem flag_mul_sum {m : EReal} (h : m = 0 ∨ m = 1) {n : ℕ} (f : Fin n → EReal) : m * ∑ i, f i = ∑ i, m * f i := by
  rcases h with rfl | rfl <;> simp

theorem dup_word (k : Fin 6) (l : Fin 128) :
    IntOp.andi (IntOp.cmpi CmpIPredicate.eq (BitVec.ofNat 32 k.val) 5#32) (IntOp.cmpi CmpIPredicate.slt (BitVec.ofNat 32 l.val) 93#32)
      = BitVec.ofBool (decide (k = 5 ∧ l.val < 93)) := by
  revert k l; decide +kernel

theorem bc_at (v : FVec Ideal S50x1 .f32) (n : Fin 50) (l : Fin 128) : bc v (ix2 n l) = v (ix2 n 0) := by pointwise [bc]
theorem row_at (q : FVec Ideal S50x128 .f32) (n : ℕ) (h : n < 50) (k : Fin 6) (l : Fin 128) : row q n h (ix2 k l) = q (ix2 ⟨n, h⟩ l) := by
  pointwise [row]
theorem rowc_at (q : FVec Ideal S50x128 .f32) (n : ℕ) (h : n < 50) (k : Fin 6) (l : Fin 128) : rowc q n h (ix2 k l) = q (ix2 ⟨n, h⟩ l) := by
  pointwise [rowc]

section
variable (cw cm : BitVec 32) (I : In Ideal) (n : ℕ) (h : n < 50)
include h

theorem gcol_at (c : ℕ) (hc) (h5 : c < 5) : gcol I c hc (ix2 ⟨n, h⟩ 0) = (boxOf cw cm I n).g ⟨c, h5⟩ := by
  pointwise [gcol, boxOf, dif_pos h]

theorem gx_at : gx I (ix2 ⟨n, h⟩ 0) = (boxOf cw cm I n).g 0 := gcol_at cw cm I n h 0 _ (by decide)
theorem gy_at : gy I (ix2 ⟨n, h⟩ 0) = (boxOf cw cm I n).g 1 := gcol_at cw cm I n h 1 _ (by decide)
theorem gw_at : gw I (ix2 ⟨n, h⟩ 0) = (boxOf cw cm I n).g 2 := gcol_at cw cm I n h 2 _ (by decide)
theorem gh_at : gh I (ix2 ⟨n, h⟩ 0) = (boxOf cw cm I n).g 3 := gcol_at cw cm I n h 3 _ (by decide)
theorem gc_at : gc I (ix2 ⟨n, h⟩ 0) = (boxOf cw cm I n).g 4 := gcol_at cw cm I n h 4 _ (by decide)

theorem bw_at : bw cw I (ix2 ⟨n, h⟩ 0) = (boxOf cw cm I n).wh 0 := by
  pointwise [bw, gw_at cw cm I n h]; rfl
theorem bh_at : bh cw I (ix2 ⟨n, h⟩ 0) = (boxOf cw cm I n).wh 1 := by
  pointwise [bh, gh_at cw cm I n h]; rfl
theorem jg_at : jg cw cm I (ix2 ⟨n, h⟩ 0) = (boxOf cw cm I n).cell 0 := by
  pointwise [jg, gx_at cw cm I n h]; rfl
theorem ig_at : ig cw cm I (ix2 ⟨n, h⟩ 0) = (boxOf cw cm I n).cell 1 := by
  pointwise [ig, gy_at cw cm I n h]; rfl
theorem aiou_at (a : Fin 3) : aiou cw I a (ix2 ⟨n, h⟩ 0) = (boxOf cw cm I n).aiou a := by
  pointwise [aiou, ainter, aw, ah, bw_at cw cm I n h, bh_at cw cm I n h]; rfl
theorem kb_at : kb cw I (ix2 ⟨n, h⟩ 0) = ((boxOf cw cm I n).best.val : EReal) := by
  pointwise [kb, up1, aiou_at cw cm I n h, Box.best]
  rw [← max_def_lt]
  split_ifs
  · exact lit_two
  · simp
  · simp
theorem ancw_at : ancw cw I (ix2 ⟨n, h⟩ 0) = (boxOf cw cm I n).side (boxOf cw cm I n).best 0 := by
  pointwise [ancw, kb_at cw cm I n h, aw]
  exact pick _ (boxOf cw cm I n).best.isLt fun a => I.aw a * Spec.lit cw
theorem anch_at : anch cw I (ix2 ⟨n, h⟩ 0) = (boxOf cw cm I n).side (boxOf cw cm I n).best 1 := by
  pointwise [anch, kb_at cw cm I n h, ah]
  exact pick _ (boxOf cw cm I n).best.isLt fun a => I.ah a * Spec.lit cw

variable (l : Fin 128)
theorem tax_at : tax cw cm I (ix2 ⟨n, h⟩ l) = (boxOf cw cm I n).adj 0 := by
  pointwise [tax, bc_at, gx_at cw cm I n h, jg_at cw cm I n h, Box.adj]; rfl
theorem tay_at : tay cw cm I (ix2 ⟨n, h⟩ l) = (boxOf cw cm I n).adj 1 := by
  pointwise [tay, bc_at, gy_at cw cm I n h, ig_at cw cm I n h, Box.adj]; rfl
theorem taw_at : taw cw I (ix2 ⟨n, h⟩ l) = (boxOf cw cm I n).adj 2 := by
  pointwise [taw, bc_at, valid, bw_at cw cm I n h, ancw_at cw cm I n h, Box.adj, Box.valid]
theorem tah_at : tah cw I (ix2 ⟨n, h⟩ l) = (boxOf cw cm I n).adj 3 := by
  pointwise [tah, bc_at, valid, bw_at cw cm I n h, bh_at cw cm I n h, anch_at cw cm I n h, Box.adj, Box.valid]
theorem tgc_at : tgc I (ix2 ⟨n, h⟩ l) = (boxOf cw cm I n).adj 4 := by
  pointwise [tgc, bc_at, gc_at cw cm I n h, Box.adj]
theorem tx0_at : tx0 I (ix2 ⟨n, h⟩ l) = (boxOf cw cm I n).lo 0 := by
  pointwise [tx0, bc_at, gx_at cw cm I n h, gw_at cw cm I n h]; rfl
theorem tx1_at : tx1 I (ix2 ⟨n, h⟩ l) = (boxOf cw cm I n).hi 0 := by
  pointwise [tx1, bc_at, gx_at cw cm I n h, gw_at cw cm I n h]; rfl
theorem ty0_at : ty0 I (ix2 ⟨n, h⟩ l) = (boxOf cw cm I n).lo 1 := by
  pointwise [ty0, bc_at, gy_at cw cm I n h, gh_at cw cm I n h]; rfl
theorem ty1_at : ty1 I (ix2 ⟨n, h⟩ l) = (boxOf cw cm I n).hi 1 := by
  pointwise [ty1, bc_at, gy_at cw cm I n h, gh_at cw cm I n h]; rfl
theorem tarea_at : tarea I (ix2 ⟨n, h⟩ l) = (boxOf cw cm I n).area := by
  pointwise [tarea, bc_at, gw_at cw cm I n h, gh_at cw cm I n h]; rfl

theorem tjg_at : tjg cw cm I (ix2 ⟨n, h⟩ l) = if 0 < (boxOf cw cm I n).wh 0 then (boxOf cw cm I n).cell 0 else Spec.lit 0xBF800000#32 := by
  pointwise [tjg, bc_at, valid, bw_at cw cm I n h, jg_at cw cm I n h]
theorem tig_at : tig cw cm I (ix2 ⟨n, h⟩ l) = (boxOf cw cm I n).cell 1 := by
  pointwise [tig, bc_at, ig_at cw cm I n h]
theorem tkb_at : tkb cw I (ix2 ⟨n, h⟩ l) = ((boxOf cw cm I n).best.val : EReal) := by
  pointwise [tkb, bc_at, kb_at cw cm I n h]
end

section
variable {cw cm : BitVec 32} {W : ℕ} (I : In Ideal) {s : ℕ} (k : Fin 6) (l : Fin 128)
variable (hs : s < 16) (hI : I.s = BitVec.ofNat 32 s) (hw : Spec.lit cw = (W : EReal)) (hW : 0 < W)
include hs hI hw hW

theorem iou_at (n : ℕ) (h : n < 50) : iou cw I n h (ix2 k l) = (boxOf cw cm I n).iou (rowOf cw W I s k l) := by
  pointwise [iou, inter, row_at, tx0_at cw cm I n h, tx1_at cw cm I n h, ty0_at cw cm I n h, ty1_at cw cm I n h, tarea_at cw cm I n h,
    px0_at I k l hs hI hw hW, px1_at I k l hs hI hw hW, py0_at I k l hs hI hw hW, py1_at I k l hs hI hw hW, parea_at I k l hs hI hw hW]
  rfl

theorem hit_at (n : ℕ) (h : n < 50) : hit cw cm I n h (ix2 k l) = 1#1 ↔ (boxOf cw cm I n).falls (rowOf cw W I s k l) := by
  pointwise [hit, row_at, tjg_at cw cm I n h, tig_at cw cm I n h, tkb_at cw cm I n h, hI, ra_at s hs, ri_at s hs k l hw hW, rj_at s hs k l hw hW]
  rw [and3, decide_eq_true_iff, decide_eq_true_iff, decide_eq_true_iff]
  have hneg : ((num s k l / 3 % W : ℕ) : EReal) ≠ Spec.lit 0xBF800000#32 := by
    rw [lit_neg_one, nat_coe]
    intro e
    have : ((num s k l / 3 % W : ℕ) : ℝ) = -1 := by exact_mod_cast e
    have := Nat.cast_nonneg (α := ℝ) (num s k l / 3 % W)
    linarith
  unfold Box.falls Box.valid
  simp only [rowOf]
  constructor
  · rintro ⟨h1, h2, h3⟩
    split_ifs at h1 with hv
    · exact ⟨hv, h1.symm, h2.symm, Fin.ext (by exact_mod_cast h3.symm)⟩
    · exact absurd h1 hneg
  · rintro ⟨hv, h1, h2, h3⟩
    rw [if_pos hv]
    exact ⟨h1.symm, h2.symm, by rw [h3]⟩

theorem last_at (v : (n : ℕ) → n < 50 → FVec Ideal S6x128 .f32) (u : ℕ → EReal) (hv : ∀ n h, v n h (ix2 k l) = u n) (n : ℕ) (h : n ≤ 50) :
    last cw cm I v n h (ix2 k l) = Spec.last (fun n => (boxOf cw cm I n).falls (rowOf cw W I s k l)) u n := by
  induction n with
  | zero => pointwise [last, Spec.last]
  | succ n ih =>
    rw [last, Spec.last, ← ih (Nat.le_of_succ_le h), ← hv n h]
    show Scalar.select _ _ _ = _
    unfold Scalar.select
    by_cases q : (boxOf cw cm I n).falls (rowOf cw W I s k l)
    · rw [if_pos q]; exact if_pos ((hit_at I k l hs hI hw hW n h).2 q)
    · rw [if_neg q]; exact if_neg fun e => q ((hit_at I k l hs hI hw hW n h).1 e)

theorem mask_at : mask cw cm I (ix2 k l) = Spec.mask (rowOf cw W I s k l) (boxOf cw cm I) :=
  last_at I k l hs hI hw hW _ _ (fun n h => by pointwise [ones]) _ _
theorem mx_at : mx cw cm I (ix2 k l) = Spec.target (rowOf cw W I s k l) (boxOf cw cm I) 0 :=
  last_at I k l hs hI hw hW _ _ (fun n h => (rowc_at _ n h k l).trans (tax_at cw cm I n h l)) _ _
theorem my_at : my cw cm I (ix2 k l) = Spec.target (rowOf cw W I s k l) (boxOf cw cm I) 1 :=
  last_at I k l hs hI hw hW _ _ (fun n h => (rowc_at _ n h k l).trans (tay_at cw cm I n h l)) _ _
theorem mw_at : mw cw cm I (ix2 k l) = Spec.target (rowOf cw W I s k l) (boxOf cw cm I) 2 :=
  last_at I k l hs hI hw hW _ _ (fun n h => (rowc_at _ n h k l).trans (taw_at cw cm I n h l)) _ _
theorem mh_at : mh cw cm I (ix2 k l) = Spec.target (rowOf cw W I s k l) (boxOf cw cm I) 3 :=
  last_at I k l hs hI hw hW _ _ (fun n h => (rowc_at _ n h k l).trans (tah_at cw cm I n h l)) _ _
theorem mc_at : mc cw cm I (ix2 k l) = Spec.target (rowOf cw W I s k l) (boxOf cw cm I) 4 :=
  last_at I k l hs hI hw hW _ _ (fun n h => (rowc_at _ n h k l).trans (tgc_at cw cm I n h l)) _ _

theorem best_at (n : ℕ) (h : n ≤ 50) :
    Spec.lit 0x3F19999A#32 < best cw I n h (ix2 k l) ↔ ∃ m < n, Spec.lit 0x3F19999A#32 < (boxOf cw cm I m).iou (rowOf cw W I s k l) := by
  induction n with
  | zero =>
    have : best cw I 0 h (ix2 k l) = 0 := by pointwise [best]
    rw [this]
    exact ⟨fun q => absurd q lit_threshold, fun ⟨m, hm, _⟩ => by omega⟩
  | succ n ih =>
    have : best cw I (n + 1) h (ix2 k l) = max (best cw I n (Nat.le_of_succ_le h) (ix2 k l)) ((boxOf cw cm I n).iou (rowOf cw W I s k l)) := by
      rw [← iou_at I k l hs hI hw hW n h]; rfl
    rw [this, lt_max_iff, ih (Nat.le_of_succ_le h)]
    constructor
    · rintro (⟨m, hm, q⟩ | q)
      exacts [⟨m, by omega, q⟩, ⟨n, by omega, q⟩]
    · rintro ⟨m, hm, q⟩
      rcases Nat.lt_succ_iff_lt_or_eq.1 hm with h' | rfl
      exacts [.inl ⟨m, h', q⟩, .inr q]

theorem det_at : det cw I (ix2 k l) = Spec.seen (rowOf cw W I s k l) (boxOf cw cm I) := by
  pointwise [det]
  rw [flag]
  unfold Spec.seen
  by_cases q : ∃ n < 50, Spec.lit 0x3F19999A#32 < (boxOf cw cm I n).iou (rowOf cw W I s k l)
  · rw [if_pos q]; exact if_pos ((best_at I k l hs hI hw hW 50 _).2 q)
  · rw [if_neg q]; exact if_neg fun e => q ((best_at I k l hs hI hw hW 50 _).1 e)

theorem noobj_at : noobj cw cm I (ix2 k l) = Spec.noobj (rowOf cw W I s k l) (boxOf cw cm I) := by
  pointwise [noobj, det_at (cm := cm) I k l hs hI hw hW, mask_at I k l hs hI hw hW, conf_at (cw := cw) (W := W) (s := s) I k l]
  rfl
theorem obj_at : obj cw cm I (ix2 k l) = Spec.obj (rowOf cw W I s k l) (boxOf cw cm I) := by
  pointwise [obj, mask_at I k l hs hI hw hW, conf_at (cw := cw) (W := W) (s := s) I k l]
  rfl

theorem coord_at : coord cw cm I (ix2 k l) = ∑ c, Spec.coordTerm (rowOf cw W I s k l) (boxOf cw cm I) c := by
  pointwise [coord, sq, sx, sy, tx, ty, tw, th, mask_at I k l hs hI hw hW, mx_at I k l hs hI hw hW, my_at I k l hs hI hw hW, mw_at I k l hs hI hw hW,
    mh_at I k l hs hI hw hW, Fin.sum_univ_four, Spec.coordTerm]
  have hm := mask_cases (rowOf cw W I s k l) (boxOf cw cm I)
  rw [flag_mul_add hm, flag_mul_add hm, flag_mul_add hm, chan_at I 0 _ (by decide), chan_at I 1 _ (by decide), chan_at I 2 _ (by decide),
    chan_at I 3 _ (by decide)]
  rfl

theorem off_at (c : Fin 80) : off cw cm I k (ix2 c l) = Spec.miss (rowOf cw W I s k l) (boxOf cw cm I) c := by
  pointwise [off, classes, sl_at, prob_at (cw := cw) (W := W) (s := s) I k l, mc_at I k l hs hI hw hW]
  rw [flag, sitofp_nat _ (by omega)]
  rfl

theorem clsrow_at : clsrow cw cm I k (ix2 0 l) = ∑ c, Spec.clsTerm (rowOf cw W I s k l) (boxOf cw cm I) c := by
  pointwise [clsrow, sl_at, mask_at I k l hs hI hw hW, off_at I k l hs hI hw hW]
  rw [mul_comm (G := EReal), flag_mul_sum (mask_cases _ _)]
  rfl

theorem cls_at : cls cw cm I (ix2 k l) = ∑ c, Spec.clsTerm (rowOf cw W I s k l) (boxOf cw cm I) c := by
  revert k
  refine six ?_ ?_ ?_ ?_ ?_ ?_ <;> pointwise [cls, clsrow_at I _ l hs hI hw hW]

/-- A row that the window before holds too counts as nothing. -/
theorem cells_at : cells cw cm I (ix2 k l) = if k = 5 ∧ l.val < 93 then 0 else Spec.loss (rowOf cw W I s k l) (boxOf cw cm I) := by
  pointwise [cells, dup, sub, lane, noobj_at I k l hs hI hw hW, obj_at I k l hs hI hw hW, coord_at I k l hs hI hw hW, cls_at I k l hs hI hw hW]
  rw [dup_word]
  by_cases q : k = 5 ∧ l.val < 93
  · rw [if_pos q, decide_eq_true q]; rfl
  · rw [if_neg q, decide_eq_false q]; rfl
end

section
variable {cw cm : BitVec 32} {W : ℕ} (I : In Ideal) {s : ℕ}
variable (hs : s < 16) (hI : I.s = BitVec.ofNat 32 s) (hw : Spec.lit cw = (W : EReal)) (hW : 0 < W)
include hs hI hw hW
theorem total_eq : total cw cm I = half * ∑ k, ∑ l : Fin 128, if k = 5 ∧ l.val < 93 then 0 else Spec.loss (rowOf cw W I s k l) (boxOf cw cm I) := by
  pointwise [total, cells_at I _ _ hs hI hw hW]
end

end Cert.KernelIdeal.Gen.Model

end
-- ==== Proof.Level.lean ====
module

public import proofs.«01_k».proof.Proof.Spec

@[expose] public section

set_option maxRecDepth 16384

noncomputable section

namespace Cert.Spec

open Idealize.ShloMosaic

/-! One level of the loss over whole arrays: the predictions on a grid of side `W`, the boxes of the images, the anchors. -/

section
variable (cw cm : BitVec 32) (W : ℕ) (X : Fin 32 → Fin W → Fin W → Fin 255 → EReal) (G : Fin 32 → Fin 50 → Fin 5 → EReal)
  (A : Fin 3 → Fin 2 → EReal) (b : Fin 32)

theorem line_lt {W r : ℕ} (h : r < W * W * 3) : r / 3 / W < W := by
  refine Nat.div_lt_of_lt_mul ?_
  omega
theorem col_lt {W r : ℕ} (h : r < W * W * 3) : r / 3 % W < W := by
  refine Nat.mod_lt _ ?_
  rcases Nat.eq_zero_or_pos W with rfl | h' <;> omega
theorem chan_lt (r : ℕ) (c : Fin 85) : r % 3 * 85 + c.val < 255 := by omega

/-- Row `r` of image `b`. -/
def lev (r : ℕ) : Row where
  w := lit cw
  f c := if h : r < W * W * 3 then X b ⟨r / 3 / W, line_lt h⟩ ⟨r / 3 % W, col_lt h⟩ ⟨r % 3 * 85 + c.val, chan_lt r c⟩ else 0
  col := r / 3 % W
  line := r / 3 / W
  anc := ⟨r % 3, Nat.mod_lt _ (by norm_num)⟩
  A := A

/-- Box `n` of image `b`. -/
def lab (n : ℕ) : Box where
  w := lit cw
  m := lit cm
  g c := if h : n < 50 then G b ⟨n, h⟩ c else 0
  A := A

/-- The level's boxes and scores, `N` rows an image. -/
def flatBoxes (N : ℕ) : Vec Ideal ⟨3, ![32, N, 4]⟩ .f32 := fun y => (lev cw W X A (y 0) (y 1).val).box (y 2)
def flatScores (N : ℕ) : Vec Ideal ⟨3, ![32, N, 80]⟩ .f32 := fun y => (lev cw W X A (y 0) (y 1).val).score (y 2)

/-- The level's part of the loss. -/
def levelLoss : EReal := half * ∑ b : Fin 32, ∑ r : Fin (W * W * 3), loss (lev cw W X A b r) (lab cw cm G A b)
end

theorem half_mul_add (x y : EReal) : half * (x + y) = half * x + half * y := by
  have hh : half = ((1 / 2 : ℝ) : EReal) := by simp [lit, Ideal.ofBits, Ideal.ieee, -EReal.coe_mul]; norm_num
  refine EReal.left_distrib_of_nonneg_of_ne_top ?_ ?_ x y
  · rw [hh]; exact EReal.coe_nonneg.2 (by norm_num)
  · rw [hh]; exact EReal.coe_ne_top _

theorem half_mul_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_mul_add, ih]

/-- A sum over the segments' rows is one over all rows. -/
theorem sum_segments (S N : ℕ) (h : N = S * 675) (f : ℕ → EReal) : (∑ s : Fin S, ∑ q : Fin 675, f (s.val * 675 + q.val)) = ∑ r : Fin N, f r.val := by
  subst h
  rw [Fin.sum_univ_eq_sum_range f, ← Finset.sum_product']
  refine (Finset.sum_congr rfl fun _ _ => rfl).trans ((Fintype.sum_equiv finProdFinEquiv (fun p : Fin S × Fin 675 => f (p.1.val * 675 + p.2.val))
    (fun r : Fin (S * 675) => f r.val) fun p => ?_).trans (Fin.sum_univ_eq_sum_range f _))
  simp only [finProdFinEquiv_apply_val]
  congr 1; ring

/-- A level's part of the loss, image by image and segment by segment. -/
theorem levelLoss_eq (cw cm : BitVec 32) (W S : ℕ) (h : W * W * 3 = S * 675) (X : Fin 32 → Fin W → Fin W → Fin 255 → EReal) (G : Fin 32 → Fin 50 → Fin 5 → EReal)
    (A : Fin 3 → Fin 2 → EReal) : levelLoss cw cm W X G A
      = ∑ b : Fin 32, ∑ s : Fin S, half * ∑ q : Fin 675, loss (lev cw W X A b (s.val * 675 + q.val)) (lab cw cm G A b) := by
  unfold levelLoss
  rw [half_mul_sum]
  refine Finset.sum_congr rfl fun b _ => ?_
  rw [← half_mul_sum, sum_segments S _ h fun r => loss (lev cw W X A b r) (lab cw cm G A b)]

end Cert.Spec

end
-- ==== Proof.Block.lean ====
module

public import proofs.«01_k».proof.Proof.Stores
public import proofs.«01_k».proof.Proof.LossVal
public import proofs.«01_k».proof.Proof.Level
public import Idealize.ShloMosaic.Lib.WholeRead
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.KernelIdeal Cert.Spec

/-! A body's output blocks as the specification's, from the blocks it reads. -/

/-- Row `q` of the block of predictions `x1`, at segment `s`. -/
def rowBlk (cw : BitVec 32) (W : ℕ) (x0 : Vec Ideal S3x2 .f32) (x1 : Vec Ideal S1x1x675x85 .f32) (s : ℕ) (q : Fin 675) : Row where
  w := Spec.lit cw
  f c := x1 (ix4 0 0 q c)
  col := (s * 675 + q.val) / 3 % W
  line := (s * 675 + q.val) / 3 / W
  anc := ⟨(s * 675 + q.val) % 3, Nat.mod_lt _ (by norm_num)⟩
  A a d := x0 (ix2 a d)

/-- Box `n` of the image's block `x2`. -/
def boxBlk (cw cm : BitVec 32) (x0 : Vec Ideal S3x2 .f32) (x2 : Vec Ideal S1x50x5 .f32) (n : ℕ) : Box where
  w := Spec.lit cw
  m := Spec.lit cm
  g c := if h : n < 50 then x2 (ix3 0 ⟨n, h⟩ c) else 0
  A a d := x0 (ix2 a d)

theorem place_lt (k : Fin 6) (l : Fin 128) : Model.start k + l.val < 675 := by have := Model.start_le k; omega

/-- The windows' rows, those the last window repeats left out, are the block's rows. -/
theorem sum_windows (f : Fin 675 → EReal) :
    (∑ k : Fin 6, ∑ l : Fin 128, if k = 5 ∧ l.val < 93 then 0 else f ⟨Model.start k + l.val, place_lt k l⟩) = ∑ q, f q := by
  let g : ℕ → EReal := fun n => if h : n < 675 then f ⟨n, h⟩ else 0
  have hg : ∀ n (h : n < 675), f ⟨n, h⟩ = g n := fun n h => by simp only [g, dif_pos h]
  have hr : ∀ a, (∑ l : Fin 128, g (a + l.val)) = ∑ l ∈ Finset.range 128, g (a + l) := fun a => Fin.sum_univ_eq_sum_range (fun n => g (a + n)) 128
  have hl : (∑ l : Fin 128, if l.val < 93 then 0 else g (547 + l.val)) = ∑ l ∈ Finset.range 35, g (640 + l) := by
    rw [Fin.sum_univ_eq_sum_range (fun n => if n < 93 then 0 else g (547 + n)) 128, Finset.sum_range_add _ 93 35,
      Finset.sum_eq_zero fun n hn => if_pos (Finset.mem_range.1 hn), zero_add]
    refine Finset.sum_congr rfl fun n _ => ?_
    rw [if_neg (by omega)]
    congr 1; omega
  have hall : ∑ q, f q = ∑ n ∈ Finset.range 675, g n := by
    rw [← Fin.sum_univ_eq_sum_range]; exact Finset.sum_congr rfl fun q _ => hg _ q.isLt
  rw [hall, Finset.sum_range_add g 640 35, Finset.sum_range_add g 512 128, Finset.sum_range_add g 384 128, Finset.sum_range_add g 256 128,
    Finset.sum_range_add g 128 128, ← hl]
  simp only [Fin.sum_univ_succ (n := 5), hg]
  rw [Fin.sum_univ_five]
  simp (decide := true) only [false_and, true_and, if_false]
  have := hr 0
  simp only [zero_add] at this
  simp only [← hr, ← this]
  simp only [add_assoc]
  rfl

section
variable (cw cm : BitVec 32) (W : ℕ) (M : Mems) (x0 : Vec Ideal S3x2 .f32) (x1 : Vec Ideal S1x1x675x85 .f32) (x2 : Vec Ideal S1x50x5 .f32) (s : ℕ)

theorem load_x (k : Fin 6) (l : Fin 128) (c : Fin 85) :
    (M.load x0 x1 x2 s).x k (ix4 0 0 l c) = x1 (ix4 0 0 ⟨Model.start k + l.val, place_lt k l⟩ c) := by
  show View.readAt _ _ _ _ _ = _
  rw [Memref.IsWhole.readAt_unread]
  pointwise

theorem load_g (n : Fin 50) (c : Fin 5) : (M.load x0 x1 x2 s).g (ix3 0 n c) = x2 (ix3 0 n c) := by
  show View.readAt _ _ _ _ _ = _
  rw [Memref.IsWhole.readAt_unread]
  pointwise

theorem load_anc (a : Fin 3) (d : Fin 2) : Model.ancOf (M.load x0 x1 x2 s) a d = x0 (ix2 a d) := by
  have hw : (M.load x0 x1 x2 s).aw a = x0 (ix2 a 0) := by
    show View.readAt _ _ _ _ _ = _
    rw [Memref.IsWhole.readAt_unread, show Shape.Idx.first one_pos = ix2 0 0 by decide]
    pointwise
  have hh : (M.load x0 x1 x2 s).ah a = x0 (ix2 a 1) := by
    show View.readAt _ _ _ _ _ = _
    rw [Memref.IsWhole.readAt_unread, show Shape.Idx.first one_pos = ix2 0 0 by decide]
    pointwise
  unfold Model.ancOf
  match d with
  | 0 => exact hw
  | 1 => exact hh

theorem load_row (k : Fin 6) (l : Fin 128) :
    Model.rowOf cw W (M.load x0 x1 x2 s) s k l = rowBlk cw W x0 x1 s ⟨Model.start k + l.val, place_lt k l⟩ := by
  unfold Model.rowOf rowBlk Model.num
  simp only [load_x, funext fun a => funext fun d => load_anc M x0 x1 x2 s a d, Nat.add_assoc]

theorem load_box : Model.boxOf cw cm (M.load x0 x1 x2 s) = boxBlk cw cm x0 x2 := by
  funext n
  unfold Model.boxOf boxBlk
  simp only [load_g, funext fun a => funext fun d => load_anc M x0 x1 x2 s a d]

variable {cw cm W s} (hs : s < 16) (hw : Spec.lit cw = (W : EReal)) (hW : 0 < W)
include hs hw hW

/-- The stored boxes, read back. -/
theorem boxes_read {κ : Kind} {sp : Space} (V : View sig κ sp S1x1x675x4 .f32) (f) (q : Fin 675) (c : Fin 4) :
    V.read (Elt Ideal) (V.writes (Elt Ideal) f (Model.boxPieces cw (M.load x0 x1 x2 s))) (ix4 0 0 q c) = (rowBlk cw W x0 x1 s q).box c := by
  refine View.read_writes_apply_of_pieces V _ (fun y => (rowBlk cw W x0 x1 s (y 2)).box (y 3)) _ ?_ _
    (cover_whole (Model.boxPieces cw (M.load x0 x1 x2 s)) cover6 (by sl_kernel_rfl) _)
  have h : ∀ k, ∀ x, (Model.boxPiece cw (M.load x0 x1 x2 s) k).2 x
      = (rowBlk cw W x0 x1 s ((Model.boxPiece cw (M.load x0 x1 x2 s) k).1.emb x 2)).box ((Model.boxPiece cw (M.load x0 x1 x2 s) k).1.emb x 3) := by
    intro k x
    obtain ⟨l, c, rfl⟩ : ∃ (l : Fin 128) (c : Fin 4), x = ix4 (0 : Fin 1) (0 : Fin 1) l c :=
      ⟨x 2, x 3, by funext a; match a with | 0 => exact Subsingleton.elim (α := Fin 1) _ _ | 1 => exact Subsingleton.elim (α := Fin 1) _ _ | 2 => rfl | 3 => rfl⟩
    refine (Model.box_at (W := W) _ k l hs rfl hw hW c).trans ?_
    rw [load_row]
    congr 1
    · congr 1; apply Fin.ext; show Model.start k + l.val = Model.start k + 1 * l.val; omega
    · apply Fin.ext; show c.val = 0 + 1 * c.val; omega
  intro p hp
  simp only [Model.boxPieces, List.mem_cons, List.not_mem_nil, or_false] at hp
  rcases hp with rfl | rfl | rfl | rfl | rfl | rfl <;> exact h _

/-- The stored scores, read back. -/
theorem scores_read {κ : Kind} {sp : Space} (V : View sig κ sp S1x1x675x80 .f32) (f) (q : Fin 675) (c : Fin 80) :
    V.read (Elt Ideal) (V.writes (Elt Ideal) f (Model.scorePieces (M.load x0 x1 x2 s))) (ix4 0 0 q c) = (rowBlk cw W x0 x1 s q).score c := by
  refine View.read_writes_apply_of_pieces V _ (fun y => (rowBlk cw W x0 x1 s (y 2)).score (y 3)) _ ?_ _
    (cover_whole (Model.scorePieces (M.load x0 x1 x2 s)) cover6 (by sl_kernel_rfl) _)
  have h : ∀ k, ∀ x, (Model.scorePiece (M.load x0 x1 x2 s) k).2 x
      = (rowBlk cw W x0 x1 s ((Model.scorePiece (M.load x0 x1 x2 s) k).1.emb x 2)).score ((Model.scorePiece (M.load x0 x1 x2 s) k).1.emb x 3) := by
    intro k x
    obtain ⟨l, c, rfl⟩ : ∃ (l : Fin 128) (c : Fin 80), x = ix4 (0 : Fin 1) (0 : Fin 1) l c :=
      ⟨x 2, x 3, by funext a; match a with | 0 => exact Subsingleton.elim (α := Fin 1) _ _ | 1 => exact Subsingleton.elim (α := Fin 1) _ _ | 2 => rfl | 3 => rfl⟩
    refine (Model.score_at (cw := cw) (W := W) (s := s) _ k l c).trans ?_
    rw [load_row]
    congr 1
    · congr 1; apply Fin.ext; show Model.start k + l.val = Model.start k + 1 * l.val; omega
    · apply Fin.ext; show c.val = 0 + 1 * c.val; omega
  intro p hp
  simp only [Model.scorePieces, List.mem_cons, List.not_mem_nil, or_false] at hp
  rcases hp with rfl | rfl | rfl | rfl | rfl | rfl <;> exact h _

/-- The body's term of the loss. -/
theorem total_read : Model.total cw cm (M.load x0 x1 x2 s)
    = half * ∑ q : Fin 675, Spec.loss (rowBlk cw W x0 x1 s q) (boxBlk cw cm x0 x2) := by
  rw [Model.total_eq (W := W) _ hs rfl hw hW]
  simp only [load_row, load_box]
  congr 1
  exact sum_windows fun q => Spec.loss (rowBlk cw W x0 x1 s q) (boxBlk cw cm x0 x2)

theorem lossRow_read (prev : Vec Ideal S1x1x128 .f32) (l : Fin 128) : Model.lossRow cw cm (M.load x0 x1 x2 s) prev (ix3 0 0 l)
    = prev (ix3 0 0 l) + half * ∑ q : Fin 675, Spec.loss (rowBlk cw W x0 x1 s q) (boxBlk cw cm x0 x2) := by
  rw [← total_read (cm := cm) M x0 x1 x2 hs hw hW]
  unfold Model.lossRow
  pointwise
end

end Cert.KernelIdeal.Gen

end
-- ==== Proof.Match.lean ====
module

public import proofs.«01_k».proof.Proof.Run
public import proofs.«01_k».proof.Proof.Block
public import Idealize.ShloMosaic.Lib.VecWindow

@[expose] public section

set_option maxRecDepth 16384

noncomputable section

namespace Cert.KernelIdeal.Gen

open Idealize.ShloMosaic Idealize.ShloMosaic.TcCoe Idealize.ShloMosaic.Tactic Cert.KernelIdeal Cert.Spec

/-! What each call's body leaves in its three output blocks, as the specification's. -/

section
variable (cw cm : BitVec 32) (W : ℕ) (M : Mems) (x0 : Vec Ideal S3x2 .f32) (x1 : Vec Ideal S1x1x675x85 .f32) (x2 : Vec Ideal S1x50x5 .f32) (s : ℕ)

/-- The three output blocks of a body that reads the blocks `x0`, `x1`, `x2` at segment `s` and finds the loss at `prev`. -/
def Outs (prev : Fin 128 → EReal) (o : Out3 Ideal) : Prop :=
  (∀ l, o.1 (ix3 0 0 l) = prev l + half * ∑ q : Fin 675, Spec.loss (rowBlk cw W x0 x1 s q) (boxBlk cw cm x0 x2)) ∧
  (∀ q d, o.2.1 (ix4 0 0 q d) = (rowBlk cw W x0 x1 s q).box d) ∧
  ∀ q d, o.2.2 (ix4 0 0 q d) = (rowBlk cw W x0 x1 s q).score d

/-- The row carried in, as loaded. -/
theorem carried (xo3 : Vec Ideal S1x1x128 .f32) (l : Fin 128) : carriedRow M xo3 (ix3 0 0 l) = xo3 (ix3 0 0 l) := by
  rw [carriedRow, Memref.IsWhole.readAt_unread]
  pointwise

/-- A row just cleared, as loaded. -/
theorem cleared (l : Fin 128) : clearedRow (F := Ideal) M (ix3 0 0 l) = 0 := by
  refine (congrFun (View.readCov_full M.a5.view _ _ _ _) _).trans ?_
  pointwise [k0_pay2]

variable {cw cm W s} (hs : s < 16) (hw : Spec.lit cw = (W : EReal)) (hW : 0 < W)
include hs hw hW

theorem outs_of {prev : Fin 128 → EReal} {x : Vec Ideal S1x1x128 .f32} (hx : ∀ l, x (ix3 0 0 l) = prev l) :
    Outs cw cm W x0 x1 x2 s prev (outOf cw cm (M.load x0 x1 x2 s) x) := by
  have h3 : ∀ l, Model.lossRow cw cm (M.load x0 x1 x2 s) x (ix3 0 0 l)
      = prev l + half * ∑ q : Fin 675, Spec.loss (rowBlk cw W x0 x1 s q) (boxBlk cw cm x0 x2) := fun l => by
    rw [lossRow_read M x0 x1 x2 hs hw hW, hx]
  have h4 := boxes_read M x0 x1 x2 hs hw hW boxView boxView.junk
  have h5 := scores_read M x0 x1 x2 hs hw hW scoreView scoreView.junk
  unfold outOf
  generalize boxView.read (Elt Ideal) _ = o4 at h4 ⊢
  generalize scoreView.read (Elt Ideal) _ = o5 at h5 ⊢
  generalize Model.lossRow cw cm (M.load x0 x1 x2 s) x = o3 at h3 ⊢
  exact ⟨h3, h4, h5⟩
end

section
variable (cw cm : BitVec 32) (W : ℕ) (X : Fin 32 → Fin W → Fin W → Fin 255 → EReal) (G : Fin 32 → Fin 50 → Fin 5 → EReal)
  (A : Fin 3 → Fin 2 → EReal) (b : Fin 32) (s : ℕ)

/-- `f` is row `r` of an image's predictions. -/
def RowIs (r : ℕ) (f : Fin 85 → EReal) : Prop :=
  ∃ h : r < W * W * 3, ∀ d, f d = X b ⟨r / 3 / W, line_lt h⟩ ⟨r / 3 % W, col_lt h⟩ ⟨r % 3 * 85 + d.val, chan_lt r d⟩

/-- The blocks a body reads are the level's, of image `b` and segment `s`. -/
structure Blocks (x0 : Vec Ideal S3x2 .f32) (x1 : Vec Ideal S1x1x675x85 .f32) (x2 : Vec Ideal S1x50x5 .f32) : Prop where
  anchors : ∀ a d, x0 (ix2 a d) = A a d
  rows : ∀ q : Fin 675, RowIs W X b (s * 675 + q.val) fun d => x1 (ix4 0 0 q d)
  boxes : ∀ n d, x2 (ix3 0 n d) = G b n d

/-- The outputs, as the level's. -/
structure LevelOuts (prev : Fin 128 → EReal) (o : Out3 Ideal) : Prop where
  loss : ∀ l, o.1 (ix3 0 0 l) = prev l + half * ∑ q : Fin 675, Spec.loss (lev cw W X A b (s * 675 + q.val)) (lab cw cm G A b)
  boxes : ∀ q d, o.2.1 (ix4 0 0 q d) = (lev cw W X A b (s * 675 + q.val)).box d
  scores : ∀ q d, o.2.2 (ix4 0 0 q d) = (lev cw W X A b (s * 675 + q.val)).score d

variable {cw cm W X G A b s}

theorem LevelOuts.box_at {prev o} (h : LevelOuts cw cm W X G A b s prev o) (y : S1x1x675x4.Idx) :
    o.2.1 y = (lev cw W X A b (s * 675 + (y 2).val)).box (y 3) := by
  have hy : y = ix4 (0 : Fin 1) (0 : Fin 1) (y 2) (y 3) := by
    funext a; match a with | 0 => exact Subsingleton.elim (α := Fin 1) _ _ | 1 => exact Subsingleton.elim (α := Fin 1) _ _ | 2 => rfl | 3 => rfl
  exact (congrArg o.2.1 hy).trans (h.boxes _ _)
theorem LevelOuts.score_at {prev o} (h : LevelOuts cw cm W X G A b s prev o) (y : S1x1x675x80.Idx) :
    o.2.2 y = (lev cw W X A b (s * 675 + (y 2).val)).score (y 3) := by
  have hy : y = ix4 (0 : Fin 1) (0 : Fin 1) (y 2) (y 3) := by
    funext a; match a with | 0 => exact Subsingleton.elim (α := Fin 1) _ _ | 1 => exact Subsingleton.elim (α := Fin 1) _ _ | 2 => rfl | 3 => rfl
  exact (congrArg o.2.2 hy).trans (h.scores _ _)

theorem Outs.level {x0 : Vec Ideal S3x2 .f32} {x1 : Vec Ideal S1x1x675x85 .f32} {x2 : Vec Ideal S1x50x5 .f32} {prev o}
    (h : Outs cw cm W x0 x1 x2 s prev o) (hb : Blocks W X G A b s x0 x1 x2) : LevelOuts cw cm W X G A b s prev o := by
  have hr : ∀ q : Fin 675, rowBlk cw W x0 x1 s q = lev cw W X A b (s * 675 + q.val) := fun q => by
    obtain ⟨hq, hf⟩ := hb.rows q
    unfold rowBlk lev
    simp only [dif_pos hq, hf, hb.anchors]
  have hl : boxBlk cw cm x0 x2 = lab cw cm G A b := by
    funext n
    unfold boxBlk lab
    simp only [hb.boxes, hb.anchors]
  obtain ⟨h3, h4, h5⟩ := h
  simp only [hr, hl] at h3 h4 h5
  exact ⟨h3, h4, h5⟩
end

end Cert.KernelIdeal.Gen

end
-- ==== Proof.Arrays.lean ====
module

public import proofs.«01_k».proof.Proof.Match

@[expose] public section

set_option maxRecDepth 16384

noncomputable section

namespace Cert.KernelIdeal.Gen

open Idealize.ShloMosaic Idealize.ShloMosaic.TcCoe Idealize.ShloMosaic.Tactic Cert.KernelIdeal Cert.Spec

section
variable (cw cm : BitVec 32) (W S : ℕ) (X : Fin 32 → Fin W → Fin W → Fin 255 → EReal) (G : Fin 32 → Fin 50 → Fin 5 → EReal) (A : Fin 3 → Fin 2 → EReal)
/-- A level's three arrays, segment by segment. -/
def boxArr : Vec Ideal ⟨4, ![32, S, 675, 4]⟩ .f32 := fun y => (lev cw W X A (y 0) ((y 1).val * 675 + (y 2).val)).box (y 3)
def scoreArr : Vec Ideal ⟨4, ![32, S, 675, 80]⟩ .f32 := fun y => (lev cw W X A (y 0) ((y 1).val * 675 + (y 2).val)).score (y 3)
def lossArr : Vec Ideal ⟨3, ![32, 1, 128]⟩ .f32 :=
  fun y => ∑ s : Fin S, half * ∑ q : Fin 675, Spec.loss (lev cw W X A (y 0) (s.val * 675 + q.val)) (lab cw cm G A (y 0))
end

/-- The loss row where a run of segments ends: the sum of the segments' terms. -/
theorem loss_at_end {cw cm : BitVec 32} {W S N : ℕ} [NeZero S] {X : Fin 32 → Fin W → Fin W → Fin 255 → EReal} {G : Fin 32 → Fin 50 → Fin 5 → EReal}
    {A : Fin 3 → Fin 2 → EReal} {lt : ∀ t : Fin N, t.val / S < 32}
    {outs : (n : ℕ) → n < N → Out3 Ideal}
    (hA : ∀ t : Fin N, t.val % S = 0 → LevelOuts cw cm W X G A ⟨t.val / S, lt t⟩ (t.val % S) (fun _ => 0) (outs t.val t.isLt))
    (hB : ∀ t : Fin N, ¬t.val % S = 0 → LevelOuts cw cm W X G A ⟨t.val / S, lt t⟩ (t.val % S)
      (fun l => (outs (t.val - 1) (Nat.lt_of_le_of_lt (Nat.sub_le _ _) t.isLt)).1 (ix3 0 0 l)) (outs t.val t.isLt))
    (t : Fin N) (ht : t.val % S = S - 1) (y : S1x1x128.Idx) :
    (outs t.val t.isLt).1 y = lossArr cw cm W S X G A (ix3 ⟨t.val / S, lt t⟩ 0 (y 2)) := by
  have hy : y = ix3 (0 : Fin 1) (0 : Fin 1) (y 2) := by
    funext a; match a with | 0 => exact Subsingleton.elim (α := Fin 1) _ _ | 1 => exact Subsingleton.elim (α := Fin 1) _ _ | 2 => rfl
  have key := Pipeline.eq_sum_fin_of_reset_step_apply_of_flush (fun n hn (l : Fin 128) => (outs n hn).1 (ix3 0 0 l)) S (fun _ => 0)
    (fun t _ => half * ∑ q : Fin 675, Spec.loss (lev cw W X A ⟨t.val / S, lt t⟩ (t.val % S * 675 + q.val)) (lab cw cm G A ⟨t.val / S, lt t⟩))
    (fun t h l => (hA t h).loss l) (fun t h l => (hB t h).loss l) t ht (y 2)
  refine (congrArg (outs t.val t.isLt).1 hy).trans (key.trans ?_)
  rw [zero_add]
  unfold lossArr
  refine Finset.sum_congr rfl fun s _ => ?_
  have h1 : (S * (t.val / S) + s.val) / S = t.val / S := by
    rw [Nat.mul_add_div (Nat.pos_of_ne_zero (NeZero.ne S)), Nat.div_eq_of_lt s.isLt, Nat.add_zero]
  have h2 : (S * (t.val / S) + s.val) % S = s.val := by rw [Nat.mul_add_mod, Nat.mod_eq_of_lt s.isLt]
  simp only [h1, h2]
  rfl

section
variable {cw cm : BitVec 32} {W S N : ℕ} {mems : Fin N → Mems} {x0 : Fin N → Vec Ideal S3x2 .f32} {x1 : Fin N → Vec Ideal S1x1x675x85 .f32}
  {x2 : Fin N → Vec Ideal S1x50x5 .f32} {X : Fin 32 → Fin W → Fin W → Fin 255 → EReal} {G : Fin 32 → Fin 50 → Fin 5 → EReal}
  {A : Fin 3 → Fin 2 → EReal} {lt : ∀ t : Fin N, t.val / S < 32}
  (h0 : 0 < S) (hS : S ≤ 16) (hw : Spec.lit cw = (W : EReal)) (hW : 0 < W)
  (hb : ∀ t, Blocks W X G A ⟨t.val / S, lt t⟩ (t.val % S) (x0 t) (x1 t) (x2 t))
include h0 hS hw hW hb

/-- A call's outputs at a point that clears the loss row, as the level's, -/
theorem level_clears (t : Fin N) (h : t.val % S = 0) :
    LevelOuts cw cm W X G A ⟨t.val / S, lt t⟩ (t.val % S) (fun _ => 0) (outsAt cw cm S mems x0 x1 x2 t.val t.isLt) := by
  rw [outsAt_clears cw cm S mems x0 x1 x2 t h]
  exact (outs_of (mems t) (x0 t) (x1 t) (x2 t) (lt_of_lt_of_le (Nat.mod_lt _ h0) hS) hw hW (cleared (mems t))).level (hb t)
/-- at one that adds to it, -/
theorem level_adds (t : Fin N) (h : ¬t.val % S = 0) :
    LevelOuts cw cm W X G A ⟨t.val / S, lt t⟩ (t.val % S)
      (fun l => (outsAt cw cm S mems x0 x1 x2 (t.val - 1) (pred_lt t)).1 (ix3 0 0 l)) (outsAt cw cm S mems x0 x1 x2 t.val t.isLt) := by
  rw [outsAt_adds cw cm S mems x0 x1 x2 t h]
  exact (outs_of (mems t) (x0 t) (x1 t) (x2 t) (lt_of_lt_of_le (Nat.mod_lt _ h0) hS) hw hW (carried (mems t) _)).level (hb t)
/-- at any, -/
theorem level_at (t : Fin N) : ∃ prev, LevelOuts cw cm W X G A ⟨t.val / S, lt t⟩ (t.val % S) prev (outsAt cw cm S mems x0 x1 x2 t.val t.isLt) := by
  by_cases h : t.val % S = 0
  exacts [⟨_, level_clears h0 hS hw hW hb t h⟩, ⟨_, level_adds h0 hS hw hW hb t h⟩]
/-- and the blocks the arrays take. -/
theorem box_block (t : Fin N) (y : S1x1x675x4.Idx) : (outsAt cw cm S mems x0 x1 x2 t.val t.isLt).2.1 y
    = boxArr cw W S X A (ix4 ⟨t.val / S, lt t⟩ ⟨t.val % S, Nat.mod_lt _ h0⟩ (y 2) (y 3)) := by
  obtain ⟨_, hL⟩ := level_at (mems := mems) (cm := cm) h0 hS hw hW hb t
  exact hL.box_at y
theorem score_block (t : Fin N) (y : S1x1x675x80.Idx) : (outsAt cw cm S mems x0 x1 x2 t.val t.isLt).2.2 y
    = scoreArr cw W S X A (ix4 ⟨t.val / S, lt t⟩ ⟨t.val % S, Nat.mod_lt _ h0⟩ (y 2) (y 3)) := by
  obtain ⟨_, hL⟩ := level_at (mems := mems) (cm := cm) h0 hS hw hW hb t
  exact hL.score_at y
theorem loss_block (t : Fin N) (ht : t.val % S = S - 1) (y : S1x1x128.Idx) : (outsAt cw cm S mems x0 x1 x2 t.val t.isLt).1 y
    = lossArr cw cm W S X G A (ix3 ⟨t.val / S, lt t⟩ 0 (y 2)) :=
  haveI : NeZero S := ⟨h0.ne'⟩
  loss_at_end (level_clears h0 hS hw hW hb) (level_adds h0 hS hw hW hb) t ht y
end

end Cert.KernelIdeal.Gen

end
-- ==== Proof.Arrays0.lean ====
module

public import proofs.«01_k».proof.Proof.Arrays

@[expose] public section

set_option maxRecDepth 16384

noncomputable section

namespace Cert.KernelIdeal.Gen

open Idealize.ShloMosaic Idealize.ShloMosaic.TcCoe Idealize.ShloMosaic.Tactic Cert.KernelIdeal Cert.Spec

/-! The arrays a call leaves. -/

section
variable (V : (c : Dev nD) → (b : Ref sig .tc) → Buf (Elt Ideal) ((c : Thread nD τ).loc b)) (c : Dev nD)

theorem idx0 : ∀ t : Fin cfg0.N, ((cfg0.win 1).index t 0 = t.val / 16 ∧ (cfg0.win 1).index t 1 = t.val % 16 ∧ (cfg0.win 1).index t 2 = 0 ∧ (cfg0.win 1).index t 3 = 0)
    ∧ ((cfg0.win 2).index t 0 = t.val / 16 ∧ (cfg0.win 2).index t 1 = 0 ∧ (cfg0.win 2).index t 2 = 0)
    ∧ ((cfg0.win 0).index t 0 = 0 ∧ (cfg0.win 0).index t 1 = 0)
    ∧ ((cfg0.win 3).index t 0 = t.val / 16 ∧ (cfg0.win 3).index t 1 = 0 ∧ (cfg0.win 3).index t 2 = 0)
    ∧ ((cfg0.win 4).index t 0 = t.val / 16 ∧ (cfg0.win 4).index t 1 = t.val % 16 ∧ (cfg0.win 4).index t 2 = 0 ∧ (cfg0.win 4).index t 3 = 0)
    ∧ ((cfg0.win 5).index t 0 = t.val / 16 ∧ (cfg0.win 5).index t 1 = t.val % 16 ∧ (cfg0.win 5).index t 2 = 0 ∧ (cfg0.win 5).index t 3 = 0) := by
  decide +kernel

theorem iblk0_1 (t : Fin cfg0.N) (q : Fin 675) (d : Fin 85) : iblk0 V c 1 t (ix4 0 0 q d) = V c main_v0 (ix4 ⟨t.val / 16, by have := lt_of_lt_of_eq t.isLt N_0; omega⟩ ⟨t.val % 16, by omega⟩ q d) := by
  blk_ext [iblk0, idx0 t]
theorem iblk0_2 (t : Fin cfg0.N) (q : Fin 50) (d : Fin 5) : iblk0 V c 2 t (ix3 0 q d) = V c main_arg3 (ix3 ⟨t.val / 16, by have := lt_of_lt_of_eq t.isLt N_0; omega⟩ q d) := by
  blk_ext [iblk0, idx0 t]
theorem iblk0_0 (t : Fin cfg0.N) (q : Fin 3) (d : Fin 2) : iblk0 V c 0 t (ix2 q d) = V c main_arg4 (ix2 q d) := by
  blk_ext [iblk0, idx0 t]

theorem lt0 (t : Fin cfg0.N) : t.val / 16 < 32 := by have := lt_of_lt_of_eq t.isLt N_0; omega

variable {X : Fin 32 → Fin 60 → Fin 60 → Fin 255 → EReal} {G : Fin 32 → Fin 50 → Fin 5 → EReal} {A : Fin 3 → Fin 2 → EReal}
  (hX : ∀ (b : Fin 32) (s : Fin 16) (q : Fin 675), RowIs 60 X b (s.val * 675 + q.val) fun d => V c main_v0 (ix4 b s q d))
  (hG : ∀ b n d, V c main_arg3 (ix3 b n d) = G b n d) (hA : ∀ a d, V c main_arg4 (ix2 a d) = A a d)
include hX hG hA

theorem blocks0 (t : Fin cfg0.N) : Blocks 60 X G A ⟨t.val / 16, lt0 t⟩ (t.val % 16) (iblk0 V c 0 t) (iblk0 V c 1 t) (iblk0 V c 2 t) where
  anchors a d := (iblk0_0 V c t a d).trans (hA a d)
  rows q := by
    obtain ⟨h, hf⟩ := hX ⟨t.val / 16, lt0 t⟩ ⟨t.val % 16, by omega⟩ q
    exact ⟨h, fun d => (iblk0_1 V c t q d).trans (hf d)⟩
  boxes n d := (iblk0_2 V c t n d).trans (hG _ n d)

theorem boxes0 : (dat0 V c).arrAt 4 cfg0.N = boxArr 0x42700000#32 60 16 X A := by
  refine Pipeline.Dat.arrAt_eq_of_covers (dat0 V c) 4 _ (by decide +kernel) fun t hf y => ?_
  blk_simp
  have he : (win0_4.blk t).view.emb y = ix4 ⟨t.val / 16, lt0 t⟩ ⟨t.val % 16, by omega⟩ (y 2) (y 3) := by
    blk_ext [idx0 t]
  rw [after0_4, he]
  exact box_block (by decide) (by decide) Model.lit_60 (by norm_num) (blocks0 V c hX hG hA) t y
theorem scores0 : (dat0 V c).arrAt 5 cfg0.N = scoreArr 0x42700000#32 60 16 X A := by
  refine Pipeline.Dat.arrAt_eq_of_covers (dat0 V c) 5 _ (by decide +kernel) fun t hf y => ?_
  blk_simp
  have he : (win0_5.blk t).view.emb y = ix4 ⟨t.val / 16, lt0 t⟩ ⟨t.val % 16, by omega⟩ (y 2) (y 3) := by
    blk_ext [idx0 t]
  rw [after0_5, he]
  exact score_block (by decide) (by decide) Model.lit_60 (by norm_num) (blocks0 V c hX hG hA) t y
theorem losses0 : (dat0 V c).arrAt 3 cfg0.N = lossArr 0x42700000#32 0x426C0000#32 60 16 X G A := by
  refine Pipeline.Dat.arrAt_eq_of_covers (dat0 V c) 3 _ (by decide +kernel) fun t hf y => ?_
  blk_simp
  have he : (win0_3.blk t).view.emb y = ix3 ⟨t.val / 16, lt0 t⟩ 0 (y 2) := by
    blk_ext [idx0 t]
  rw [after0_3, he]
  exact loss_block (by decide) (by decide) Model.lit_60 (by norm_num) (blocks0 V c hX hG hA) t ((flush0_3 t).mp hf) y
end

end Cert.KernelIdeal.Gen

end
-- ==== Proof.Arrays1.lean ====
module

public import proofs.«01_k».proof.Proof.Arrays

@[expose] public section

set_option maxRecDepth 16384

noncomputable section

namespace Cert.KernelIdeal.Gen

open Idealize.ShloMosaic Idealize.ShloMosaic.TcCoe Idealize.ShloMosaic.Tactic Cert.KernelIdeal Cert.Spec

/-! The arrays a call leaves. -/

section
variable (V : (c : Dev nD) → (b : Ref sig .tc) → Buf (Elt Ideal) ((c : Thread nD τ).loc b)) (c : Dev nD)

theorem idx1 : ∀ t : Fin cfg1.N, ((cfg1.win 1).index t 0 = t.val / 4 ∧ (cfg1.win 1).index t 1 = t.val % 4 ∧ (cfg1.win 1).index t 2 = 0 ∧ (cfg1.win 1).index t 3 = 0)
    ∧ ((cfg1.win 2).index t 0 = t.val / 4 ∧ (cfg1.win 2).index t 1 = 0 ∧ (cfg1.win 2).index t 2 = 0)
    ∧ ((cfg1.win 0).index t 0 = 0 ∧ (cfg1.win 0).index t 1 = 0)
    ∧ ((cfg1.win 3).index t 0 = t.val / 4 ∧ (cfg1.win 3).index t 1 = 0 ∧ (cfg1.win 3).index t 2 = 0)
    ∧ ((cfg1.win 4).index t 0 = t.val / 4 ∧ (cfg1.win 4).index t 1 = t.val % 4 ∧ (cfg1.win 4).index t 2 = 0 ∧ (cfg1.win 4).index t 3 = 0)
    ∧ ((cfg1.win 5).index t 0 = t.val / 4 ∧ (cfg1.win 5).index t 1 = t.val % 4 ∧ (cfg1.win 5).index t 2 = 0 ∧ (cfg1.win 5).index t 3 = 0) := by
  decide +kernel

theorem iblk1_1 (t : Fin cfg1.N) (q : Fin 675) (d : Fin 85) : iblk1 V c 1 t (ix4 0 0 q d) = V c main_v4 (ix4 ⟨t.val / 4, by have := lt_of_lt_of_eq t.isLt N_1; omega⟩ ⟨t.val % 4, by omega⟩ q d) := by
  blk_ext [iblk1, idx1 t]
theorem iblk1_2 (t : Fin cfg1.N) (q : Fin 50) (d : Fin 5) : iblk1 V c 2 t (ix3 0 q d) = V c main_arg3 (ix3 ⟨t.val / 4, by have := lt_of_lt_of_eq t.isLt N_1; omega⟩ q d) := by
  blk_ext [iblk1, idx1 t]
theorem iblk1_0 (t : Fin cfg1.N) (q : Fin 3) (d : Fin 2) : iblk1 V c 0 t (ix2 q d) = V c main_arg4 (ix2 q d) := by
  blk_ext [iblk1, idx1 t]

theorem lt1 (t : Fin cfg1.N) : t.val / 4 < 32 := by have := lt_of_lt_of_eq t.isLt N_1; omega

variable {X : Fin 32 → Fin 30 → Fin 30 → Fin 255 → EReal} {G : Fin 32 → Fin 50 → Fin 5 → EReal} {A : Fin 3 → Fin 2 → EReal}
  (hX : ∀ (b : Fin 32) (s : Fin 4) (q : Fin 675), RowIs 30 X b (s.val * 675 + q.val) fun d => V c main_v4 (ix4 b s q d))
  (hG : ∀ b n d, V c main_arg3 (ix3 b n d) = G b n d) (hA : ∀ a d, V c main_arg4 (ix2 a d) = A a d)
include hX hG hA

theorem blocks1 (t : Fin cfg1.N) : Blocks 30 X G A ⟨t.val / 4, lt1 t⟩ (t.val % 4) (iblk1 V c 0 t) (iblk1 V c 1 t) (iblk1 V c 2 t) where
  anchors a d := (iblk1_0 V c t a d).trans (hA a d)
  rows q := by
    obtain ⟨h, hf⟩ := hX ⟨t.val / 4, lt1 t⟩ ⟨t.val % 4, by omega⟩ q
    exact ⟨h, fun d => (iblk1_1 V c t q d).trans (hf d)⟩
  boxes n d := (iblk1_2 V c t n d).trans (hG _ n d)

theorem boxes1 : (dat1 V c).arrAt 4 cfg1.N = boxArr 0x41F00000#32 30 4 X A := by
  refine Pipeline.Dat.arrAt_eq_of_covers (dat1 V c) 4 _ (by decide +kernel) fun t hf y => ?_
  blk_simp
  have he : (win1_4.blk t).view.emb y = ix4 ⟨t.val / 4, lt1 t⟩ ⟨t.val % 4, by omega⟩ (y 2) (y 3) := by
    blk_ext [idx1 t]
  rw [after1_4, he]
  exact box_block (by decide) (by decide) Model.lit_30 (by norm_num) (blocks1 V c hX hG hA) t y
theorem scores1 : (dat1 V c).arrAt 5 cfg1.N = scoreArr 0x41F00000#32 30 4 X A := by
  refine Pipeline.Dat.arrAt_eq_of_covers (dat1 V c) 5 _ (by decide +kernel) fun t hf y => ?_
  blk_simp
  have he : (win1_5.blk t).view.emb y = ix4 ⟨t.val / 4, lt1 t⟩ ⟨t.val % 4, by omega⟩ (y 2) (y 3) := by
    blk_ext [idx1 t]
  rw [after1_5, he]
  exact score_block (by decide) (by decide) Model.lit_30 (by norm_num) (blocks1 V c hX hG hA) t y
theorem losses1 : (dat1 V c).arrAt 3 cfg1.N = lossArr 0x41F00000#32 0x41E80000#32 30 4 X G A := by
  refine Pipeline.Dat.arrAt_eq_of_covers (dat1 V c) 3 _ (by decide +kernel) fun t hf y => ?_
  blk_simp
  have he : (win1_3.blk t).view.emb y = ix3 ⟨t.val / 4, lt1 t⟩ 0 (y 2) := by
    blk_ext [idx1 t]
  rw [after1_3, he]
  exact loss_block (by decide) (by decide) Model.lit_30 (by norm_num) (blocks1 V c hX hG hA) t ((flush1_3 t).mp hf) y
end

end Cert.KernelIdeal.Gen

end
-- ==== Proof.Arrays2.lean ====
module

public import proofs.«01_k».proof.Proof.Arrays

@[expose] public section

set_option maxRecDepth 16384

noncomputable section

namespace Cert.KernelIdeal.Gen

open Idealize.ShloMosaic Idealize.ShloMosaic.TcCoe Idealize.ShloMosaic.Tactic Cert.KernelIdeal Cert.Spec

/-! The arrays a call leaves. -/

section
variable (V : (c : Dev nD) → (b : Ref sig .tc) → Buf (Elt Ideal) ((c : Thread nD τ).loc b)) (c : Dev nD)

theorem idx2 : ∀ t : Fin cfg2.N, ((cfg2.win 1).index t 0 = t.val / 1 ∧ (cfg2.win 1).index t 1 = t.val % 1 ∧ (cfg2.win 1).index t 2 = 0 ∧ (cfg2.win 1).index t 3 = 0)
    ∧ ((cfg2.win 2).index t 0 = t.val / 1 ∧ (cfg2.win 2).index t 1 = 0 ∧ (cfg2.win 2).index t 2 = 0)
    ∧ ((cfg2.win 0).index t 0 = 0 ∧ (cfg2.win 0).index t 1 = 0)
    ∧ ((cfg2.win 3).index t 0 = t.val / 1 ∧ (cfg2.win 3).index t 1 = 0 ∧ (cfg2.win 3).index t 2 = 0)
    ∧ ((cfg2.win 4).index t 0 = t.val / 1 ∧ (cfg2.win 4).index t 1 = t.val % 1 ∧ (cfg2.win 4).index t 2 = 0 ∧ (cfg2.win 4).index t 3 = 0)
    ∧ ((cfg2.win 5).index t 0 = t.val / 1 ∧ (cfg2.win 5).index t 1 = t.val % 1 ∧ (cfg2.win 5).index t 2 = 0 ∧ (cfg2.win 5).index t 3 = 0) := by
  decide +kernel

theorem iblk2_1 (t : Fin cfg2.N) (q : Fin 675) (d : Fin 85) : iblk2 V c 1 t (ix4 0 0 q d) = V c main_v8 (ix4 ⟨t.val / 1, by have := lt_of_lt_of_eq t.isLt N_2; omega⟩ ⟨t.val % 1, by omega⟩ q d) := by
  blk_ext [iblk2, idx2 t]
theorem iblk2_2 (t : Fin cfg2.N) (q : Fin 50) (d : Fin 5) : iblk2 V c 2 t (ix3 0 q d) = V c main_arg3 (ix3 ⟨t.val / 1, by have := lt_of_lt_of_eq t.isLt N_2; omega⟩ q d) := by
  blk_ext [iblk2, idx2 t]
theorem iblk2_0 (t : Fin cfg2.N) (q : Fin 3) (d : Fin 2) : iblk2 V c 0 t (ix2 q d) = V c main_arg4 (ix2 q d) := by
  blk_ext [iblk2, idx2 t]

theorem lt2 (t : Fin cfg2.N) : t.val / 1 < 32 := by have := lt_of_lt_of_eq t.isLt N_2; omega

variable {X : Fin 32 → Fin 15 → Fin 15 → Fin 255 → EReal} {G : Fin 32 → Fin 50 → Fin 5 → EReal} {A : Fin 3 → Fin 2 → EReal}
  (hX : ∀ (b : Fin 32) (s : Fin 1) (q : Fin 675), RowIs 15 X b (s.val * 675 + q.val) fun d => V c main_v8 (ix4 b s q d))
  (hG : ∀ b n d, V c main_arg3 (ix3 b n d) = G b n d) (hA : ∀ a d, V c main_arg4 (ix2 a d) = A a d)
include hX hG hA

theorem blocks2 (t : Fin cfg2.N) : Blocks 15 X G A ⟨t.val / 1, lt2 t⟩ (t.val % 1) (iblk2 V c 0 t) (iblk2 V c 1 t) (iblk2 V c 2 t) where
  anchors a d := (iblk2_0 V c t a d).trans (hA a d)
  rows q := by
    obtain ⟨h, hf⟩ := hX ⟨t.val / 1, lt2 t⟩ ⟨t.val % 1, by omega⟩ q
    exact ⟨h, fun d => (iblk2_1 V c t q d).trans (hf d)⟩
  boxes n d := (iblk2_2 V c t n d).trans (hG _ n d)

theorem boxes2 : (dat2 V c).arrAt 4 cfg2.N = boxArr 0x41700000#32 15 1 X A := by
  refine Pipeline.Dat.arrAt_eq_of_covers (dat2 V c) 4 _ (by decide +kernel) fun t hf y => ?_
  blk_simp
  have he : (win2_4.blk t).view.emb y = ix4 ⟨t.val / 1, lt2 t⟩ ⟨t.val % 1, by omega⟩ (y 2) (y 3) := by
    blk_ext [idx2 t]
  rw [after2_4, he]
  exact box_block (by decide) (by decide) Model.lit_15 (by norm_num) (blocks2 V c hX hG hA) t y
theorem scores2 : (dat2 V c).arrAt 5 cfg2.N = scoreArr 0x41700000#32 15 1 X A := by
  refine Pipeline.Dat.arrAt_eq_of_covers (dat2 V c) 5 _ (by decide +kernel) fun t hf y => ?_
  blk_simp
  have he : (win2_5.blk t).view.emb y = ix4 ⟨t.val / 1, lt2 t⟩ ⟨t.val % 1, by omega⟩ (y 2) (y 3) := by
    blk_ext [idx2 t]
  rw [after2_5, he]
  exact score_block (by decide) (by decide) Model.lit_15 (by norm_num) (blocks2 V c hX hG hA) t y
theorem losses2 : (dat2 V c).arrAt 3 cfg2.N = lossArr 0x41700000#32 0x41600000#32 15 1 X G A := by
  refine Pipeline.Dat.arrAt_eq_of_covers (dat2 V c) 3 _ (by decide +kernel) fun t hf y => ?_
  blk_simp
  have he : (win2_3.blk t).view.emb y = ix3 ⟨t.val / 1, lt2 t⟩ 0 (y 2) := by
    blk_ext [idx2 t]
  rw [after2_3, he]
  exact loss_block (by decide) (by decide) Model.lit_15 (by norm_num) (blocks2 V c hX hG hA) t (Nat.mod_one _) y
end

end Cert.KernelIdeal.Gen

end
-- ==== Proof.KVal.lean ====
module

public import proofs.«01_k».proof.Proof.Arrays0
public import proofs.«01_k».proof.Proof.Arrays1
public import proofs.«01_k».proof.Proof.Arrays2
public import Idealize.ShloMosaic.Lib.StableHlo.Run
public import Idealize.ShloMosaic.Lib.Claim

@[expose] public section

set_option maxRecDepth 16384

noncomputable section

namespace Cert.KernelIdeal.Gen

open Idealize.ShloMosaic Idealize.ShloMosaic.TcCoe Idealize.ShloMosaic.Tactic Cert.KernelIdeal Cert.Spec

section
variable (m : (ℓ : Loc nD τ sig) → Buf (Elt Ideal) ℓ) (ρ : Dev nD → PrngReg) (c : Dev nD)

/-! The arguments, and the arrays of predictions as the calls find them. -/
abbrev X0 : Fin 32 → Fin 60 → Fin 60 → Fin 255 → EReal := fun b i j k => m ((c : Thread nD τ).loc main_arg0) (ix4 b i j k)
abbrev X1 : Fin 32 → Fin 30 → Fin 30 → Fin 255 → EReal := fun b i j k => m ((c : Thread nD τ).loc main_arg1) (ix4 b i j k)
abbrev X2 : Fin 32 → Fin 15 → Fin 15 → Fin 255 → EReal := fun b i j k => m ((c : Thread nD τ).loc main_arg2) (ix4 b i j k)
abbrev GT : Fin 32 → Fin 50 → Fin 5 → EReal := fun b n d => m ((c : Thread nD τ).loc main_arg3) (ix3 b n d)
abbrev AN : Fin 3 → Fin 2 → EReal := fun a d => m ((c : Thread nD τ).loc main_arg4) (ix2 a d)

theorem rowIs_of {W r : ℕ} {X : Fin 32 → Fin W → Fin W → Fin 255 → EReal} {b : Fin 32} {f : Fin 85 → EReal} (hr : r < W * W * 3)
    (h : ∀ (d : Fin 85) (i j : Fin W) (k : Fin 255), i.val = r / 3 / W → j.val = r / 3 % W → k.val = r % 3 * 85 + d.val → f d = X b i j k) : RowIs W X b r f :=
  ⟨hr, fun d => h d _ _ _ rfl rfl rfl⟩

theorem cast0 (x : Vec Ideal S32x60x60x255 .f32) (b : Fin 32) (s : Fin 16) (q : Fin 675) :
    RowIs 60 (fun b i j k => x (ix4 b i j k)) b (s.val * 675 + q.val) fun d => shapeCast S32x16x675x85 x shapeCasts_S32x60x60x255_S32x16x675x85 (ix4 b s q d) :=
  rowIs_of (by omega) fun d i j k hi hj hk => by pointwise; blk_ext
theorem cast1 (x : Vec Ideal S32x30x30x255 .f32) (b : Fin 32) (s : Fin 4) (q : Fin 675) :
    RowIs 30 (fun b i j k => x (ix4 b i j k)) b (s.val * 675 + q.val) fun d => shapeCast S32x4x675x85 x shapeCasts_S32x30x30x255_S32x4x675x85 (ix4 b s q d) :=
  rowIs_of (by omega) fun d i j k hi hj hk => by pointwise; blk_ext
theorem cast2 (x : Vec Ideal S32x15x15x255 .f32) (b : Fin 32) (s : Fin 1) (q : Fin 675) :
    RowIs 15 (fun b i j k => x (ix4 b i j k)) b (s.val * 675 + q.val) fun d => shapeCast S32x1x675x85 x shapeCasts_S32x15x15x255_S32x1x675x85 (ix4 b s q d) :=
  rowIs_of (by omega) fun d i j k hi hj hk => by pointwise; blk_ext

theorem V1_v0 : V1 m ρ c main_v0 = shapeCast S32x16x675x85 (m ((c : Thread nD τ).loc main_arg0)) shapeCasts_S32x60x60x255_S32x16x675x85 := by
  unfold V1 entry W1
  after_results
  rfl
theorem V3_v4 : V3 m ρ c main_v4 = shapeCast S32x4x675x85 (m ((c : Thread nD τ).loc main_arg1)) shapeCasts_S32x30x30x255_S32x4x675x85 := by
  unfold V3 entry W3
  after_results
  rw [W2_args m ρ c main_arg1 (by decide)]
  rfl
theorem V5_v8 : V5 m ρ c main_v8 = shapeCast S32x1x675x85 (m ((c : Thread nD τ).loc main_arg2)) shapeCasts_S32x15x15x255_S32x1x675x85 := by
  unfold V5 entry W5
  after_results
  rw [W4_args m ρ c main_arg2 (by decide)]
  rfl

theorem flat_row (r : ℕ) : r / 675 * 675 + r % 675 = r := by omega

section
variable (cw cm : BitVec 32) (W : ℕ) (X : Fin 32 → Fin W → Fin W → Fin 255 → EReal) (G : Fin 32 → Fin 50 → Fin 5 → EReal) (A : Fin 3 → Fin 2 → EReal)

theorem flatBoxes0 : shapeCast S32x10800x4 (boxArr cw W 16 X A) shapeCasts_S32x16x675x4_S32x10800x4 = flatBoxes cw W X A 10800 := by
  funext y; idx_vars y
  pointwise [boxArr, flatBoxes, flat_row]
theorem flatBoxes1 : shapeCast S32x2700x4 (boxArr cw W 4 X A) shapeCasts_S32x4x675x4_S32x2700x4 = flatBoxes cw W X A 2700 := by
  funext y; idx_vars y
  pointwise [boxArr, flatBoxes, flat_row]
theorem flatBoxes2 : shapeCast S32x675x4 (boxArr cw W 1 X A) shapeCasts_S32x1x675x4_S32x675x4 = flatBoxes cw W X A 675 := by
  funext y; idx_vars y
  pointwise [boxArr, flatBoxes]
theorem flatScores0 : shapeCast S32x10800x80 (scoreArr cw W 16 X A) shapeCasts_S32x16x675x80_S32x10800x80 = flatScores cw W X A 10800 := by
  funext y; idx_vars y
  pointwise [scoreArr, flatScores, flat_row]
theorem flatScores1 : shapeCast S32x2700x80 (scoreArr cw W 4 X A) shapeCasts_S32x4x675x80_S32x2700x80 = flatScores cw W X A 2700 := by
  funext y; idx_vars y
  pointwise [scoreArr, flatScores, flat_row]
theorem flatScores2 : shapeCast S32x675x80 (scoreArr cw W 1 X A) shapeCasts_S32x1x675x80_S32x675x80 = flatScores cw W X A 675 := by
  funext y; idx_vars y
  pointwise [scoreArr, flatScores]

/-- The first entries of the loss rows, summed over the images. -/
theorem lossSum {S : ℕ} (h : W * W * 3 = S * 675) (y : S_.Idx) : Host.reduceAdd (F := Ideal) (shapeCast S32 (extractStridedSlice S32x1x1 ![0, 0, 0] (lossArr cw cm W S X G A : Vec Ideal S32x1x128 .f32)
    slices_S32x1x128_S32x1x1_0_0_0) shapeCasts_S32x1x1_S32) (constant S_ FTy.f32 0#32) reducesTo_S32_S_d0 h_S_ y = levelLoss cw cm W X G A := by
  rw [levelLoss_eq cw cm W S h]
  pointwise [lossArr]
end

theorem concat3 {t s0 s1 s2 : Shape} {d} {a a' : Vec Ideal s0 .f32} {b b' : Vec Ideal s1 .f32} {c c' : Vec Ideal s2 .f32} (h) (h0 : a = a') (h1 : b = b') (h2 : c = c') :
    concatenate t d [⟨s0, a⟩, ⟨s1, b⟩, ⟨s2, c⟩] h = concatenate t d [⟨s0, a'⟩, ⟨s1, b'⟩, ⟨s2, c'⟩] h := by
  subst h0 h1 h2; rfl

/-! What the three calls leave, and what the operations after them read. -/

theorem out0 : W2 m ρ c (Proc.devRef .tc main_v1_0) = lossArr 0x42700000#32 0x426C0000#32 60 16 (X0 m c) (GT m c) (AN m c)
    ∧ W2 m ρ c (Proc.devRef .tc main_v1_1) = boxArr 0x42700000#32 60 16 (X0 m c) (AN m c)
    ∧ W2 m ρ c (Proc.devRef .tc main_v1_2) = scoreArr 0x42700000#32 60 16 (X0 m c) (AN m c) := by
  have hX := fun b s q => V1_v0 m ρ c ▸ cast0 (m ((c : Thread nD τ).loc main_arg0)) b s q
  have hG : ∀ b n d, V1 m ρ c main_arg3 (ix3 b n d) = GT m c b n d := fun b n d => congrFun (W1_args m ρ c main_arg3 (by decide)) _
  have hA : ∀ a d, V1 m ρ c main_arg4 (ix2 a d) = AN m c a d := fun a d => congrFun (W1_args m ρ c main_arg4 (by decide)) _
  exact ⟨(W2_arr m ρ c 3).trans (losses0 _ c hX hG hA), (W2_arr m ρ c 4).trans (boxes0 _ c hX hG hA), (W2_arr m ρ c 5).trans (scores0 _ c hX hG hA)⟩
theorem out1 : W4 m ρ c (Proc.devRef .tc main_v5_0) = lossArr 0x41F00000#32 0x41E80000#32 30 4 (X1 m c) (GT m c) (AN m c)
    ∧ W4 m ρ c (Proc.devRef .tc main_v5_1) = boxArr 0x41F00000#32 30 4 (X1 m c) (AN m c)
    ∧ W4 m ρ c (Proc.devRef .tc main_v5_2) = scoreArr 0x41F00000#32 30 4 (X1 m c) (AN m c) := by
  have hX := fun b s q => V3_v4 m ρ c ▸ cast1 (m ((c : Thread nD τ).loc main_arg1)) b s q
  have hG : ∀ b n d, V3 m ρ c main_arg3 (ix3 b n d) = GT m c b n d := fun b n d => congrFun (W3_args m ρ c main_arg3 (by decide)) _
  have hA : ∀ a d, V3 m ρ c main_arg4 (ix2 a d) = AN m c a d := fun a d => congrFun (W3_args m ρ c main_arg4 (by decide)) _
  exact ⟨(W4_arr m ρ c 3).trans (losses1 _ c hX hG hA), (W4_arr m ρ c 4).trans (boxes1 _ c hX hG hA), (W4_arr m ρ c 5).trans (scores1 _ c hX hG hA)⟩
theorem out2 : W6 m ρ c (Proc.devRef .tc main_v9_0) = lossArr 0x41700000#32 0x41600000#32 15 1 (X2 m c) (GT m c) (AN m c)
    ∧ W6 m ρ c (Proc.devRef .tc main_v9_1) = boxArr 0x41700000#32 15 1 (X2 m c) (AN m c)
    ∧ W6 m ρ c (Proc.devRef .tc main_v9_2) = scoreArr 0x41700000#32 15 1 (X2 m c) (AN m c) := by
  have hX := fun b s q => V5_v8 m ρ c ▸ cast2 (m ((c : Thread nD τ).loc main_arg2)) b s q
  have hG : ∀ b n d, V5 m ρ c main_arg3 (ix3 b n d) = GT m c b n d := fun b n d => congrFun (W5_args m ρ c main_arg3 (by decide)) _
  have hA : ∀ a d, V5 m ρ c main_arg4 (ix2 a d) = AN m c a d := fun a d => congrFun (W5_args m ρ c main_arg4 (by decide)) _
  exact ⟨(W6_arr m ρ c 3).trans (losses2 _ c hX hG hA), (W6_arr m ρ c 4).trans (boxes2 _ c hX hG hA), (W6_arr m ρ c 5).trans (scores2 _ c hX hG hA)⟩

/-- A buffer that neither the second call nor the operations before it write. -/
theorem W4_W2 (r : Ref sig .tc) (h1 : r ∉ hostOps1_W) (h : ∀ w : Fin cfg1.W, Pipeline.arrRef spec1 w = r → (cfg1.win w).isOut = false) :
    W4 m ρ c (Proc.devRef .tc r) = W2 m ρ c (Proc.devRef .tc r) := (W4_of m ρ c r h).trans (W3_of m ρ c r h1)
/-- A buffer that neither the third call nor the operations before it write. -/
theorem W6_W4 (r : Ref sig .tc) (h1 : r ∉ hostOps2_W) (h : ∀ w : Fin cfg2.W, Pipeline.arrRef spec2 w = r → (cfg2.win w).isOut = false) :
    W6 m ρ c (Proc.devRef .tc r) = W4 m ρ c (Proc.devRef .tc r) := (W6_of m ρ c r h).trans (W5_of m ρ c r h1)

theorem W6_v2 : W6 m ρ c (Proc.devRef .tc main_v2) = flatBoxes 0x42700000#32 60 (X0 m c) (AN m c) 10800 := by
  rw [W6_W4 m ρ c main_v2 (by decide) (by decide +kernel), W4_of m ρ c main_v2 (by decide +kernel)]
  unfold W3
  after_results_simp
  rw [(out0 m ρ c).2.1]
  exact flatBoxes0 _ _ _ _
theorem W6_v3 : W6 m ρ c (Proc.devRef .tc main_v3) = flatScores 0x42700000#32 60 (X0 m c) (AN m c) 10800 := by
  rw [W6_W4 m ρ c main_v3 (by decide) (by decide +kernel), W4_of m ρ c main_v3 (by decide +kernel)]
  unfold W3
  after_results_simp
  rw [(out0 m ρ c).2.2]
  exact flatScores0 _ _ _ _
theorem W6_v6 : W6 m ρ c (Proc.devRef .tc main_v6) = flatBoxes 0x41F00000#32 30 (X1 m c) (AN m c) 2700 := by
  rw [W6_of m ρ c main_v6 (by decide +kernel)]
  unfold W5
  after_results_simp
  rw [(out1 m ρ c).2.1]
  exact flatBoxes1 _ _ _ _
theorem W6_v7 : W6 m ρ c (Proc.devRef .tc main_v7) = flatScores 0x41F00000#32 30 (X1 m c) (AN m c) 2700 := by
  rw [W6_of m ρ c main_v7 (by decide +kernel)]
  unfold W5
  after_results_simp
  rw [(out1 m ρ c).2.2]
  exact flatScores1 _ _ _ _

theorem W7_v24 : W7 m ρ c (Proc.devRef .tc main_v24) = concatenate S32x14175x4 1 [⟨S32x10800x4, flatBoxes 0x42700000#32 60 (X0 m c) (AN m c) 10800⟩,
    ⟨S32x2700x4, flatBoxes 0x41F00000#32 30 (X1 m c) (AN m c) 2700⟩, ⟨S32x675x4, flatBoxes 0x41700000#32 15 (X2 m c) (AN m c) 675⟩]
      concatenates_S32x10800x4_S32x2700x4_S32x675x4_S32x14175x4_d1 := by
  unfold W7
  after_results
  refine concat3 _ ?_ ?_ ?_
  · change (_ : Valuation τ sig (Elt Ideal)) (Proc.devRef .tc main_v2) = _
    after_results_simp
    exact W6_v2 m ρ c
  · change (_ : Valuation τ sig (Elt Ideal)) (Proc.devRef .tc main_v6) = _
    after_results_simp
    exact W6_v6 m ρ c
  · change (_ : Valuation τ sig (Elt Ideal)) (Proc.devRef .tc main_v10) = _
    after_results_simp
    rw [(out2 m ρ c).2.1]
    exact flatBoxes2 _ _ _ _

theorem W7_v25 : W7 m ρ c (Proc.devRef .tc main_v25) = concatenate S32x14175x80 1 [⟨S32x10800x80, flatScores 0x42700000#32 60 (X0 m c) (AN m c) 10800⟩,
    ⟨S32x2700x80, flatScores 0x41F00000#32 30 (X1 m c) (AN m c) 2700⟩, ⟨S32x675x80, flatScores 0x41700000#32 15 (X2 m c) (AN m c) 675⟩]
      concatenates_S32x10800x80_S32x2700x80_S32x675x80_S32x14175x80_d1 := by
  unfold W7
  after_results
  refine concat3 _ ?_ ?_ ?_
  · change (_ : Valuation τ sig (Elt Ideal)) (Proc.devRef .tc main_v3) = _
    after_results_simp
    exact W6_v3 m ρ c
  · change (_ : Valuation τ sig (Elt Ideal)) (Proc.devRef .tc main_v7) = _
    after_results_simp
    exact W6_v7 m ρ c
  · change (_ : Valuation τ sig (Elt Ideal)) (Proc.devRef .tc main_v11) = _
    after_results_simp
    rw [(out2 m ρ c).2.2]
    exact flatScores2 _ _ _ _

theorem W7_v23 : W7 m ρ c (Proc.devRef .tc main_v23) = fun _ => levelLoss 0x42700000#32 0x426C0000#32 60 (X0 m c) (GT m c) (AN m c)
    + levelLoss 0x41F00000#32 0x41E80000#32 30 (X1 m c) (GT m c) (AN m c) + levelLoss 0x41700000#32 0x41600000#32 15 (X2 m c) (GT m c) (AN m c) := by
  unfold W7
  after_results
  rw [W6_W4 m ρ c main_v1_0 (by decide) (by decide +kernel), W4_W2 m ρ c main_v1_0 (by decide) (by decide +kernel), (out0 m ρ c).1,
    W6_W4 m ρ c main_v5_0 (by decide) (by decide +kernel), (out1 m ρ c).1, (out2 m ρ c).1]
  funext y
  have h0 := lossSum 0x42700000#32 0x426C0000#32 60 (X0 m c) (GT m c) (AN m c) (S := 16) (by norm_num) y
  have h1 := lossSum 0x41F00000#32 0x41E80000#32 30 (X1 m c) (GT m c) (AN m c) (S := 4) (by norm_num) y
  have h2 := lossSum 0x41700000#32 0x41600000#32 15 (X2 m c) (GT m c) (AN m c) (S := 1) (by norm_num) y
  show (constant (F := Ideal) S_ FTy.f32 0#32 y + _) + _ + _ = _
  rw [← h0, ← h1, ← h2]
  have hz : constant (F := Ideal) S_ FTy.f32 0#32 y = 0 := by pointwise
  rw [hz, zero_add]
  rfl
end
end Cert.KernelIdeal.Gen

end
-- ==== Proof.RefRow.lean ====
module

public import proofs.«01_k».proof.Proof.Level

@[expose] public section

set_option maxRecDepth 16384

noncomputable section

namespace Cert.Spec

open Idealize.ShloMosaic

/-! A row by its line, column and anchor. -/

section
variable (cw : BitVec 32) {W : ℕ} (X : Fin 32 → Fin W → Fin W → Fin 255 → EReal) (A : Fin 3 → Fin 2 → EReal)

/-- The row at line `i`, column `j` and anchor `a` of image `b`. -/
def cellRow (b : Fin 32) (i j : Fin W) (a : Fin 3) : Row where
  w := lit cw
  f c := X b i j ⟨a.val * 85 + c.val, by omega⟩
  col := j
  line := i
  anc := a
  A := A

theorem split_row (W : ℕ) (i j : Fin W) (a : Fin 3) :
    ((i.val * W + j.val) * 3 + a.val) % 3 = a.val ∧ ((i.val * W + j.val) * 3 + a.val) / 3 / W = i.val
      ∧ ((i.val * W + j.val) * 3 + a.val) / 3 % W = j.val ∧ (i.val * W + j.val) * 3 + a.val < W * W * 3 := by
  have e : ((i.val * W + j.val) * 3 + a.val) / 3 = i.val * W + j.val := by omega
  have hW : 0 < W := lt_of_le_of_lt (Nat.zero_le _) j.isLt
  refine ⟨by omega, ?_, ?_, ?_⟩
  · rw [e, Nat.add_comm, Nat.add_mul_div_right _ _ hW, Nat.div_eq_of_lt j.isLt, Nat.zero_add]
  · rw [e, Nat.add_comm, Nat.add_mul_mod_self_right, Nat.mod_eq_of_lt j.isLt]
  · have h1 : i.val * W + j.val < W * W := by
      have : (i.val + 1) * W ≤ W * W := Nat.mul_le_mul_right W i.isLt
      have hj := j.isLt
      rw [Nat.succ_mul] at this
      omega
    omega

theorem lev_cell (b : Fin 32) (i j : Fin W) (a : Fin 3) : lev cw W X A b ((i.val * W + j.val) * 3 + a.val) = cellRow cw X A b i j a := by
  obtain ⟨h1, h2, h3, h4⟩ := split_row W i j a
  unfold lev cellRow
  simp only [h1, h2, h3, h4, dif_pos]

/-- A row is that of its line, column and anchor. -/
theorem lev_eq (b : Fin 32) (r : ℕ) (h : r < W * W * 3) :
    lev cw W X A b r = cellRow cw X A b ⟨r / 3 / W, line_lt h⟩ ⟨r / 3 % W, col_lt h⟩ ⟨r % 3, Nat.mod_lt _ (by norm_num)⟩ := by
  unfold lev cellRow
  simp only [h, dif_pos]

end

theorem max_fold {ι : Type} (s : Finset ι) (x : EReal) (f : ι → EReal) : max x (s.fold max x f) = s.fold max x f :=
  max_eq_right (Finset.le_fold_max x |>.2 (.inl le_rfl))

/-- A small natural number's word, read as a signed number. -/
theorem real_word (n : ℕ) (h : n < 2 ^ 31) : FloatOps.sitofp (F := Ideal) .f32 (BitVec.ofNat 32 n) = (n : EReal) := by
  have e : (BitVec.ofNat 32 n).toInt = n := by
    rw [BitVec.toInt_eq_toNat_of_lt] <;> simp [BitVec.toNat_ofNat] <;> omega
  change (((BitVec.ofNat 32 n).toInt : ℝ) : EReal) = _
  rw [e]; rfl

theorem fin2_cases {P : Fin 2 → Prop} (h0 : P 0) (h1 : P 1) : ∀ d, P d
  | 0 => h0 | 1 => h1

end Cert.Spec

end
-- ==== Proof.RefBox.lean ====
module

public import proofs.«01_k».proof.Proof.RefRow
public import Idealize.ShloMosaic.Lib.Pipeline.Value

@[expose] public section

set_option maxRecDepth 16384

noncomputable section

namespace Cert.Spec

open Idealize.ShloMosaic

/-! A box's cell and anchor as whole numbers and as words. -/

theorem lit_bot : lit 0xFF800000#32 = ⊥ := by simp [lit, Ideal.ofBits, Ideal.ieee]

theorem lit_59 : lit 0x426C0000#32 = ((59 : ℕ) : EReal) := by simp [lit, Ideal.ofBits, Ideal.ieee, -EReal.coe_mul]; norm_num; rfl
theorem lit_29 : lit 0x41E80000#32 = ((29 : ℕ) : EReal) := by simp [lit, Ideal.ofBits, Ideal.ieee, -EReal.coe_mul]; norm_num; rfl
theorem lit_14 : lit 0x41600000#32 = ((14 : ℕ) : EReal) := by simp [lit, Ideal.ofBits, Ideal.ieee, -EReal.coe_mul]; norm_num; rfl

theorem word_nat (k : ℕ) (h : k < 2 ^ 31) : FloatOps.fptosi (F := Ideal) (φ := .f32) 32 ((k : ℕ) : EReal) = BitVec.ofNat 32 k := by
  have h0 : (0 : ℝ) ≤ (k : ℝ) := Nat.cast_nonneg k
  change BitVec.ofInt 32 (max (-(2 ^ 31 : ℕ) : ℤ) (min ((2 ^ 31 : ℕ) - 1 : ℤ) (if (0 : ℝ) ≤ (k : ℝ) then ⌊(k : ℝ)⌋ else ⌈(k : ℝ)⌉))) = _
  rw [if_pos h0, Int.floor_natCast, min_eq_right (by norm_num at h ⊢; omega), max_eq_right (by omega)]
  exact BitVec.ofInt_natCast ..

theorem clip_nat (m : ℕ) (x : EReal) : ∃ k ≤ m, min (m : EReal) (max 0 (Ideal.liftRound Int.floor x)) = (k : EReal) := by
  induction x using EReal.rec with
  | bot =>
    refine ⟨0, Nat.zero_le _, ?_⟩
    change min (m : EReal) (max 0 ⊥) = _
    rw [max_eq_left bot_le, min_eq_right (by exact_mod_cast Nat.zero_le m)]; simp
  | top =>
    refine ⟨m, le_rfl, ?_⟩
    change min (m : EReal) (max 0 ⊤) = _
    rw [max_eq_right le_top, min_eq_left le_top]
  | coe r =>
    refine ⟨min m ⌊r⌋.toNat, min_le_left _ _, ?_⟩
    change min (m : EReal) (max 0 (((⌊r⌋ : ℤ) : ℝ) : EReal)) = _
    have e : max (0 : EReal) (((⌊r⌋ : ℤ) : ℝ) : EReal) = ((⌊r⌋.toNat : ℕ) : EReal) := by
      rcases le_total 0 ⌊r⌋ with h | h
      · rw [max_eq_right (by exact_mod_cast h)]
        obtain ⟨n, hn⟩ := Int.eq_ofNat_of_zero_le h
        rw [hn]; simp
      · rw [max_eq_left (by exact_mod_cast h), Int.toNat_of_nonpos h]; simp
    rw [e]
    rcases le_total m ⌊r⌋.toNat with h | h
    · rw [min_eq_left h, min_eq_left (by exact_mod_cast h)]
    · rw [min_eq_right h, min_eq_right (by exact_mod_cast h)]

namespace Box
variable (T : Box)

/-- The cell's number along an axis. -/
def num (d : Fin 2) : ℕ := ⌊(T.cell d).toReal⌋₊

theorem cell_num {m : ℕ} (hm : T.m = (m : EReal)) (d : Fin 2) : T.cell d = (T.num d : EReal) ∧ T.num d ≤ m := by
  obtain ⟨k, hk, e⟩ := clip_nat m (T.g ⟨d.val, by omega⟩ * T.w)
  have e' : T.cell d = (k : EReal) := by unfold cell; rw [hm]; exact e
  have : T.num d = k := by
    unfold num; rw [e']
    change ⌊((k : ℝ) : EReal).toReal⌋₊ = k
    rw [EReal.toReal_coe, Nat.floor_natCast]
  rw [this]; exact ⟨e', hk⟩

open Classical in
/-- The box's row among all images' rows, `N` when it has none. -/
def spot (W N : ℕ) (b : ℕ) : ℕ := if T.valid then ((b * W + T.num 1) * W + T.num 0) * 3 + T.best.val else N

theorem mix {W : ℕ} {a b c d : ℕ} (hb : b < W) (hd : d < W) : a * W + b = c * W + d ↔ a = c ∧ b = d := by
  constructor
  · intro h
    have h1 : (a * W + b) % W = (c * W + d) % W := by rw [h]
    rw [Nat.add_comm, Nat.add_mul_mod_self_right, Nat.add_comm (c * W), Nat.add_mul_mod_self_right, Nat.mod_eq_of_lt hb, Nat.mod_eq_of_lt hd] at h1
    subst h1
    exact ⟨Nat.eq_of_mul_eq_mul_right (lt_of_le_of_lt (Nat.zero_le _) hb) (by omega), rfl⟩
  · rintro ⟨rfl, rfl⟩; rfl

theorem row_lt {W b i j a : ℕ} (hb : b < 32) (hi : i < W) (hj : j < W) (ha : a < 3) : ((b * W + i) * W + j) * 3 + a < 32 * W * W * 3 := by
  have h1 : b * W + i < 32 * W := by nlinarith
  have h2 : (b * W + i) * W + j < 32 * W * W := by nlinarith
  omega

theorem spot_le {W : ℕ} (hW : 0 < W) (hm : T.m = ((W - 1 : ℕ) : EReal)) {b : ℕ} (hb : b < 32) : T.spot W (32 * W * W * 3) b ≤ 32 * W * W * 3 := by
  unfold spot
  split
  · exact (row_lt hb (by have := (T.cell_num hm 1).2; omega) (by have := (T.cell_num hm 0).2; omega) T.best.isLt).le
  · exact le_rfl

/-- The box's row is the given one exactly when it is of that image and falls on that row. -/
theorem spot_eq (cw : BitVec 32) {W : ℕ} (X : Fin 32 → Fin W → Fin W → Fin 255 → EReal) (A : Fin 3 → Fin 2 → EReal) (hm : T.m = ((W - 1 : ℕ) : EReal))
    (b' b : Fin 32) (i j : Fin W) (a : Fin 3) :
    T.spot W (32 * W * W * 3) b'.val = ((b.val * W + i.val) * W + j.val) * 3 + a.val ↔ b'.val = b.val ∧ T.falls (cellRow cw X A b i j a) := by
  have hW : 0 < W := lt_of_le_of_lt (Nat.zero_le _) i.isLt
  obtain ⟨e0, h0⟩ := T.cell_num hm 0
  obtain ⟨e1, h1⟩ := T.cell_num hm 1
  have key : T.falls (cellRow cw X A b i j a) ↔ T.valid ∧ T.num 0 = j.val ∧ T.num 1 = i.val ∧ T.best.val = a.val := by
    unfold falls
    rw [e0, e1]
    change (T.valid ∧ ((T.num 0 : ℕ) : EReal) = ((j.val : ℕ) : EReal) ∧ ((T.num 1 : ℕ) : EReal) = ((i.val : ℕ) : EReal) ∧ T.best = a) ↔ _
    rw [Nat.cast_inj, Nat.cast_inj, Fin.ext_iff]
  rw [key]
  unfold spot
  by_cases hv : T.valid
  · rw [if_pos hv, mix T.best.isLt a.isLt, mix (by omega) j.isLt, mix (by omega) i.isLt]
    tauto
  · rw [if_neg hv]
    have := row_lt b.isLt i.isLt j.isLt a.isLt
    constructor
    · intro h; omega
    · rintro ⟨_, h, _⟩; exact absurd h hv

end Box

theorem lab_g (cw cm : BitVec 32) (G : Fin 32 → Fin 50 → Fin 5 → EReal) (A : Fin 3 → Fin 2 → EReal) (b : Fin 32) (n : Fin 50) (c : Fin 5) :
    (lab cw cm G A b n.val).g c = G b n c := dif_pos n.isLt

/-- A word read through the wrapping of negative places is itself when small. -/
theorem wrap_word (k : ℕ) (h : k < 2 ^ 31) (x : BitVec 32) :
    Scalar.select (IntOp.cmpi .slt (BitVec.ofNat 32 k) 0#32) x (BitVec.ofNat 32 k) = BitVec.ofNat 32 k := by
  have : (BitVec.ofNat 32 k).toInt = k := by
    rw [BitVec.toInt_eq_toNat_of_lt] <;> simp [BitVec.toNat_ofNat] <;> omega
  have h0 : IntOp.cmpi .slt (BitVec.ofNat 32 k) 0#32 = 0#1 := by
    change BitVec.ofBool (decide ((BitVec.ofNat 32 k).toInt < (0#32).toInt)) = _
    rw [this, decide_eq_false (by change ¬((k : ℤ) < 0); omega)]
    rfl
  rw [h0]; rfl

/-- The least place of the greatest of three, as the reference finds it. -/
theorem first_word (f : Fin 3 → EReal) :
    Finset.fold IntOp.minsi 2147483647#32 (fun x : Fin 3 => if f x = Finset.fold max (lit 0xFF800000#32) f Finset.univ then BitVec.ofNat 32 x.val else 2#32) Finset.univ
      = BitVec.ofNat 32 (if max (f 0) (f 1) < f 2 then (2 : Fin 3) else if f 0 < f 1 then 1 else 0).val := by
  have hu : (Finset.univ : Finset (Fin 3)) = insert 0 (insert 1 {2}) := by decide
  have hmax : Finset.fold max (lit 0xFF800000#32) f Finset.univ = max (f 0) (max (f 1) (f 2)) := by
    rw [hu, Finset.fold_insert (by decide), Finset.fold_insert (by decide), Finset.fold_singleton, lit_bot, max_eq_left bot_le (a := f 2)]
  rw [hmax]
  rw [hu, Finset.fold_insert (by decide), Finset.fold_insert (by decide), Finset.fold_singleton]
  by_cases h2 : max (f 0) (f 1) < f 2
  · rw [if_pos h2]
    obtain ⟨h3, h4⟩ := max_lt_iff.1 h2
    rw [max_eq_right h4.le, max_eq_right h3.le, if_neg h3.ne, if_neg h4.ne, if_pos rfl]; decide
  · rw [if_neg h2, ← max_assoc, max_eq_left (not_lt.1 h2)]
    by_cases h1 : f 0 < f 1
    · rw [if_pos h1, max_eq_right h1.le, if_neg h1.ne, if_pos rfl]
      split <;> decide
    · rw [if_neg h1, max_eq_left (not_lt.1 h1), if_pos rfl]
      split <;> split <;> decide

/-- A row of two columns taken at a word below three. -/
theorem take_row (wf) (x : (⟨2, ![3, 2]⟩ : Shape).Idx → EReal) (idx : IVec ⟨3, ![32, 50, 1]⟩ 32) (b : Fin 32) (n : Fin 50) (d : Fin 2) (k : Fin 3)
    (hk : idx (ix3 b n 0) = BitVec.ofNat 32 k.val) :
    Host.gather (GatherDims.mk (s := ⟨2, ![3, 2]⟩) (si := ⟨3, ![32, 50, 1]⟩) (t := ⟨3, ![32, 50, 2]⟩) [2] [0] [] [] [0] 2 ![1, 2] wf) x idx (ix3 b n d)
      = x (ix2 k d) := by
  unfold Host.gather
  refine congrArg x ?_
  have h0 : (GatherDims.mk (s := ⟨2, ![3, 2]⟩) (si := ⟨3, ![32, 50, 1]⟩) (t := ⟨3, ![32, 50, 2]⟩) [2] [0] [] [] [0] 2 ![1, 2] wf).start (ix3 b n d) idx 0
      = min (idx (ix3 b n 0)).toInt.toNat 2 := by
    refine congrArg (fun y => min (idx y).toInt.toNat 2) ?_
    funext a; match a with | 0 => rfl | 1 => rfl | 2 => rfl
  funext a
  refine Fin.ext ?_
  match a with
  | 0 =>
    refine (congrArg (fun q => q + 0 + 0) h0).trans ?_
    rw [hk]
    match k with | 0 => rfl | 1 => rfl | 2 => rfl
  | 1 => exact Nat.zero_add _

/-! Fifty boxes an image, in one row. -/

theorem flatten {α : Type} (x : (⟨2, ![32, 50]⟩ : Shape).Idx → α) (h) (t : Fin 1600) :
    shapeCast ⟨1, ![1600]⟩ x h (ix1 t) = x (ix2 ⟨t.val / 50, by omega⟩ ⟨t.val % 50, by omega⟩) := by
  refine shapeCast_apply x h _ _ ?_
  rw [Shape.rowMajor_val_two, Shape.rowMajor_val_one]
  change t.val / 50 * 50 + t.val % 50 = t.val
  omega

theorem flatten_rows {α : Type} (x : (⟨3, ![32, 50, 5]⟩ : Shape).Idx → α) (h) (b : Fin 32) (n : Fin 50) (hn : b.val * 50 + n.val < 1600) (c : Fin 5) :
    shapeCast ⟨2, ![1600, 5]⟩ x h (ix2 ⟨b.val * 50 + n.val, hn⟩ c) = x (ix3 b n c) := by
  refine shapeCast_apply x h _ _ ?_
  rw [Shape.rowMajor_val_two, Shape.rowMajor_val_three]
  rfl

/-- A word below `2 ^ 31` read as a signed number is a given one exactly when it is. -/
theorem word_eq (k m : ℕ) (h : k < 2 ^ 31) : (BitVec.ofNat 32 k).toInt = (m : ℤ) ↔ k = m := by
  have : (BitVec.ofNat 32 k).toInt = k := by
    rw [BitVec.toInt_eq_toNat_of_lt] <;> simp [BitVec.toNat_ofNat] <;> omega
  rw [this]; exact Nat.cast_inj

namespace Box
variable (T : Box)

theorem adj_centre {m : ℕ} (hm : T.m = (m : EReal)) (h : m < 2 ^ 31) (d : Fin 2) :
    T.g ⟨d.val, by omega⟩ * T.w - FloatOps.sitofp (F := Ideal) .f32 (BitVec.ofNat 32 (T.num d)) = T.adj ⟨d.val, by omega⟩ := by
  obtain ⟨e, hl⟩ := T.cell_num hm d
  rw [real_word _ (by omega), ← e]
  unfold adj
  rw [dif_pos d.isLt]

open Classical in
theorem adj_extent (d : Fin 2) (one : EReal) (h1 : one = 1) :
    Ideal.log (Ideal.div (if T.valid then T.g ⟨2 + d.val, by omega⟩ * T.w else one) (T.side T.best d)) = T.adj ⟨2 + d.val, by omega⟩ := by
  unfold adj
  rw [dif_neg (by dsimp only; omega), dif_pos (by dsimp only; omega), h1]
  have e : (⟨2 + d.val - 2, by omega⟩ : Fin 2) = d := Fin.ext (by dsimp only; omega)
  simp only [e]
  rfl

theorem adj_class : T.g 4 = T.adj 4 := by unfold adj; rw [dif_neg (by decide), dif_neg (by decide)]
end Box

theorem lit_one : lit 0x3F800000#32 = 1 := by simp [lit, Ideal.ofBits, Ideal.ieee, -EReal.coe_mul]; norm_num

theorem fin5_cases {P : Fin 5 → Prop} (h0 : P 0) (h1 : P 1) (h2 : P 2) (h3 : P 3) (h4 : P 4) : ∀ c, P c
  | 0 => h0 | 1 => h1 | 2 => h2 | 3 => h3 | 4 => h4

end Cert.Spec

end
-- ==== Proof.RefScatter.lean ====
module

public import proofs.«01_k».proof.Proof.RefRow
public import Idealize.ShloMosaic.Lib.Routing.OpsOrder
public import Idealize.ShloMosaic.Lib.Routing.OpsSet

@[expose] public section

set_option maxRecDepth 16384

noncomputable section

namespace Cert.Spec

open Idealize.ShloMosaic Idealize.ShloMosaic.Routing

/-! A scatter that sets: an entry holds the last update that lands on it. -/

theorem foldl_last {α : Type} {N : ℕ} (p : Fin N → Prop) [DecidablePred p] (g : Fin N → α) (x : α) (k : Fin N) (hk : p k)
    (hl : ∀ n, k < n → ¬p n) : (List.finRange N).foldl (fun a n => if p n then g n else a) x = g k := by
  induction N with
  | zero => exact k.elim0
  | succ N ih =>
    rw [List.finRange_succ_last, List.foldl_append, List.foldl_map]
    simp only [List.foldl_cons, List.foldl_nil]
    by_cases h : p (Fin.last N)
    · rw [if_pos h]
      refine congrArg g ?_
      by_contra hne
      exact hl _ (lt_of_le_of_ne (Fin.le_last k) fun e => hne e.symm) h
    · rw [if_neg h]
      have hN : k ≠ Fin.last N := fun e => h (e ▸ hk)
      have e : (k.castPred hN).castSucc = k := Fin.castSucc_castPred k hN
      refine (ih (fun n => p n.castSucc) (fun n => g n.castSucc) (k.castPred hN) (by rw [e]; exact hk) fun n hn => hl _ ?_).trans (congrArg g e)
      rw [← e]
      exact hn

theorem scatter_last {s si u : Shape} {w : ℕ} (d : ScatterDims s si u) (x0 : s.Idx → EReal) (idx : IVec si w) (upd : u.Idx → EReal) (ι : s.Idx) (k : u.Idx)
    (hk : d.resultIdx? k idx = some ι) (hl : ∀ n, u.rowMajor k < u.rowMajor n → d.resultIdx? n idx ≠ some ι) :
    Host.scatter d (fun _ b => b) x0 idx upd ι = upd k := by
  rw [scatter_at]
  refine (foldl_last (fun n => d.resultIdx? (u.rowMajor.symm n) idx = some ι) (fun n => upd (u.rowMajor.symm n)) _ (u.rowMajor k) ?_ fun n hn => ?_).trans ?_
  · rw [Equiv.symm_apply_apply]; exact hk
  · exact hl _ (by rw [Equiv.apply_symm_apply]; exact hn)
  · rw [Equiv.symm_apply_apply]

section
variable {M : ℕ} (idx : IVec ⟨2, ![1600, 1]⟩ 32) (p : ℕ → Prop) (v : ℕ → EReal) (b : Fin 32) (e : Fin M)

theorem word_row (b : Fin 32) {n : ℕ} (hn : n < 50) : (b.val * 50 + n) / 50 = b.val ∧ (b.val * 50 + n) % 50 = n := by omega

variable (h : ∀ t : Fin 1600, (idx (ix2 t 0)).toInt = (e.val : ℤ) ↔ t.val / 50 = b.val ∧ p (t.val % 50))
include h

/-- Scalars set at words, fifty to an image: the entry of image `b` that a word of the image names when `p` holds of its number. -/
theorem scatter_words (d : ScatterDims ⟨1, ![M]⟩ ⟨2, ![1600, 1]⟩ ⟨1, ![1600]⟩)
    (hd : ∀ (t : Fin 1600) (e : Fin M), d.resultIdx? (ix1 t) idx = some (ix1 e) ↔ (idx (ix2 t 0)).toInt = (e.val : ℤ))
    (x0 : (⟨1, ![M]⟩ : Shape).Idx → EReal) (upd : (⟨1, ![1600]⟩ : Shape).Idx → EReal) (h0 : x0 (ix1 e) = 0)
    (hv : ∀ n (hn : n < 50), upd (ix1 ⟨b.val * 50 + n, by omega⟩) = v n) :
    Host.scatter d (fun _ b => b) x0 idx upd (ix1 e) = last p v 50 := by
  have all : ∀ k : (⟨1, ![1600]⟩ : Shape).Idx, ∃ t : Fin 1600, k = ix1 t := fun k => ⟨k 0, by funext a; match a with | 0 => rfl⟩
  rcases none_or_last p 50 with hn | ⟨n, hn, hp, hlast⟩
  · rw [last_of_none v hn, scatter_set_miss, h0]
    intro k hk
    obtain ⟨t, rfl⟩ := all k
    rw [hd, h] at hk
    exact hn _ (Nat.mod_lt _ (by norm_num)) hk.2
  · obtain ⟨h1, h2⟩ := word_row b hn
    rw [last_of_last v hn hp hlast, ← hv n hn]
    refine scatter_last _ _ _ _ _ _ ((hd ⟨b.val * 50 + n, _⟩ _).2 ((h ⟨b.val * 50 + n, _⟩).2 ⟨h1, h2.symm ▸ hp⟩)) fun k hk hk' => ?_
    obtain ⟨t, rfl⟩ := all k
    rw [hd, h] at hk'
    have hlt := Fin.lt_def.1 hk
    rw [Shape.rowMajor_val_one, Shape.rowMajor_val_one] at hlt
    change b.val * 50 + n < t.val at hlt
    exact hlast _ (Nat.mod_lt _ (by norm_num)) (by have := hk'.1; change t.val / 50 = b.val at this; omega) hk'.2

/-- The same of rows of five. -/
theorem scatter_rows (d : ScatterDims ⟨2, ![M, 5]⟩ ⟨2, ![1600, 1]⟩ ⟨2, ![1600, 5]⟩)
    (hd : ∀ (t : Fin 1600) (c : Fin 5) (e : Fin M) (c' : Fin 5), d.resultIdx? (ix2 t c) idx = some (ix2 e c') ↔ (idx (ix2 t 0)).toInt = (e.val : ℤ) ∧ c = c')
    (x0 : (⟨2, ![M, 5]⟩ : Shape).Idx → EReal) (upd : (⟨2, ![1600, 5]⟩ : Shape).Idx → EReal) (c : Fin 5) (h0 : x0 (ix2 e c) = 0)
    (hv : ∀ n (hn : n < 50), upd (ix2 ⟨b.val * 50 + n, by omega⟩ c) = v n) :
    Host.scatter d (fun _ b => b) x0 idx upd (ix2 e c) = last p v 50 := by
  have all : ∀ k : (⟨2, ![1600, 5]⟩ : Shape).Idx, ∃ (t : Fin 1600) (c : Fin 5), k = ix2 t c := fun k =>
    ⟨k 0, k 1, by funext a; match a with | 0 => rfl | 1 => rfl⟩
  rcases none_or_last p 50 with hn | ⟨n, hn, hp, hlast⟩
  · rw [last_of_none v hn, scatter_set_miss, h0]
    intro k hk
    obtain ⟨t, c', rfl⟩ := all k
    rw [hd, h] at hk
    exact hn _ (Nat.mod_lt _ (by norm_num)) hk.1.2
  · obtain ⟨h1, h2⟩ := word_row b hn
    rw [last_of_last v hn hp hlast, ← hv n hn]
    refine scatter_last _ _ _ _ _ _ ((hd ⟨b.val * 50 + n, _⟩ _ _ _).2 ⟨(h ⟨b.val * 50 + n, _⟩).2 ⟨h1, h2.symm ▸ hp⟩, rfl⟩) fun k hk hk' => ?_
    obtain ⟨t, c', rfl⟩ := all k
    rw [hd, h] at hk'
    have hlt := Fin.lt_def.1 hk
    rw [Shape.rowMajor_val_two, Shape.rowMajor_val_two] at hlt
    change (b.val * 50 + n) * 5 + c.val < t.val * 5 + c'.val at hlt
    have hc : c'.val = c.val := congrArg Fin.val hk'.2
    exact hlast _ (Nat.mod_lt _ (by norm_num)) (by have := hk'.1.1; change t.val / 50 = b.val at this; omega) hk'.1.2
end

/-! Where an update lands, of scalars and of rows. -/

section
variable {M N : ℕ} (idx : IVec ⟨2, ![N, 1]⟩ 32)

theorem lands_words (wf) (t : Fin N) (e : Fin M) :
    (ScatterDims.mk (s := ⟨1, ![M]⟩) (si := ⟨2, ![N, 1]⟩) (u := ⟨1, ![N]⟩) [] [0] [0] 1 wf).resultIdx? (ix1 t) idx = some (ix1 e)
      ↔ (idx (ix2 t 0)).toInt = (e.val : ℤ) := by
  rw [resultIdx?_eq_some]
  have h1 : (ScatterDims.mk (s := ⟨1, ![M]⟩) (si := ⟨2, ![N, 1]⟩) (u := ⟨1, ![N]⟩) [] [0] [0] 1 wf).start (ix1 t) idx 0 = (idx (ix2 t 0)).toInt := by
    refine congrArg (fun k => (idx k).toInt) ?_
    funext a; match a with | 0 => rfl | 1 => rfl
  have h2 : (ScatterDims.mk (s := ⟨1, ![M]⟩) (si := ⟨2, ![N, 1]⟩) (u := ⟨1, ![N]⟩) [] [0] [0] 1 wf).window (ix1 t) 0 = 0 := rfl
  constructor
  · intro h
    have := h 0
    rw [h1, h2] at this
    simpa using this
  · intro h a
    match a with
    | 0 => exact (by rw [h1, h2]; simpa using h)

theorem lands_rows (wf) (t : Fin N) (c : Fin 5) (e : Fin M) (c' : Fin 5) :
    (ScatterDims.mk (s := ⟨2, ![M, 5]⟩) (si := ⟨2, ![N, 1]⟩) (u := ⟨2, ![N, 5]⟩) [1] [0] [0] 1 wf).resultIdx? (ix2 t c) idx = some (ix2 e c')
      ↔ (idx (ix2 t 0)).toInt = (e.val : ℤ) ∧ c = c' := by
  rw [resultIdx?_eq_some]
  have h1 : (ScatterDims.mk (s := ⟨2, ![M, 5]⟩) (si := ⟨2, ![N, 1]⟩) (u := ⟨2, ![N, 5]⟩) [1] [0] [0] 1 wf).start (ix2 t c) idx 0 = (idx (ix2 t 0)).toInt := by
    refine congrArg (fun k => (idx k).toInt) ?_
    funext a; match a with | 0 => rfl | 1 => rfl
  have h2 : (ScatterDims.mk (s := ⟨2, ![M, 5]⟩) (si := ⟨2, ![N, 1]⟩) (u := ⟨2, ![N, 5]⟩) [1] [0] [0] 1 wf).window (ix2 t c) 0 = 0 := rfl
  have h3 : (ScatterDims.mk (s := ⟨2, ![M, 5]⟩) (si := ⟨2, ![N, 1]⟩) (u := ⟨2, ![N, 5]⟩) [1] [0] [0] 1 wf).start (ix2 t c) idx 1 = 0 := rfl
  have h4 : (ScatterDims.mk (s := ⟨2, ![M, 5]⟩) (si := ⟨2, ![N, 1]⟩) (u := ⟨2, ![N, 5]⟩) [1] [0] [0] 1 wf).window (ix2 t c) 1 = c.val := rfl
  rw [Fin.ext_iff]
  constructor
  · intro h
    have h5 := h 0
    have h6 := h 1
    rw [h1, h2] at h5
    rw [h3, h4] at h6
    exact ⟨by simpa using h5, by simpa using h6⟩
  · intro h a
    match a with
    | 0 => exact (by rw [h1, h2]; simpa using h.1)
    | 1 => exact (by rw [h3, h4]; simpa using h.2)
end

end Cert.Spec

end
-- ==== Proof.RefChain.lean ====
/- One level of the reference, of any width: its arrays as functions of the level's logits, the boxes and the anchors. -/
module

public import proofs.«01_k».proof.Proof.Gen.ReferenceIdeal.Run
public import proofs.«01_k».proof.Proof.RefBox
public import proofs.«01_k».proof.Proof.RefScatter

@[expose] public section

set_option maxRecDepth 16384

noncomputable section

namespace Cert.ReferenceIdeal.Value

open Idealize.ShloMosaic Idealize.ShloMosaic.TcCoe Idealize.ShloMosaic.Tactic Cert.ReferenceIdeal Cert.Spec

/-! The shapes of a level of width `W` with `N` rows in all images. -/

section
variable (W N k l : ℕ)
abbrev Grid : Shape := ⟨4, ![32, W, W, k]⟩
abbrev Cells : Shape := ⟨5, ![32, W, W, 3, k]⟩
abbrev Pairs : Shape := ⟨6, ![32, W, W, 3, k, l]⟩
abbrev Rows : Shape := ⟨4, ![32, W, W, 3]⟩
abbrev Line : Shape := ⟨1, ![W]⟩
abbrev Square : Shape := ⟨2, ![W, W]⟩
abbrev Squares : Shape := ⟨3, ![W, W, k]⟩
abbrev Places : Shape := ⟨5, ![1, W, W, 1, 2]⟩
abbrev Flat : Shape := ⟨1, ![N]⟩
abbrev FlatRows : Shape := ⟨2, ![N, 5]⟩
end

/-- What a level's arrays take: the width and its last place as floats, and the shapes' side conditions. -/
structure Chain (W N : ℕ) where
  cw : BitVec 32
  cm : BitVec 32
  pos : 0 < W
  wide : W ≠ 1
  small : W ≤ 60
  all : N = 32 * W * W * 3
  last : lit cm = ((W - 1 : ℕ) : EReal)
  bcast_S_Flat1 : S_.BroadcastsInDim (Flat (N + 1)) ![]
  slices_Flat1_Flat_0 : (Flat (N + 1)).Slices ![0] (Flat N)
  shapeCasts_Flat_Cells1 : (Flat N).ShapeCasts (Cells W 1)
  bcast_S_FlatRows1 : S_.BroadcastsInDim (FlatRows (N + 1)) ![]
  slices_FlatRows1_FlatRows_0_0 : (FlatRows (N + 1)).Slices ![0, 0] (FlatRows N)
  shapeCasts_FlatRows_Cells5 : (FlatRows N).ShapeCasts (Cells W 5)
  shapeCasts_Grid255_Cells85 : (Grid W 255).ShapeCasts (Cells W 85)
  bcast_S_Cells2 : S_.BroadcastsInDim (Cells W 2) ![]
  slices_Cells85_Cells2_0_0_0_0_0 : (Cells W 85).Slices ![0, 0, 0, 0, 0] (Cells W 2)
  bcast_Places_Cells2_0_1_2_3_4 : (Places W).BroadcastsInDim (Cells W 2) ![0, 1, 2, 3, 4]
  bcast_Squares2_Places_1_2_4 : (Squares W 2).BroadcastsInDim (Places W) ![1, 2, 4]
  bcast_Square_Squares1_0_1 : (Square W).BroadcastsInDim (Squares W 1) ![0, 1]
  bcast_Line_Square_1 : (Line W).BroadcastsInDim (Square W) ![1]
  bcast_Line_Square_0 : (Line W).BroadcastsInDim (Square W) ![0]
  concatenates_Squares1_Squares1_Squares2_d2 : Shape.Concatenates [(Squares W 1), (Squares W 1)] (Squares W 2) 2
  bcast_S1x1x1x1x2_Cells2_0_1_2_3_4 : S1x1x1x1x2.BroadcastsInDim (Cells W 2) ![0, 1, 2, 3, 4]
  slices_Cells85_Cells2_0_0_0_0_2 : (Cells W 85).Slices ![0, 0, 0, 0, 2] (Cells W 2)
  bcast_S1x1x1x3x2_Cells2_0_1_2_3_4 : S1x1x1x3x2.BroadcastsInDim (Cells W 2) ![0, 1, 2, 3, 4]
  bcast_S_Pairs502 : S_.BroadcastsInDim (Pairs W 50 2) ![]
  bcast_Pairs12_Pairs502_0_1_2_3_4_5 : (Pairs W 1 2).BroadcastsInDim (Pairs W 50 2) ![0, 1, 2, 3, 4, 5]
  bcast_Cells2_Pairs12_0_1_2_3_5 : (Cells W 2).BroadcastsInDim (Pairs W 1 2) ![0, 1, 2, 3, 5]
  bcast_S32x1x1x1x50x2_Pairs502_0_1_2_3_4_5 : S32x1x1x1x50x2.BroadcastsInDim (Pairs W 50 2) ![0, 1, 2, 3, 4, 5]
  slices_Pairs502_Pairs501_0_0_0_0_0_0 : (Pairs W 50 2).Slices ![0, 0, 0, 0, 0, 0] (Pairs W 50 1)
  shapeCasts_Pairs501_Cells50 : (Pairs W 50 1).ShapeCasts (Cells W 50)
  slices_Pairs502_Pairs501_0_0_0_0_0_1 : (Pairs W 50 2).Slices ![0, 0, 0, 0, 0, 1] (Pairs W 50 1)
  bcast_S_Cells1 : S_.BroadcastsInDim (Cells W 1) ![]
  slices_Cells85_Cells1_0_0_0_0_4 : (Cells W 85).Slices ![0, 0, 0, 0, 4] (Cells W 1)
  slices_Cells85_Cells80_0_0_0_0_5 : (Cells W 85).Slices ![0, 0, 0, 0, 5] (Cells W 80)
  bcast_Cells1_Cells80_0_1_2_3_4 : (Cells W 1).BroadcastsInDim (Cells W 80) ![0, 1, 2, 3, 4]
  bcast_Rows_Cells1_0_1_2_3 : (Rows W).BroadcastsInDim (Cells W 1) ![0, 1, 2, 3]
  bcast_S_Rows : S_.BroadcastsInDim (Rows W) ![]
  reducesTo_Cells80_Rows_d4 : (Cells W 80).ReducesTo [4] (Rows W)
  slices_Cells5_Cells1_0_0_0_0_4 : (Cells W 5).Slices ![0, 0, 0, 0, 4] (Cells W 1)
  shapeCasts_Cells1_Rows : (Cells W 1).ShapeCasts (Rows W)
  bcast_S1x1x1x1x80_Cells80_0_1_2_3_4 : S1x1x1x1x80.BroadcastsInDim (Cells W 80) ![0, 1, 2, 3, 4]
  slices_Cells5_Cells4_0_0_0_0_0 : (Cells W 5).Slices ![0, 0, 0, 0, 0] (Cells W 4)
  concatenates_Cells2_Cells2_Cells4_d4 : Shape.Concatenates [(Cells W 2), (Cells W 2)] (Cells W 4) 4
  bcast_Cells1_Cells50_0_1_2_3_4 : (Cells W 1).BroadcastsInDim (Cells W 50) ![0, 1, 2, 3, 4]
  slices_Cells2_Cells1_0_0_0_0_0 : (Cells W 2).Slices ![0, 0, 0, 0, 0] (Cells W 1)
  slices_Cells2_Cells1_0_0_0_0_1 : (Cells W 2).Slices ![0, 0, 0, 0, 1] (Cells W 1)
  bcast_S32x1x1x1x50_Cells50_0_1_2_3_4 : S32x1x1x1x50.BroadcastsInDim (Cells W 50) ![0, 1, 2, 3, 4]
  bcast_S_Cells50 : S_.BroadcastsInDim (Cells W 50) ![]
  reducesTo_Cells50_Rows_d4 : (Cells W 50).ReducesTo [4] (Rows W)
  reducesTo_Cells1_S_d0_1_2_3_4 : (Cells W 1).ReducesTo [0, 1, 2, 3, 4] S_
  reducesTo_Cells80_S_d0_1_2_3_4 : (Cells W 80).ReducesTo [0, 1, 2, 3, 4] S_
  bcast_Cells1_Cells4_0_1_2_3_4 : (Cells W 1).BroadcastsInDim (Cells W 4) ![0, 1, 2, 3, 4]
  reducesTo_Cells4_S_d0_1_2_3_4 : (Cells W 4).ReducesTo [0, 1, 2, 3, 4] S_
  words_wf : ScatterDims.WF (Flat (N + 1)) S1600x1 S1600 [] [0] [0] 1
  rows_wf : ScatterDims.WF (FlatRows (N + 1)) S1600x1 S1600x5 [1] [0] [0] 1

namespace Chain
variable {W N : ℕ} (K : Chain W N)

abbrev words : ScatterDims (Flat (N + 1)) S1600x1 S1600 := ⟨[], [0], [0], 1, K.words_wf⟩
abbrev rows : ScatterDims (FlatRows (N + 1)) S1600x1 S1600x5 := ⟨[1], [0], [0], 1, K.rows_wf⟩

def widths : FVec Ideal S2 .f32 :=
  constant (F := Ideal) S2 .f32 K.cw

def sides (A : FVec Ideal S3x2 .f32) : FVec Ideal S3x2 .f32 :=
  mulf A (broadcastInDim S3x2 ![] Gen.bcast_S_S3x2 (constant (F := Ideal) S_ .f32 K.cw))

def scaled (G : FVec Ideal S32x50x5 .f32) : FVec Ideal S32x50x4 .f32 :=
  mulf (extractStridedSlice S32x50x4 ![0, 0, 0] G Gen.slices_S32x50x5_S32x50x4_0_0_0) (broadcastInDim S32x50x4 ![0, 1, 2] Gen.bcast_S1x1x4_S32x50x4_0_1_2 (broadcastInDim S1x1x4 ![2] Gen.bcast_S4_S1x1x4_2 (constant (F := Ideal) S4 .f32 K.cw)))

def valid (G : FVec Ideal S32x50x5 .f32) : IVec S32x50 1 :=
  cmpf .ogt (shapeCast _ (extractStridedSlice S32x50x1 ![0, 0, 2] (K.scaled G) Gen.slices_S32x50x4_S32x50x1_0_0_2) Gen.shapeCasts_S32x50x1_S32x50) (broadcastInDim S32x50 ![] Gen.bcast_S_S32x50 (constant (F := Ideal) S_ .f32 0x00000000#32))

def numX (G : FVec Ideal S32x50x5 .f32) : IVec S32x50 32 :=
  fptosi 32 (minimumf (broadcastInDim S32x50 ![] Gen.bcast_S_S32x50 (sitofp .f32 (constantI S_ 32 (BitVec.ofNat 32 (W - 1))))) (maximumf (broadcastInDim S32x50 ![] Gen.bcast_S_S32x50 (sitofp .f32 (constantI S_ 32 0#32))) (Host.floor (shapeCast _ (extractStridedSlice S32x50x1 ![0, 0, 0] (K.scaled G) Gen.slices_S32x50x4_S32x50x1_0_0_0) Gen.shapeCasts_S32x50x1_S32x50))))

def numY (G : FVec Ideal S32x50x5 .f32) : IVec S32x50 32 :=
  fptosi 32 (minimumf (broadcastInDim S32x50 ![] Gen.bcast_S_S32x50 (sitofp .f32 (constantI S_ 32 (BitVec.ofNat 32 (W - 1))))) (maximumf (broadcastInDim S32x50 ![] Gen.bcast_S_S32x50 (sitofp .f32 (constantI S_ 32 0#32))) (Host.floor (shapeCast _ (extractStridedSlice S32x50x1 ![0, 0, 1] (K.scaled G) Gen.slices_S32x50x4_S32x50x1_0_0_1) Gen.shapeCasts_S32x50x1_S32x50))))

def extents (G : FVec Ideal S32x50x5 .f32) : FVec Ideal S32x50x2 .f32 :=
  extractStridedSlice S32x50x2 ![0, 0, 2] (K.scaled G) Gen.slices_S32x50x4_S32x50x2_0_0_2

def anchorExt (G : FVec Ideal S32x50x5 .f32) (A : FVec Ideal S3x2 .f32) : FVec Ideal S32x50x3x2 .f32 :=
  minimumf (broadcastInDim S32x50x3x2 ![0, 1, 2, 3] Gen.bcast_S32x50x1x2_S32x50x3x2_0_1_2_3 (broadcastInDim S32x50x1x2 ![0, 1, 3] Gen.bcast_S32x50x2_S32x50x1x2_0_1_3 (K.extents G))) (broadcastInDim S32x50x3x2 ![0, 1, 2, 3] Gen.bcast_S1x1x3x2_S32x50x3x2_0_1_2_3 (broadcastInDim S1x1x3x2 ![2, 3] Gen.bcast_S3x2_S1x1x3x2_2_3 (K.sides A)))

def anchorInter (G : FVec Ideal S32x50x5 .f32) (A : FVec Ideal S3x2 .f32) : FVec Ideal S32x50x3 .f32 :=
  mulf (shapeCast _ (extractStridedSlice S32x50x3x1 ![0, 0, 0, 0] (K.anchorExt G A) Gen.slices_S32x50x3x2_S32x50x3x1_0_0_0_0) Gen.shapeCasts_S32x50x3x1_S32x50x3) (shapeCast _ (extractStridedSlice S32x50x3x1 ![0, 0, 0, 1] (K.anchorExt G A) Gen.slices_S32x50x3x2_S32x50x3x1_0_0_0_1) Gen.shapeCasts_S32x50x3x1_S32x50x3)

def anchorIou (G : FVec Ideal S32x50x5 .f32) (A : FVec Ideal S3x2 .f32) : FVec Ideal S32x50x3 .f32 :=
  Host.divf (K.anchorInter G A) (addf (subf (addf (broadcastInDim S32x50x3 ![0, 1, 2] Gen.bcast_S32x50x1_S32x50x3_0_1_2 (broadcastInDim S32x50x1 ![0, 1] Gen.bcast_S32x50_S32x50x1_0_1 (mulf (shapeCast _ (extractStridedSlice S32x50x1 ![0, 0, 0] (K.extents G) Gen.slices_S32x50x2_S32x50x1_0_0_0) Gen.shapeCasts_S32x50x1_S32x50) (shapeCast _ (extractStridedSlice S32x50x1 ![0, 0, 1] (K.extents G) Gen.slices_S32x50x2_S32x50x1_0_0_1) Gen.shapeCasts_S32x50x1_S32x50)))) (broadcastInDim S32x50x3 ![0, 1, 2] Gen.bcast_S1x1x3_S32x50x3_0_1_2 (broadcastInDim S1x1x3 ![2] Gen.bcast_S3_S1x1x3_2 (mulf (shapeCast _ (extractStridedSlice S3x1 ![0, 0] (K.sides A) Gen.slices_S3x2_S3x1_0_0) Gen.shapeCasts_S3x1_S3) (shapeCast _ (extractStridedSlice S3x1 ![0, 1] (K.sides A) Gen.slices_S3x2_S3x1_0_1) Gen.shapeCasts_S3x1_S3))))) (K.anchorInter G A)) (broadcastInDim S32x50x3 ![] Gen.bcast_S_S32x50x3 (constant (F := Ideal) S_ .f32 0x3089705F#32)))

def best (G : FVec Ideal S32x50x5 .f32) (A : FVec Ideal S3x2 .f32) : IVec S32x50 32 :=
  Host.reduce IntOp.minsi (select (cmpf .oeq (K.anchorIou G A) (broadcastInDim S32x50x3 ![0, 1, 2] Gen.bcast_S32x50x1_S32x50x3_0_1_2 (broadcastInDim S32x50x1 ![0, 1] Gen.bcast_S32x50_S32x50x1_0_1 (Host.reduce FloatOps.maximumf (K.anchorIou G A) (constant (F := Ideal) S_ .f32 0xFF800000#32) Gen.reducesTo_S32x50x3_S32x50_d2 Gen.h_S_)))) (broadcastInDim S32x50x3 ![2] Gen.bcast_S3_S32x50x3_2 (iotaInDim S3 32 0)) (broadcastInDim S32x50x3 ![] Gen.bcast_S_S32x50x3 (id (constantI S_ 32 2#32)))) (constantI S_ 32 2147483647#32) Gen.reducesTo_S32x50x3_S32x50_d2 Gen.h_S_

def spot (G : FVec Ideal S32x50x5 .f32) (A : FVec Ideal S3x2 .f32) : IVec S32x50 32 :=
  select (K.valid G) (addi (muli (addi (muli (addi (broadcastInDim S32x50 ![0, 1] Gen.bcast_S32x1_S32x50_0_1 (muli (broadcastInDim S32x1 ![0] Gen.bcast_S32_S32x1_0 (iotaInDim S32 32 0)) (broadcastInDim S32x1 ![] Gen.bcast_S_S32x1 (constantI S_ 32 (BitVec.ofNat 32 W))))) (K.numY G)) (broadcastInDim S32x50 ![] Gen.bcast_S_S32x50 (constantI S_ 32 (BitVec.ofNat 32 W)))) (K.numX G)) (broadcastInDim S32x50 ![] Gen.bcast_S_S32x50 (constantI S_ 32 3#32))) (K.best G A)) (broadcastInDim S32x50 ![] Gen.bcast_S_S32x50 (id (constantI S_ 32 (BitVec.ofNat 32 N))))

def spots (G : FVec Ideal S32x50x5 .f32) (A : FVec Ideal S3x2 .f32) : IVec S1600 32 :=
  shapeCast _ (K.spot G A) Gen.shapeCasts_S32x50_S1600

def maskArr (G : FVec Ideal S32x50x5 .f32) (A : FVec Ideal S3x2 .f32) : FVec Ideal (Cells W 1) .f32 :=
  shapeCast _ (extractStridedSlice (Flat N) ![0] (Host.scatter K.words (fun _ b => b) (broadcastInDim (Flat (N + 1)) ![] K.bcast_S_Flat1 (constant (F := Ideal) S_ .f32 0x00000000#32)) (broadcastInDim S1600x1 ![0] Gen.bcast_S1600_S1600x1_0 (select (cmpi .slt (K.spots G A) (broadcastInDim S1600 ![] Gen.bcast_S_S1600 (constantI S_ 32 0#32))) (addi (K.spots G A) (broadcastInDim S1600 ![] Gen.bcast_S_S1600 (constantI S_ 32 (BitVec.ofNat 32 (N + 1))))) (K.spots G A))) (broadcastInDim S1600 ![] Gen.bcast_S_S1600 (constant (F := Ideal) S_ .f32 0x3F800000#32))) K.slices_Flat1_Flat_0) K.shapeCasts_Flat_Cells1

def targetArr (G : FVec Ideal S32x50x5 .f32) (A : FVec Ideal S3x2 .f32) : FVec Ideal (Cells W 5) .f32 :=
  shapeCast _ (extractStridedSlice (FlatRows N) ![0, 0] (Host.scatter K.rows (fun _ b => b) (broadcastInDim (FlatRows (N + 1)) ![] K.bcast_S_FlatRows1 (constant (F := Ideal) S_ .f32 0x00000000#32)) (broadcastInDim S1600x1 ![0] Gen.bcast_S1600_S1600x1_0 (select (cmpi .slt (K.spots G A) (broadcastInDim S1600 ![] Gen.bcast_S_S1600 (constantI S_ 32 0#32))) (addi (K.spots G A) (broadcastInDim S1600 ![] Gen.bcast_S_S1600 (constantI S_ 32 (BitVec.ofNat 32 (N + 1))))) (K.spots G A))) (shapeCast _ ((concatenate S32x50x5 2 [⟨S32x50x1, ((broadcastInDim S32x50x1 ![0, 1] Gen.bcast_S32x50_S32x50x1_0_1 (subf (shapeCast _ (extractStridedSlice S32x50x1 ![0, 0, 0] (K.scaled G) Gen.slices_S32x50x4_S32x50x1_0_0_0) Gen.shapeCasts_S32x50x1_S32x50) (sitofp .f32 (K.numX G)))) : (⟨S32x50x1, .f32⟩ : BufTy).Contents (Elt Ideal))⟩, ⟨S32x50x1, ((broadcastInDim S32x50x1 ![0, 1] Gen.bcast_S32x50_S32x50x1_0_1 (subf (shapeCast _ (extractStridedSlice S32x50x1 ![0, 0, 1] (K.scaled G) Gen.slices_S32x50x4_S32x50x1_0_0_1) Gen.shapeCasts_S32x50x1_S32x50) (sitofp .f32 (K.numY G)))) : (⟨S32x50x1, .f32⟩ : BufTy).Contents (Elt Ideal))⟩, ⟨S32x50x2, ((Host.log (Host.divf (select (broadcastInDim S32x50x2 ![0, 1, 2] Gen.bcast_S32x50x1_S32x50x2_0_1_2 (broadcastInDim S32x50x1 ![0, 1] Gen.bcast_S32x50_S32x50x1_0_1 (K.valid G))) (K.extents G) (broadcastInDim S32x50x2 ![] Gen.bcast_S_S32x50x2 (id (constant (F := Ideal) S_ .f32 0x3F800000#32)))) (Host.gather gather_S3x2_S32x50x1_S32x50x2_2_0_n_n_0_2_12 (K.sides A) (broadcastInDim S32x50x1 ![0, 1] Gen.bcast_S32x50_S32x50x1_0_1 (select (cmpi .slt (K.best G A) (broadcastInDim S32x50 ![] Gen.bcast_S_S32x50 (constantI S_ 32 0#32))) (addi (K.best G A) (broadcastInDim S32x50 ![] Gen.bcast_S_S32x50 (constantI S_ 32 3#32))) (K.best G A)))))) : (⟨S32x50x2, .f32⟩ : BufTy).Contents (Elt Ideal))⟩, ⟨S32x50x1, ((extractStridedSlice S32x50x1 ![0, 0, 4] G Gen.slices_S32x50x5_S32x50x1_0_0_4) : (⟨S32x50x1, .f32⟩ : BufTy).Contents (Elt Ideal))⟩] Gen.concatenates_S32x50x1_S32x50x1_S32x50x2_S32x50x1_S32x50x5_d2 : (⟨S32x50x5, .f32⟩ : BufTy).Contents (Elt Ideal))) Gen.shapeCasts_S32x50x5_S1600x5)) K.slices_FlatRows1_FlatRows_0_0) K.shapeCasts_FlatRows_Cells5

def feats (P : FVec Ideal (Grid W 255) .f32) : FVec Ideal (Cells W 85) .f32 :=
  shapeCast _ P K.shapeCasts_Grid255_Cells85

def sigArr (P : FVec Ideal (Grid W 255) .f32) : FVec Ideal (Cells W 2) .f32 :=
  Host.divf (broadcastInDim (Cells W 2) ![] K.bcast_S_Cells2 (constant (F := Ideal) S_ .f32 0x3F800000#32)) (addf (broadcastInDim (Cells W 2) ![] K.bcast_S_Cells2 (constant (F := Ideal) S_ .f32 0x3F800000#32)) (Host.exp (Host.negf (extractStridedSlice (Cells W 2) ![0, 0, 0, 0, 0] (K.feats P) K.slices_Cells85_Cells2_0_0_0_0_0))))

def ctrArr (P : FVec Ideal (Grid W 255) .f32) : FVec Ideal (Cells W 2) .f32 :=
  Host.divf (addf (K.sigArr P) (broadcastInDim (Cells W 2) ![0, 1, 2, 3, 4] K.bcast_Places_Cells2_0_1_2_3_4 (broadcastInDim (Places W) ![1, 2, 4] K.bcast_Squares2_Places_1_2_4 (concatenate (Squares W 2) 2 [⟨(Squares W 1), (broadcastInDim (Squares W 1) ![0, 1] K.bcast_Square_Squares1_0_1 (broadcastInDim (Square W) ![1] K.bcast_Line_Square_1 (sitofp .f32 (iotaInDim (Line W) 32 0))))⟩, ⟨(Squares W 1), (broadcastInDim (Squares W 1) ![0, 1] K.bcast_Square_Squares1_0_1 (broadcastInDim (Square W) ![0] K.bcast_Line_Square_0 (sitofp .f32 (iotaInDim (Line W) 32 0))))⟩] K.concatenates_Squares1_Squares1_Squares2_d2)))) (broadcastInDim (Cells W 2) ![0, 1, 2, 3, 4] K.bcast_S1x1x1x1x2_Cells2_0_1_2_3_4 (broadcastInDim S1x1x1x1x2 ![4] Gen.bcast_S2_S1x1x1x1x2_4 (K.widths)))

def extArr (P : FVec Ideal (Grid W 255) .f32) (A : FVec Ideal S3x2 .f32) : FVec Ideal (Cells W 2) .f32 :=
  Host.divf (mulf (Host.exp (extractStridedSlice (Cells W 2) ![0, 0, 0, 0, 2] (K.feats P) K.slices_Cells85_Cells2_0_0_0_0_2)) (broadcastInDim (Cells W 2) ![0, 1, 2, 3, 4] K.bcast_S1x1x1x3x2_Cells2_0_1_2_3_4 (broadcastInDim S1x1x1x3x2 ![3, 4] Gen.bcast_S3x2_S1x1x1x3x2_3_4 (K.sides A)))) (broadcastInDim (Cells W 2) ![0, 1, 2, 3, 4] K.bcast_S1x1x1x1x2_Cells2_0_1_2_3_4 (broadcastInDim S1x1x1x1x2 ![4] Gen.bcast_S2_S1x1x1x1x2_4 (K.widths)))

def overlaps (P : FVec Ideal (Grid W 255) .f32) (G : FVec Ideal S32x50x5 .f32) (A : FVec Ideal S3x2 .f32) : FVec Ideal (Pairs W 50 2) .f32 :=
  maximumf (broadcastInDim (Pairs W 50 2) ![] K.bcast_S_Pairs502 (id (constant (F := Ideal) S_ .f32 0x00000000#32))) (subf (minimumf (broadcastInDim (Pairs W 50 2) ![0, 1, 2, 3, 4, 5] K.bcast_Pairs12_Pairs502_0_1_2_3_4_5 (broadcastInDim (Pairs W 1 2) ![0, 1, 2, 3, 5] K.bcast_Cells2_Pairs12_0_1_2_3_5 (addf (K.ctrArr P) (mulf (K.extArr P A) (broadcastInDim (Cells W 2) ![] K.bcast_S_Cells2 (constant (F := Ideal) S_ .f32 0x3F000000#32)))))) (broadcastInDim (Pairs W 50 2) ![0, 1, 2, 3, 4, 5] K.bcast_S32x1x1x1x50x2_Pairs502_0_1_2_3_4_5 (broadcastInDim S32x1x1x1x50x2 ![0, 4, 5] Gen.bcast_S32x50x2_S32x1x1x1x50x2_0_4_5 (addf (extractStridedSlice S32x50x2 ![0, 0, 0] G Gen.slices_S32x50x5_S32x50x2_0_0_0) (mulf (extractStridedSlice S32x50x2 ![0, 0, 2] G Gen.slices_S32x50x5_S32x50x2_0_0_2) (broadcastInDim S32x50x2 ![] Gen.bcast_S_S32x50x2 (constant (F := Ideal) S_ .f32 0x3F000000#32))))))) (maximumf (broadcastInDim (Pairs W 50 2) ![0, 1, 2, 3, 4, 5] K.bcast_Pairs12_Pairs502_0_1_2_3_4_5 (broadcastInDim (Pairs W 1 2) ![0, 1, 2, 3, 5] K.bcast_Cells2_Pairs12_0_1_2_3_5 (subf (K.ctrArr P) (mulf (K.extArr P A) (broadcastInDim (Cells W 2) ![] K.bcast_S_Cells2 (constant (F := Ideal) S_ .f32 0x3F000000#32)))))) (broadcastInDim (Pairs W 50 2) ![0, 1, 2, 3, 4, 5] K.bcast_S32x1x1x1x50x2_Pairs502_0_1_2_3_4_5 (broadcastInDim S32x1x1x1x50x2 ![0, 4, 5] Gen.bcast_S32x50x2_S32x1x1x1x50x2_0_4_5 (subf (extractStridedSlice S32x50x2 ![0, 0, 0] G Gen.slices_S32x50x5_S32x50x2_0_0_0) (mulf (extractStridedSlice S32x50x2 ![0, 0, 2] G Gen.slices_S32x50x5_S32x50x2_0_0_2) (broadcastInDim S32x50x2 ![] Gen.bcast_S_S32x50x2 (constant (F := Ideal) S_ .f32 0x3F000000#32))))))))

def interArr (P : FVec Ideal (Grid W 255) .f32) (G : FVec Ideal S32x50x5 .f32) (A : FVec Ideal S3x2 .f32) : FVec Ideal (Cells W 50) .f32 :=
  mulf (shapeCast _ (extractStridedSlice (Pairs W 50 1) ![0, 0, 0, 0, 0, 0] (K.overlaps P G A) K.slices_Pairs502_Pairs501_0_0_0_0_0_0) K.shapeCasts_Pairs501_Cells50) (shapeCast _ (extractStridedSlice (Pairs W 50 1) ![0, 0, 0, 0, 0, 1] (K.overlaps P G A) K.slices_Pairs502_Pairs501_0_0_0_0_0_1) K.shapeCasts_Pairs501_Cells50)

def boxExt (G : FVec Ideal S32x50x5 .f32) : FVec Ideal S32x50x2 .f32 :=
  extractStridedSlice S32x50x2 ![0, 0, 2] G Gen.slices_S32x50x5_S32x50x2_0_0_2

def confArr (P : FVec Ideal (Grid W 255) .f32) : FVec Ideal (Cells W 1) .f32 :=
  Host.divf (broadcastInDim (Cells W 1) ![] K.bcast_S_Cells1 (constant (F := Ideal) S_ .f32 0x3F800000#32)) (addf (broadcastInDim (Cells W 1) ![] K.bcast_S_Cells1 (constant (F := Ideal) S_ .f32 0x3F800000#32)) (Host.exp (Host.negf (extractStridedSlice (Cells W 1) ![0, 0, 0, 0, 4] (K.feats P) K.slices_Cells85_Cells1_0_0_0_0_4))))

def restArr (P : FVec Ideal (Grid W 255) .f32) : FVec Ideal (Cells W 1) .f32 :=
  subf (broadcastInDim (Cells W 1) ![] K.bcast_S_Cells1 (constant (F := Ideal) S_ .f32 0x3F800000#32)) (K.confArr P)

def lossLogits (P : FVec Ideal (Grid W 255) .f32) : FVec Ideal (Cells W 80) .f32 :=
  extractStridedSlice (Cells W 80) ![0, 0, 0, 0, 5] (K.feats P) K.slices_Cells85_Cells80_0_0_0_0_5

def lossExpo (P : FVec Ideal (Grid W 255) .f32) : FVec Ideal (Cells W 80) .f32 :=
  Host.exp (subf (K.lossLogits P) (broadcastInDim (Cells W 80) ![0, 1, 2, 3, 4] K.bcast_Cells1_Cells80_0_1_2_3_4 (broadcastInDim (Cells W 1) ![0, 1, 2, 3] K.bcast_Rows_Cells1_0_1_2_3 (maximumf (broadcastInDim (Rows W) ![] K.bcast_S_Rows (constant (F := Ideal) S_ .f32 0xFF800000#32)) (Host.reduce FloatOps.maximumf (K.lossLogits P) (constant (F := Ideal) S_ .f32 0xFF800000#32) K.reducesTo_Cells80_Rows_d4 Gen.h_S_)))))

def missArr (P : FVec Ideal (Grid W 255) .f32) (G : FVec Ideal S32x50x5 .f32) (A : FVec Ideal S3x2 .f32) : FVec Ideal (Cells W 80) .f32 :=
  subf (uitofp .f32 (cmpi .eq (broadcastInDim (Cells W 80) ![0, 1, 2, 3, 4] K.bcast_Cells1_Cells80_0_1_2_3_4 (broadcastInDim (Cells W 1) ![0, 1, 2, 3] K.bcast_Rows_Cells1_0_1_2_3 (fptosi 32 (shapeCast _ (extractStridedSlice (Cells W 1) ![0, 0, 0, 0, 4] (K.targetArr G A) K.slices_Cells5_Cells1_0_0_0_0_4) K.shapeCasts_Cells1_Rows)))) (broadcastInDim (Cells W 80) ![0, 1, 2, 3, 4] K.bcast_S1x1x1x1x80_Cells80_0_1_2_3_4 (iotaInDim S1x1x1x1x80 32 4)))) (Host.divf (K.lossExpo P) (broadcastInDim (Cells W 80) ![0, 1, 2, 3, 4] K.bcast_Cells1_Cells80_0_1_2_3_4 (broadcastInDim (Cells W 1) ![0, 1, 2, 3] K.bcast_Rows_Cells1_0_1_2_3 (Host.reduceAdd (K.lossExpo P) (constant (F := Ideal) S_ .f32 0x00000000#32) K.reducesTo_Cells80_Rows_d4 Gen.h_S_))))

def offArr (P : FVec Ideal (Grid W 255) .f32) (G : FVec Ideal S32x50x5 .f32) (A : FVec Ideal S3x2 .f32) : FVec Ideal (Cells W 4) .f32 :=
  subf (extractStridedSlice (Cells W 4) ![0, 0, 0, 0, 0] (K.targetArr G A) K.slices_Cells5_Cells4_0_0_0_0_0) (concatenate (Cells W 4) 4 [⟨(Cells W 2), (K.sigArr P)⟩, ⟨(Cells W 2), (extractStridedSlice (Cells W 2) ![0, 0, 0, 0, 2] (K.feats P) K.slices_Cells85_Cells2_0_0_0_0_2)⟩] K.concatenates_Cells2_Cells2_Cells4_d4)

def logits (P : FVec Ideal (Grid W 255) .f32) : FVec Ideal (Cells W 80) .f32 :=
  extractStridedSlice (Cells W 80) ![0, 0, 0, 0, 5] (K.feats P) K.slices_Cells85_Cells80_0_0_0_0_5

def expoArr (P : FVec Ideal (Grid W 255) .f32) : FVec Ideal (Cells W 80) .f32 :=
  Host.exp (subf (K.logits P) (broadcastInDim (Cells W 80) ![0, 1, 2, 3, 4] K.bcast_Cells1_Cells80_0_1_2_3_4 (broadcastInDim (Cells W 1) ![0, 1, 2, 3] K.bcast_Rows_Cells1_0_1_2_3 (maximumf (broadcastInDim (Rows W) ![] K.bcast_S_Rows (constant (F := Ideal) S_ .f32 0xFF800000#32)) (Host.reduce FloatOps.maximumf (K.logits P) (constant (F := Ideal) S_ .f32 0xFF800000#32) K.reducesTo_Cells80_Rows_d4 Gen.h_S_)))))

def areas (P : FVec Ideal (Grid W 255) .f32) (G : FVec Ideal S32x50x5 .f32) (A : FVec Ideal S3x2 .f32) : FVec Ideal (Cells W 50) .f32 :=
  addf (broadcastInDim (Cells W 50) ![0, 1, 2, 3, 4] K.bcast_Cells1_Cells50_0_1_2_3_4 (broadcastInDim (Cells W 1) ![0, 1, 2, 3] K.bcast_Rows_Cells1_0_1_2_3 (mulf (shapeCast _ (extractStridedSlice (Cells W 1) ![0, 0, 0, 0, 0] (K.extArr P A) K.slices_Cells2_Cells1_0_0_0_0_0) K.shapeCasts_Cells1_Rows) (shapeCast _ (extractStridedSlice (Cells W 1) ![0, 0, 0, 0, 1] (K.extArr P A) K.slices_Cells2_Cells1_0_0_0_0_1) K.shapeCasts_Cells1_Rows)))) (broadcastInDim (Cells W 50) ![0, 1, 2, 3, 4] K.bcast_S32x1x1x1x50_Cells50_0_1_2_3_4 (broadcastInDim S32x1x1x1x50 ![0, 4] Gen.bcast_S32x50_S32x1x1x1x50_0_4 (mulf (shapeCast _ (extractStridedSlice S32x50x1 ![0, 0, 0] (boxExt G) Gen.slices_S32x50x2_S32x50x1_0_0_0) Gen.shapeCasts_S32x50x1_S32x50) (shapeCast _ (extractStridedSlice S32x50x1 ![0, 0, 1] (boxExt G) Gen.slices_S32x50x2_S32x50x1_0_0_1) Gen.shapeCasts_S32x50x1_S32x50))))

def noobjSum (P : FVec Ideal (Grid W 255) .f32) (G : FVec Ideal S32x50x5 .f32) (A : FVec Ideal S3x2 .f32) : FVec Ideal S_ .f32 :=
  Host.reduceAdd (mulf (mulf (mulf (broadcastInDim (Cells W 1) ![] K.bcast_S_Cells1 (constant (F := Ideal) S_ .f32 0x3F800000#32)) (subf (broadcastInDim (Cells W 1) ![] K.bcast_S_Cells1 (constant (F := Ideal) S_ .f32 0x3F800000#32)) (uitofp .f32 (cmpf .ogt (broadcastInDim (Cells W 1) ![0, 1, 2, 3] K.bcast_Rows_Cells1_0_1_2_3 (Host.reduce FloatOps.maximumf (Host.divf (K.interArr P G A) (addf (subf (K.areas P G A) (K.interArr P G A)) (broadcastInDim (Cells W 50) ![] K.bcast_S_Cells50 (constant (F := Ideal) S_ .f32 0x3089705F#32)))) (constant (F := Ideal) S_ .f32 0xFF800000#32) K.reducesTo_Cells50_Rows_d4 Gen.h_S_)) (broadcastInDim (Cells W 1) ![] K.bcast_S_Cells1 (constant (F := Ideal) S_ .f32 0x3F19999A#32)))))) (subf (broadcastInDim (Cells W 1) ![] K.bcast_S_Cells1 (constant (F := Ideal) S_ .f32 0x3F800000#32)) (K.maskArr G A))) (mulf (K.confArr P) (K.confArr P))) (constant (F := Ideal) S_ .f32 0x00000000#32) K.reducesTo_Cells1_S_d0_1_2_3_4 Gen.h_S_

def objSum (P : FVec Ideal (Grid W 255) .f32) (G : FVec Ideal S32x50x5 .f32) (A : FVec Ideal S3x2 .f32) : FVec Ideal S_ .f32 :=
  Host.reduceAdd (mulf (mulf (broadcastInDim (Cells W 1) ![] K.bcast_S_Cells1 (constant (F := Ideal) S_ .f32 0x40A00000#32)) (K.maskArr G A)) (mulf (K.restArr P) (K.restArr P))) (constant (F := Ideal) S_ .f32 0x00000000#32) K.reducesTo_Cells1_S_d0_1_2_3_4 Gen.h_S_

def clsSum (P : FVec Ideal (Grid W 255) .f32) (G : FVec Ideal S32x50x5 .f32) (A : FVec Ideal S3x2 .f32) : FVec Ideal S_ .f32 :=
  Host.reduceAdd (mulf (broadcastInDim (Cells W 80) ![0, 1, 2, 3, 4] K.bcast_Cells1_Cells80_0_1_2_3_4 (mulf (broadcastInDim (Cells W 1) ![] K.bcast_S_Cells1 (constant (F := Ideal) S_ .f32 0x3F800000#32)) (K.maskArr G A))) (mulf (K.missArr P G A) (K.missArr P G A))) (constant (F := Ideal) S_ .f32 0x00000000#32) K.reducesTo_Cells80_S_d0_1_2_3_4 Gen.h_S_

def coordSum (P : FVec Ideal (Grid W 255) .f32) (G : FVec Ideal S32x50x5 .f32) (A : FVec Ideal S3x2 .f32) : FVec Ideal S_ .f32 :=
  Host.reduceAdd (mulf (broadcastInDim (Cells W 4) ![0, 1, 2, 3, 4] K.bcast_Cells1_Cells4_0_1_2_3_4 (mulf (broadcastInDim (Cells W 1) ![] K.bcast_S_Cells1 (constant (F := Ideal) S_ .f32 0x3F800000#32)) (K.maskArr G A))) (mulf (K.offArr P G A) (K.offArr P G A))) (constant (F := Ideal) S_ .f32 0x00000000#32) K.reducesTo_Cells4_S_d0_1_2_3_4 Gen.h_S_

def rectArr (P : FVec Ideal (Grid W 255) .f32) (A : FVec Ideal S3x2 .f32) : FVec Ideal (Cells W 4) .f32 :=
  concatenate (Cells W 4) 4 [⟨(Cells W 2), (mulf (subf (K.ctrArr P) (mulf (K.extArr P A) (broadcastInDim (Cells W 2) ![] K.bcast_S_Cells2 (constant (F := Ideal) S_ .f32 0x3F000000#32)))) (broadcastInDim (Cells W 2) ![] K.bcast_S_Cells2 (constant (F := Ideal) S_ .f32 0x43F00000#32)))⟩, ⟨(Cells W 2), (mulf (addf (K.ctrArr P) (mulf (K.extArr P A) (broadcastInDim (Cells W 2) ![] K.bcast_S_Cells2 (constant (F := Ideal) S_ .f32 0x3F000000#32)))) (broadcastInDim (Cells W 2) ![] K.bcast_S_Cells2 (constant (F := Ideal) S_ .f32 0x43F00000#32)))⟩] K.concatenates_Cells2_Cells2_Cells4_d4

def scoreArr (P : FVec Ideal (Grid W 255) .f32) : FVec Ideal (Cells W 80) .f32 :=
  mulf (broadcastInDim (Cells W 80) ![0, 1, 2, 3, 4] K.bcast_Cells1_Cells80_0_1_2_3_4 (Host.divf (broadcastInDim (Cells W 1) ![] K.bcast_S_Cells1 (constant (F := Ideal) S_ .f32 0x3F800000#32)) (addf (broadcastInDim (Cells W 1) ![] K.bcast_S_Cells1 (constant (F := Ideal) S_ .f32 0x3F800000#32)) (Host.exp (Host.negf (extractStridedSlice (Cells W 1) ![0, 0, 0, 0, 4] (K.feats P) K.slices_Cells85_Cells1_0_0_0_0_4)))))) (Host.divf (K.expoArr P) (broadcastInDim (Cells W 80) ![0, 1, 2, 3, 4] K.bcast_Cells1_Cells80_0_1_2_3_4 (broadcastInDim (Cells W 1) ![0, 1, 2, 3] K.bcast_Rows_Cells1_0_1_2_3 (Host.reduceAdd (K.expoArr P) (constant (F := Ideal) S_ .f32 0x00000000#32) K.reducesTo_Cells80_Rows_d4 Gen.h_S_))))

end Chain
end Cert.ReferenceIdeal.Value

end
-- ==== Proof.RefLevels.lean ====
/- The reference's three levels as instances of one. -/
module

public import proofs.«01_k».proof.Proof.RefChain

@[expose] public section

set_option maxRecDepth 16384

noncomputable section

namespace Cert.ReferenceIdeal.Value

open Idealize.ShloMosaic Idealize.ShloMosaic.TcCoe Idealize.ShloMosaic.Tactic Cert.ReferenceIdeal Cert.Spec

/-- The level of width 60. -/
def K0 : Chain 60 345600 where
  cw := 0x42700000#32
  cm := 0x426C0000#32
  pos := by norm_num
  wide := by norm_num
  small := by norm_num
  all := by norm_num
  last := lit_59
  bcast_S_Flat1 := Gen.bcast_S_S345601
  slices_Flat1_Flat_0 := Gen.slices_S345601_S345600_0
  shapeCasts_Flat_Cells1 := Gen.shapeCasts_S345600_S32x60x60x3x1
  bcast_S_FlatRows1 := Gen.bcast_S_S345601x5
  slices_FlatRows1_FlatRows_0_0 := Gen.slices_S345601x5_S345600x5_0_0
  shapeCasts_FlatRows_Cells5 := Gen.shapeCasts_S345600x5_S32x60x60x3x5
  shapeCasts_Grid255_Cells85 := Gen.shapeCasts_S32x60x60x255_S32x60x60x3x85
  bcast_S_Cells2 := Gen.bcast_S_S32x60x60x3x2
  slices_Cells85_Cells2_0_0_0_0_0 := Gen.slices_S32x60x60x3x85_S32x60x60x3x2_0_0_0_0_0
  bcast_Places_Cells2_0_1_2_3_4 := Gen.bcast_S1x60x60x1x2_S32x60x60x3x2_0_1_2_3_4
  bcast_Squares2_Places_1_2_4 := Gen.bcast_S60x60x2_S1x60x60x1x2_1_2_4
  bcast_Square_Squares1_0_1 := Gen.bcast_S60x60_S60x60x1_0_1
  bcast_Line_Square_1 := Gen.bcast_S60_S60x60_1
  bcast_Line_Square_0 := Gen.bcast_S60_S60x60_0
  concatenates_Squares1_Squares1_Squares2_d2 := Gen.concatenates_S60x60x1_S60x60x1_S60x60x2_d2
  bcast_S1x1x1x1x2_Cells2_0_1_2_3_4 := Gen.bcast_S1x1x1x1x2_S32x60x60x3x2_0_1_2_3_4
  slices_Cells85_Cells2_0_0_0_0_2 := Gen.slices_S32x60x60x3x85_S32x60x60x3x2_0_0_0_0_2
  bcast_S1x1x1x3x2_Cells2_0_1_2_3_4 := Gen.bcast_S1x1x1x3x2_S32x60x60x3x2_0_1_2_3_4
  bcast_S_Pairs502 := Gen.bcast_S_S32x60x60x3x50x2
  bcast_Pairs12_Pairs502_0_1_2_3_4_5 := Gen.bcast_S32x60x60x3x1x2_S32x60x60x3x50x2_0_1_2_3_4_5
  bcast_Cells2_Pairs12_0_1_2_3_5 := Gen.bcast_S32x60x60x3x2_S32x60x60x3x1x2_0_1_2_3_5
  bcast_S32x1x1x1x50x2_Pairs502_0_1_2_3_4_5 := Gen.bcast_S32x1x1x1x50x2_S32x60x60x3x50x2_0_1_2_3_4_5
  slices_Pairs502_Pairs501_0_0_0_0_0_0 := Gen.slices_S32x60x60x3x50x2_S32x60x60x3x50x1_0_0_0_0_0_0
  shapeCasts_Pairs501_Cells50 := Gen.shapeCasts_S32x60x60x3x50x1_S32x60x60x3x50
  slices_Pairs502_Pairs501_0_0_0_0_0_1 := Gen.slices_S32x60x60x3x50x2_S32x60x60x3x50x1_0_0_0_0_0_1
  bcast_S_Cells1 := Gen.bcast_S_S32x60x60x3x1
  slices_Cells85_Cells1_0_0_0_0_4 := Gen.slices_S32x60x60x3x85_S32x60x60x3x1_0_0_0_0_4
  slices_Cells85_Cells80_0_0_0_0_5 := Gen.slices_S32x60x60x3x85_S32x60x60x3x80_0_0_0_0_5
  bcast_Cells1_Cells80_0_1_2_3_4 := Gen.bcast_S32x60x60x3x1_S32x60x60x3x80_0_1_2_3_4
  bcast_Rows_Cells1_0_1_2_3 := Gen.bcast_S32x60x60x3_S32x60x60x3x1_0_1_2_3
  bcast_S_Rows := Gen.bcast_S_S32x60x60x3
  reducesTo_Cells80_Rows_d4 := Gen.reducesTo_S32x60x60x3x80_S32x60x60x3_d4
  slices_Cells5_Cells1_0_0_0_0_4 := Gen.slices_S32x60x60x3x5_S32x60x60x3x1_0_0_0_0_4
  shapeCasts_Cells1_Rows := Gen.shapeCasts_S32x60x60x3x1_S32x60x60x3
  bcast_S1x1x1x1x80_Cells80_0_1_2_3_4 := Gen.bcast_S1x1x1x1x80_S32x60x60x3x80_0_1_2_3_4
  slices_Cells5_Cells4_0_0_0_0_0 := Gen.slices_S32x60x60x3x5_S32x60x60x3x4_0_0_0_0_0
  concatenates_Cells2_Cells2_Cells4_d4 := Gen.concatenates_S32x60x60x3x2_S32x60x60x3x2_S32x60x60x3x4_d4
  bcast_Cells1_Cells50_0_1_2_3_4 := Gen.bcast_S32x60x60x3x1_S32x60x60x3x50_0_1_2_3_4
  slices_Cells2_Cells1_0_0_0_0_0 := Gen.slices_S32x60x60x3x2_S32x60x60x3x1_0_0_0_0_0
  slices_Cells2_Cells1_0_0_0_0_1 := Gen.slices_S32x60x60x3x2_S32x60x60x3x1_0_0_0_0_1
  bcast_S32x1x1x1x50_Cells50_0_1_2_3_4 := Gen.bcast_S32x1x1x1x50_S32x60x60x3x50_0_1_2_3_4
  bcast_S_Cells50 := Gen.bcast_S_S32x60x60x3x50
  reducesTo_Cells50_Rows_d4 := Gen.reducesTo_S32x60x60x3x50_S32x60x60x3_d4
  reducesTo_Cells1_S_d0_1_2_3_4 := Gen.reducesTo_S32x60x60x3x1_S_d0_1_2_3_4
  reducesTo_Cells80_S_d0_1_2_3_4 := Gen.reducesTo_S32x60x60x3x80_S_d0_1_2_3_4
  bcast_Cells1_Cells4_0_1_2_3_4 := Gen.bcast_S32x60x60x3x1_S32x60x60x3x4_0_1_2_3_4
  reducesTo_Cells4_S_d0_1_2_3_4 := Gen.reducesTo_S32x60x60x3x4_S_d0_1_2_3_4
  words_wf := scatter_S345601_S1600x1_S1600_n_0_0_1.wf
  rows_wf := scatter_S345601x5_S1600x1_S1600x5_1_0_0_1.wf

/-- The level of width 30. -/
def K1 : Chain 30 86400 where
  cw := 0x41F00000#32
  cm := 0x41E80000#32
  pos := by norm_num
  wide := by norm_num
  small := by norm_num
  all := by norm_num
  last := lit_29
  bcast_S_Flat1 := Gen.bcast_S_S86401
  slices_Flat1_Flat_0 := Gen.slices_S86401_S86400_0
  shapeCasts_Flat_Cells1 := Gen.shapeCasts_S86400_S32x30x30x3x1
  bcast_S_FlatRows1 := Gen.bcast_S_S86401x5
  slices_FlatRows1_FlatRows_0_0 := Gen.slices_S86401x5_S86400x5_0_0
  shapeCasts_FlatRows_Cells5 := Gen.shapeCasts_S86400x5_S32x30x30x3x5
  shapeCasts_Grid255_Cells85 := Gen.shapeCasts_S32x30x30x255_S32x30x30x3x85
  bcast_S_Cells2 := Gen.bcast_S_S32x30x30x3x2
  slices_Cells85_Cells2_0_0_0_0_0 := Gen.slices_S32x30x30x3x85_S32x30x30x3x2_0_0_0_0_0
  bcast_Places_Cells2_0_1_2_3_4 := Gen.bcast_S1x30x30x1x2_S32x30x30x3x2_0_1_2_3_4
  bcast_Squares2_Places_1_2_4 := Gen.bcast_S30x30x2_S1x30x30x1x2_1_2_4
  bcast_Square_Squares1_0_1 := Gen.bcast_S30x30_S30x30x1_0_1
  bcast_Line_Square_1 := Gen.bcast_S30_S30x30_1
  bcast_Line_Square_0 := Gen.bcast_S30_S30x30_0
  concatenates_Squares1_Squares1_Squares2_d2 := Gen.concatenates_S30x30x1_S30x30x1_S30x30x2_d2
  bcast_S1x1x1x1x2_Cells2_0_1_2_3_4 := Gen.bcast_S1x1x1x1x2_S32x30x30x3x2_0_1_2_3_4
  slices_Cells85_Cells2_0_0_0_0_2 := Gen.slices_S32x30x30x3x85_S32x30x30x3x2_0_0_0_0_2
  bcast_S1x1x1x3x2_Cells2_0_1_2_3_4 := Gen.bcast_S1x1x1x3x2_S32x30x30x3x2_0_1_2_3_4
  bcast_S_Pairs502 := Gen.bcast_S_S32x30x30x3x50x2
  bcast_Pairs12_Pairs502_0_1_2_3_4_5 := Gen.bcast_S32x30x30x3x1x2_S32x30x30x3x50x2_0_1_2_3_4_5
  bcast_Cells2_Pairs12_0_1_2_3_5 := Gen.bcast_S32x30x30x3x2_S32x30x30x3x1x2_0_1_2_3_5
  bcast_S32x1x1x1x50x2_Pairs502_0_1_2_3_4_5 := Gen.bcast_S32x1x1x1x50x2_S32x30x30x3x50x2_0_1_2_3_4_5
  slices_Pairs502_Pairs501_0_0_0_0_0_0 := Gen.slices_S32x30x30x3x50x2_S32x30x30x3x50x1_0_0_0_0_0_0
  shapeCasts_Pairs501_Cells50 := Gen.shapeCasts_S32x30x30x3x50x1_S32x30x30x3x50
  slices_Pairs502_Pairs501_0_0_0_0_0_1 := Gen.slices_S32x30x30x3x50x2_S32x30x30x3x50x1_0_0_0_0_0_1
  bcast_S_Cells1 := Gen.bcast_S_S32x30x30x3x1
  slices_Cells85_Cells1_0_0_0_0_4 := Gen.slices_S32x30x30x3x85_S32x30x30x3x1_0_0_0_0_4
  slices_Cells85_Cells80_0_0_0_0_5 := Gen.slices_S32x30x30x3x85_S32x30x30x3x80_0_0_0_0_5
  bcast_Cells1_Cells80_0_1_2_3_4 := Gen.bcast_S32x30x30x3x1_S32x30x30x3x80_0_1_2_3_4
  bcast_Rows_Cells1_0_1_2_3 := Gen.bcast_S32x30x30x3_S32x30x30x3x1_0_1_2_3
  bcast_S_Rows := Gen.bcast_S_S32x30x30x3
  reducesTo_Cells80_Rows_d4 := Gen.reducesTo_S32x30x30x3x80_S32x30x30x3_d4
  slices_Cells5_Cells1_0_0_0_0_4 := Gen.slices_S32x30x30x3x5_S32x30x30x3x1_0_0_0_0_4
  shapeCasts_Cells1_Rows := Gen.shapeCasts_S32x30x30x3x1_S32x30x30x3
  bcast_S1x1x1x1x80_Cells80_0_1_2_3_4 := Gen.bcast_S1x1x1x1x80_S32x30x30x3x80_0_1_2_3_4
  slices_Cells5_Cells4_0_0_0_0_0 := Gen.slices_S32x30x30x3x5_S32x30x30x3x4_0_0_0_0_0
  concatenates_Cells2_Cells2_Cells4_d4 := Gen.concatenates_S32x30x30x3x2_S32x30x30x3x2_S32x30x30x3x4_d4
  bcast_Cells1_Cells50_0_1_2_3_4 := Gen.bcast_S32x30x30x3x1_S32x30x30x3x50_0_1_2_3_4
  slices_Cells2_Cells1_0_0_0_0_0 := Gen.slices_S32x30x30x3x2_S32x30x30x3x1_0_0_0_0_0
  slices_Cells2_Cells1_0_0_0_0_1 := Gen.slices_S32x30x30x3x2_S32x30x30x3x1_0_0_0_0_1
  bcast_S32x1x1x1x50_Cells50_0_1_2_3_4 := Gen.bcast_S32x1x1x1x50_S32x30x30x3x50_0_1_2_3_4
  bcast_S_Cells50 := Gen.bcast_S_S32x30x30x3x50
  reducesTo_Cells50_Rows_d4 := Gen.reducesTo_S32x30x30x3x50_S32x30x30x3_d4
  reducesTo_Cells1_S_d0_1_2_3_4 := Gen.reducesTo_S32x30x30x3x1_S_d0_1_2_3_4
  reducesTo_Cells80_S_d0_1_2_3_4 := Gen.reducesTo_S32x30x30x3x80_S_d0_1_2_3_4
  bcast_Cells1_Cells4_0_1_2_3_4 := Gen.bcast_S32x30x30x3x1_S32x30x30x3x4_0_1_2_3_4
  reducesTo_Cells4_S_d0_1_2_3_4 := Gen.reducesTo_S32x30x30x3x4_S_d0_1_2_3_4
  words_wf := scatter_S86401_S1600x1_S1600_n_0_0_1.wf
  rows_wf := scatter_S86401x5_S1600x1_S1600x5_1_0_0_1.wf

/-- The level of width 15. -/
def K2 : Chain 15 21600 where
  cw := 0x41700000#32
  cm := 0x41600000#32
  pos := by norm_num
  wide := by norm_num
  small := by norm_num
  all := by norm_num
  last := lit_14
  bcast_S_Flat1 := Gen.bcast_S_S21601
  slices_Flat1_Flat_0 := Gen.slices_S21601_S21600_0
  shapeCasts_Flat_Cells1 := Gen.shapeCasts_S21600_S32x15x15x3x1
  bcast_S_FlatRows1 := Gen.bcast_S_S21601x5
  slices_FlatRows1_FlatRows_0_0 := Gen.slices_S21601x5_S21600x5_0_0
  shapeCasts_FlatRows_Cells5 := Gen.shapeCasts_S21600x5_S32x15x15x3x5
  shapeCasts_Grid255_Cells85 := Gen.shapeCasts_S32x15x15x255_S32x15x15x3x85
  bcast_S_Cells2 := Gen.bcast_S_S32x15x15x3x2
  slices_Cells85_Cells2_0_0_0_0_0 := Gen.slices_S32x15x15x3x85_S32x15x15x3x2_0_0_0_0_0
  bcast_Places_Cells2_0_1_2_3_4 := Gen.bcast_S1x15x15x1x2_S32x15x15x3x2_0_1_2_3_4
  bcast_Squares2_Places_1_2_4 := Gen.bcast_S15x15x2_S1x15x15x1x2_1_2_4
  bcast_Square_Squares1_0_1 := Gen.bcast_S15x15_S15x15x1_0_1
  bcast_Line_Square_1 := Gen.bcast_S15_S15x15_1
  bcast_Line_Square_0 := Gen.bcast_S15_S15x15_0
  concatenates_Squares1_Squares1_Squares2_d2 := Gen.concatenates_S15x15x1_S15x15x1_S15x15x2_d2
  bcast_S1x1x1x1x2_Cells2_0_1_2_3_4 := Gen.bcast_S1x1x1x1x2_S32x15x15x3x2_0_1_2_3_4
  slices_Cells85_Cells2_0_0_0_0_2 := Gen.slices_S32x15x15x3x85_S32x15x15x3x2_0_0_0_0_2
  bcast_S1x1x1x3x2_Cells2_0_1_2_3_4 := Gen.bcast_S1x1x1x3x2_S32x15x15x3x2_0_1_2_3_4
  bcast_S_Pairs502 := Gen.bcast_S_S32x15x15x3x50x2
  bcast_Pairs12_Pairs502_0_1_2_3_4_5 := Gen.bcast_S32x15x15x3x1x2_S32x15x15x3x50x2_0_1_2_3_4_5
  bcast_Cells2_Pairs12_0_1_2_3_5 := Gen.bcast_S32x15x15x3x2_S32x15x15x3x1x2_0_1_2_3_5
  bcast_S32x1x1x1x50x2_Pairs502_0_1_2_3_4_5 := Gen.bcast_S32x1x1x1x50x2_S32x15x15x3x50x2_0_1_2_3_4_5
  slices_Pairs502_Pairs501_0_0_0_0_0_0 := Gen.slices_S32x15x15x3x50x2_S32x15x15x3x50x1_0_0_0_0_0_0
  shapeCasts_Pairs501_Cells50 := Gen.shapeCasts_S32x15x15x3x50x1_S32x15x15x3x50
  slices_Pairs502_Pairs501_0_0_0_0_0_1 := Gen.slices_S32x15x15x3x50x2_S32x15x15x3x50x1_0_0_0_0_0_1
  bcast_S_Cells1 := Gen.bcast_S_S32x15x15x3x1
  slices_Cells85_Cells1_0_0_0_0_4 := Gen.slices_S32x15x15x3x85_S32x15x15x3x1_0_0_0_0_4
  slices_Cells85_Cells80_0_0_0_0_5 := Gen.slices_S32x15x15x3x85_S32x15x15x3x80_0_0_0_0_5
  bcast_Cells1_Cells80_0_1_2_3_4 := Gen.bcast_S32x15x15x3x1_S32x15x15x3x80_0_1_2_3_4
  bcast_Rows_Cells1_0_1_2_3 := Gen.bcast_S32x15x15x3_S32x15x15x3x1_0_1_2_3
  bcast_S_Rows := Gen.bcast_S_S32x15x15x3
  reducesTo_Cells80_Rows_d4 := Gen.reducesTo_S32x15x15x3x80_S32x15x15x3_d4
  slices_Cells5_Cells1_0_0_0_0_4 := Gen.slices_S32x15x15x3x5_S32x15x15x3x1_0_0_0_0_4
  shapeCasts_Cells1_Rows := Gen.shapeCasts_S32x15x15x3x1_S32x15x15x3
  bcast_S1x1x1x1x80_Cells80_0_1_2_3_4 := Gen.bcast_S1x1x1x1x80_S32x15x15x3x80_0_1_2_3_4
  slices_Cells5_Cells4_0_0_0_0_0 := Gen.slices_S32x15x15x3x5_S32x15x15x3x4_0_0_0_0_0
  concatenates_Cells2_Cells2_Cells4_d4 := Gen.concatenates_S32x15x15x3x2_S32x15x15x3x2_S32x15x15x3x4_d4
  bcast_Cells1_Cells50_0_1_2_3_4 := Gen.bcast_S32x15x15x3x1_S32x15x15x3x50_0_1_2_3_4
  slices_Cells2_Cells1_0_0_0_0_0 := Gen.slices_S32x15x15x3x2_S32x15x15x3x1_0_0_0_0_0
  slices_Cells2_Cells1_0_0_0_0_1 := Gen.slices_S32x15x15x3x2_S32x15x15x3x1_0_0_0_0_1
  bcast_S32x1x1x1x50_Cells50_0_1_2_3_4 := Gen.bcast_S32x1x1x1x50_S32x15x15x3x50_0_1_2_3_4
  bcast_S_Cells50 := Gen.bcast_S_S32x15x15x3x50
  reducesTo_Cells50_Rows_d4 := Gen.reducesTo_S32x15x15x3x50_S32x15x15x3_d4
  reducesTo_Cells1_S_d0_1_2_3_4 := Gen.reducesTo_S32x15x15x3x1_S_d0_1_2_3_4
  reducesTo_Cells80_S_d0_1_2_3_4 := Gen.reducesTo_S32x15x15x3x80_S_d0_1_2_3_4
  bcast_Cells1_Cells4_0_1_2_3_4 := Gen.bcast_S32x15x15x3x1_S32x15x15x3x4_0_1_2_3_4
  reducesTo_Cells4_S_d0_1_2_3_4 := Gen.reducesTo_S32x15x15x3x4_S_d0_1_2_3_4
  words_wf := scatter_S21601_S1600x1_S1600_n_0_0_1.wf
  rows_wf := scatter_S21601x5_S1600x1_S1600x5_1_0_0_1.wf

end Cert.ReferenceIdeal.Value

end
-- ==== Proof.RefCell.lean ====
/- A level's rows and boxes as the specification's, of any width. -/
module

public import proofs.«01_k».proof.Proof.RefChain
public import Idealize.ShloMosaic.Lib.Pointwise
public import Idealize.ShloMosaic.Lib.Pointwise.IndexVar

@[expose] public section

set_option maxRecDepth 16384

noncomputable section

namespace Cert.ReferenceIdeal.Value.Chain

open Idealize.ShloMosaic Idealize.ShloMosaic.TcCoe Idealize.ShloMosaic.Tactic Cert.ReferenceIdeal Cert.Spec

variable {W N : ℕ} (K : Chain W N)

section
variable (b : Fin 32) (i j : Fin W) (a : Fin 3)

/-! Places of the level's arrays under other shapes. -/

theorem grid_place (h) (c : Fin 85) : Shape.reshapeEquiv (s := Grid W 255) (s' := Cells W 85) h (ix5 b i j a c) = ix4 b i j ⟨a.val * 85 + c.val, by omega⟩ := by
  refine Shape.reshapeEquiv_eq_of_rowMajor h ?_
  rw [Shape.rowMajor_val_four, Shape.rowMajor_val_five]
  change ((b.val * W + i.val) * W + j.val) * 255 + (a.val * 85 + c.val) = (((b.val * W + i.val) * W + j.val) * 3 + a.val) * 85 + c.val
  omega

theorem cell_place (h) : Shape.reshapeEquiv (s := Cells W 1) (s' := Rows W) h (ix4 b i j a) = ix5 b i j a 0 := by
  refine Shape.reshapeEquiv_eq_of_rowMajor h ?_
  rw [Shape.rowMajor_val_five, Shape.rowMajor_val_four]
  change (((b.val * W + i.val) * W + j.val) * 3 + a.val) * 1 + 0 = ((b.val * W + i.val) * W + j.val) * 3 + a.val
  omega

theorem pair_place (h) (n : Fin 50) : Shape.reshapeEquiv (s := Pairs W 50 1) (s' := Cells W 50) h (ix5 b i j a n) = ix6 b i j a n 0 := by
  refine Shape.reshapeEquiv_eq_of_rowMajor h ?_
  rw [Shape.rowMajor_val_six, Shape.rowMajor_val_five]
  change ((((b.val * W + i.val) * W + j.val) * 3 + a.val) * 50 + n.val) * 1 + 0 = (((b.val * W + i.val) * W + j.val) * 3 + a.val) * 50 + n.val
  omega

end

section
variable (P : FVec Ideal (Grid W 255) .f32) (G : FVec Ideal S32x50x5 .f32) (A : FVec Ideal S3x2 .f32) (b : Fin 32)

/-- The level's row at a place. -/
abbrev row (i j : Fin W) (a : Fin 3) : Row := cellRow K.cw (fun b i j k => P (ix4 b i j k)) (fun a d => A (ix2 a d)) b i j a

/-- The image's box of a number. -/
abbrev box (n : ℕ) : Box := lab K.cw K.cm (fun b n c => G (ix3 b n c)) (fun a d => A (ix2 a d)) b n
end

/-! A row's arrays. -/

section
variable (P : FVec Ideal (Grid W 255) .f32) (G : FVec Ideal S32x50x5 .f32) (A : FVec Ideal S3x2 .f32) (b : Fin 32) (i j : Fin W) (a : Fin 3)

theorem feat_at (c : Fin 85) : K.feats P (ix5 b i j a c) = (K.row P A b i j a).f c := by
  unfold feats
  pointwise [grid_place]
  rfl

theorem sig_at (d : Fin 2) : K.sigArr P (ix5 b i j a d) = (K.row P A b i j a).sig ⟨d.val, by omega⟩ := by
  unfold sigArr
  pointwise [K.feat_at P A]
  rfl

theorem side_at (d : Fin 2) : K.sides A (ix2 a d) = (K.row P A b i j a).side a d := by
  unfold sides
  pointwise
  rfl

theorem ctr_at (d : Fin 2) : K.ctrArr P (ix5 b i j a d) = (K.row P A b i j a).ctr d := by
  have hj := j.isLt
  have hi := i.isLt
  have hs := K.small
  unfold ctrArr widths
  revert d; refine fin2_cases ?_ ?_ <;>
  pointwise [K.wide, K.sig_at P A, Row.ctr, Row.place, real_word _ (by omega : j.val < 2 ^ 31), real_word _ (by omega : i.val < 2 ^ 31)] <;> rfl

theorem ext_at (d : Fin 2) : K.extArr P A (ix5 b i j a d) = (K.row P A b i j a).ext d := by
  unfold extArr widths
  pointwise [K.feat_at P A, K.side_at P A b i j]
  rfl

theorem logit_at (c : Fin 80) : K.logits P (ix5 b i j a c) = (K.row P A b i j a).f ⟨5 + c.val, by omega⟩ := by
  unfold logits
  pointwise [K.feat_at P A]

theorem top_at (x : FVec Ideal (Cells W 80) .f32) : Host.reduce FloatOps.maximumf x (constant S_ .f32 0xFF800000#32) K.reducesTo_Cells80_Rows_d4 Gen.h_S_ (ix4 b i j a) = Finset.univ.fold max (lit 0xFF800000#32) fun c : Fin 80 => x (ix5 b i j a c) := by
  pointwise

theorem less_at (x : FVec Ideal (Cells W 80) .f32) (y : FVec Ideal (Rows W) .f32) (c : Fin 80) : Host.exp (subf x (broadcastInDim (Cells W 80) ![0, 1, 2, 3, 4] K.bcast_Cells1_Cells80_0_1_2_3_4 (broadcastInDim (Cells W 1) ![0, 1, 2, 3] K.bcast_Rows_Cells1_0_1_2_3 (maximumf (broadcastInDim (Rows W) ![] K.bcast_S_Rows (constant S_ .f32 0xFF800000#32)) y)))) (ix5 b i j a c) = Ideal.exp (x (ix5 b i j a c) - max (lit 0xFF800000#32) (y (ix4 b i j a))) := by
  pointwise [K.wide]

theorem expo_at (c : Fin 80) : K.expoArr P (ix5 b i j a c) = (K.row P A b i j a).expo c := by
  refine (K.less_at b i j a (K.logits P) _ c).trans ?_
  rw [K.top_at, max_fold]
  simp only [K.logit_at P A, Row.expo, Row.top]

theorem lossLogit_at (c : Fin 80) : K.lossLogits P (ix5 b i j a c) = (K.row P A b i j a).f ⟨5 + c.val, by omega⟩ := by
  unfold lossLogits
  pointwise [K.feat_at P A]

theorem lossExpo_at (c : Fin 80) : K.lossExpo P (ix5 b i j a c) = (K.row P A b i j a).expo c := by
  refine (K.less_at b i j a (K.lossLogits P) _ c).trans ?_
  rw [K.top_at, max_fold]
  simp only [K.lossLogit_at P A, Row.expo, Row.top]

theorem conf_at : K.confArr P (ix5 b i j a 0) = (K.row P A b i j a).conf := by
  unfold confArr
  pointwise [K.feat_at P A]
  rfl
end

/-! The image's boxes. -/

section
variable (P : FVec Ideal (Grid W 255) .f32) (G : FVec Ideal S32x50x5 .f32) (A : FVec Ideal S3x2 .f32) (b : Fin 32) (i j : Fin W) (a : Fin 3) (n : Fin 50)

theorem scaled_at (c : Fin 4) : K.scaled G (ix3 b n c) = (K.box G A b n.val).g ⟨c.val, by omega⟩ * (K.box G A b n.val).w := by
  rw [lab_g]
  unfold scaled
  pointwise
  rfl

theorem valid_at : K.valid G (ix2 b n) = BitVec.ofBool (open Classical in decide (K.box G A b n.val).valid) := by
  unfold valid
  pointwise [K.scaled_at G A]
  congr

theorem numX_at : K.numX G (ix2 b n) = BitVec.ofNat 32 ((K.box G A b n.val).num 0) := by
  have hs := K.small
  obtain ⟨e, h⟩ := (K.box G A b n.val).cell_num (m := W - 1) K.last 0
  rw [← word_nat _ (by omega), ← e]
  unfold numX
  pointwise [K.scaled_at G A, real_word (W - 1) (by omega), real_word 0 (by norm_num), Box.cell]
  rw [Nat.cast_zero, show (K.box G A b n.val).m = ((W - 1 : ℕ) : EReal) from K.last]

theorem numY_at : K.numY G (ix2 b n) = BitVec.ofNat 32 ((K.box G A b n.val).num 1) := by
  have hs := K.small
  obtain ⟨e, h⟩ := (K.box G A b n.val).cell_num (m := W - 1) K.last 1
  rw [← word_nat _ (by omega), ← e]
  unfold numY
  pointwise [K.scaled_at G A, real_word (W - 1) (by omega), real_word 0 (by norm_num), Box.cell]
  rw [Nat.cast_zero, show (K.box G A b n.val).m = ((W - 1 : ℕ) : EReal) from K.last]

theorem lside_at (a : Fin 3) (d : Fin 2) : K.sides A (ix2 a d) = (K.box G A b n.val).side a d := by
  unfold sides
  pointwise
  rfl

theorem aiou_at (a : Fin 3) : K.anchorIou G A (ix3 b n a) = (K.box G A b n.val).aiou a := by
  unfold anchorIou anchorInter anchorExt extents
  pointwise [K.scaled_at G A, K.lside_at G A b n]
  rfl

theorem best_at : K.best G A (ix2 b n) = BitVec.ofNat 32 (K.box G A b n.val).best.val := by
  refine Eq.trans ?_ (first_word fun a => (K.box G A b n.val).aiou a)
  unfold best
  pointwise [K.aiou_at G A]
  rfl

theorem spot_at : K.spot G A (ix2 b n) = BitVec.ofNat 32 ((K.box G A b n.val).spot W N b.val) := by
  unfold spot
  pointwise [K.valid_at G A, K.numX_at G A, K.numY_at G A, K.best_at G A]
  unfold Box.spot
  classical
  by_cases h : (K.box G A b n.val).valid
  · rw [if_pos h, if_pos h]
    simp only [IntOp.muli, IntOp.addi, ← BitVec.ofNat_add, ← BitVec.ofNat_mul]
  · rw [if_neg h, if_neg h]
    rfl

end

end Cert.ReferenceIdeal.Value.Chain

end
-- ==== Proof.RefMask.lean ====
/- A level's mask as the specification's, of any width. -/
module

public import proofs.«01_k».proof.Proof.RefCell
public import proofs.«01_k».proof.Proof.RefScatter
public import Idealize.ShloMosaic.Lib.Pointwise
public import Idealize.ShloMosaic.Lib.Pointwise.IndexVar

@[expose] public section

set_option maxRecDepth 16384

noncomputable section

namespace Cert.ReferenceIdeal.Value.Chain

open Idealize.ShloMosaic Idealize.ShloMosaic.TcCoe Idealize.ShloMosaic.Tactic Cert.ReferenceIdeal Cert.Spec

variable {W N : ℕ} (K : Chain W N)

section
variable (P : FVec Ideal (Grid W 255) .f32) (G : FVec Ideal S32x50x5 .f32) (A : FVec Ideal S3x2 .f32) (b : Fin 32) (i j : Fin W) (a : Fin 3)

include K in
theorem row_all : ((b.val * W + i.val) * W + j.val) * 3 + a.val < N := by
  refine lt_of_lt_of_eq ?_ K.all.symm
  exact Box.row_lt b.isLt i.isLt j.isLt a.isLt

theorem flat_place (h) : Shape.reshapeEquiv (s := Flat N) (s' := Cells W 1) h (ix5 b i j a 0) = ix1 ⟨((b.val * W + i.val) * W + j.val) * 3 + a.val, K.row_all b i j a⟩ := by
  refine Shape.reshapeEquiv_eq_of_rowMajor h ?_
  rw [Shape.rowMajor_val_one, Shape.rowMajor_val_five]
  change ((b.val * W + i.val) * W + j.val) * 3 + a.val = (((b.val * W + i.val) * W + j.val) * 3 + a.val) * 1 + 0
  omega

theorem flat_rows_place (h) (c : Fin 5) : Shape.reshapeEquiv (s := FlatRows N) (s' := Cells W 5) h (ix5 b i j a c) = ix2 ⟨((b.val * W + i.val) * W + j.val) * 3 + a.val, K.row_all b i j a⟩ c := by
  refine Shape.reshapeEquiv_eq_of_rowMajor h ?_
  rw [Shape.rowMajor_val_two, Shape.rowMajor_val_five]
  rfl

theorem unflat_at (x : FVec Ideal (Flat (N + 1)) .f32) :
    shapeCast (Cells W 1) (extractStridedSlice (Flat N) ![0] x K.slices_Flat1_Flat_0) K.shapeCasts_Flat_Cells1 (ix5 b i j a 0)
      = x (ix1 ⟨((b.val * W + i.val) * W + j.val) * 3 + a.val, (K.row_all b i j a).trans (Nat.lt_succ_self N)⟩) := by
  pointwise [K.flat_place]

theorem unflat_rows_at (x : FVec Ideal (FlatRows (N + 1)) .f32) (c : Fin 5) :
    shapeCast (Cells W 5) (extractStridedSlice (FlatRows N) ![0, 0] x K.slices_FlatRows1_FlatRows_0_0) K.shapeCasts_FlatRows_Cells5 (ix5 b i j a c)
      = x (ix2 ⟨((b.val * W + i.val) * W + j.val) * 3 + a.val, (K.row_all b i j a).trans (Nat.lt_succ_self N)⟩ c) := by
  pointwise [K.flat_rows_place]

theorem wrapped_at (x : IVec S1600 32) (s : ℕ → ℕ) (hs : ∀ t, s t < 2 ^ 31) (hx : ∀ t : Fin 1600, x (ix1 t) = BitVec.ofNat 32 (s t.val)) (t : Fin 1600) :
    broadcastInDim S1600x1 ![0] Gen.bcast_S1600_S1600x1_0
        (select (cmpi .slt x (broadcastInDim S1600 ![] Gen.bcast_S_S1600 (constantI S_ 32 0#32))) (addi x (broadcastInDim S1600 ![] Gen.bcast_S_S1600 (constantI S_ 32 (BitVec.ofNat 32 (N + 1))))) x) (ix2 t 0)
      = BitVec.ofNat 32 (s t.val) := by
  refine Eq.trans ?_ (wrap_word (s t.val) (hs _) (IntOp.addi (x (ix1 t)) (BitVec.ofNat 32 (N + 1))))
  rw [← hx]
  pointwise
end

section
variable (P : FVec Ideal (Grid W 255) .f32) (G : FVec Ideal S32x50x5 .f32) (A : FVec Ideal S3x2 .f32) (b : Fin 32) (i j : Fin W) (a : Fin 3)

/-- The row of the box at a place of the flat list. -/
def flatSpot (t : ℕ) : ℕ :=
  if h : t / 50 < 32 then (K.box G A ⟨t / 50, h⟩ (t % 50)).spot W N (t / 50) else 0

theorem spot_all (n : ℕ) : (K.box G A b n).spot W N b.val ≤ N := by
  have e := Box.spot_le (K.box G A b n) K.pos K.last b.isLt
  rwa [← K.all] at e

theorem flatSpot_lt (t : ℕ) : K.flatSpot G A t < 2 ^ 31 := by
  unfold flatSpot
  split
  · next h =>
    have hs := K.small
    have h2 : 32 * W * W * 3 < 2 ^ 31 := by nlinarith
    exact lt_of_le_of_lt (K.spot_all G A ⟨t / 50, h⟩ (t % 50)) (K.all.symm ▸ h2)
  · norm_num

theorem word_at (h) (t : Fin 1600) : shapeCast S1600 (K.spot G A) h (ix1 t) = BitVec.ofNat 32 (K.flatSpot G A t.val) := by
  refine (flatten _ _ _).trans ((K.spot_at G A _ _).trans ?_)
  unfold flatSpot
  rw [dif_pos (by omega : t.val / 50 < 32)]

theorem lands_at (x : BitVec 32) (t : Fin 1600) (hx : x = BitVec.ofNat 32 (K.flatSpot G A t.val)) :
    x.toInt = ((((b.val * W + i.val) * W + j.val) * 3 + a.val : ℕ) : ℤ)
      ↔ t.val / 50 = b.val ∧ (K.box G A b (t.val % 50)).falls (K.row P A b i j a) := by
  rw [hx, word_eq _ _ ((K.flatSpot_lt G A) _)]
  unfold flatSpot
  have ht : t.val / 50 < 32 := by omega
  rw [dif_pos ht]
  have e := Box.spot_eq (K.box G A ⟨t.val / 50, ht⟩ (t.val % 50)) K.cw (fun b i j k => P (ix4 b i j k)) (fun a d => A (ix2 a d)) K.last ⟨t.val / 50, ht⟩ b i j a
  rw [← K.all] at e
  refine e.trans ?_
  constructor
  · rintro ⟨h1, h2⟩
    exact ⟨h1, (Fin.ext h1 : (⟨t.val / 50, ht⟩ : Fin 32) = b) ▸ h2⟩
  · rintro ⟨h1, h2⟩
    exact ⟨h1, (Fin.ext h1 : (⟨t.val / 50, ht⟩ : Fin 32) = b).symm ▸ h2⟩

theorem mask_at : K.maskArr G A (ix5 b i j a 0) = mask (K.row P A b i j a) (K.box G A b) := by
  unfold maskArr
  refine (K.unflat_at b i j a _).trans ?_
  refine scatter_words _ _ _ b _ (fun t => K.lands_at P G A b i j a _ t (wrapped_at (N := N) _ (K.flatSpot G A) (K.flatSpot_lt G A) (K.word_at G A _) t)) _ (lands_words _ _) _ _ ?_ ?_
  · pointwise
  · intro n hn
    pointwise

end
end Cert.ReferenceIdeal.Value.Chain

end
-- ==== Proof.RefTarget.lean ====
/- A level's targets as the specification's, of any width. -/
module

public import proofs.«01_k».proof.Proof.RefMask
public import Idealize.ShloMosaic.Lib.Pointwise
public import Idealize.ShloMosaic.Lib.Pointwise.IndexVar

@[expose] public section

set_option maxRecDepth 16384

noncomputable section

namespace Cert.ReferenceIdeal.Value.Chain

open Idealize.ShloMosaic Idealize.ShloMosaic.TcCoe Idealize.ShloMosaic.Tactic Cert.ReferenceIdeal Cert.Spec

variable {W N : ℕ} (K : Chain W N)

section
variable (P : FVec Ideal (Grid W 255) .f32) (G : FVec Ideal S32x50x5 .f32) (A : FVec Ideal S3x2 .f32) (b : Fin 32) (i j : Fin W) (a : Fin 3)

theorem anchor_at (n : Fin 50) (d : Fin 2) (idx : IVec S32x50x1 32) (h : idx (ix3 b n 0) = BitVec.ofNat 32 (K.box G A b n.val).best.val) :
    Host.gather gather_S3x2_S32x50x1_S32x50x2_2_0_n_n_0_2_12 (K.sides A) idx (ix3 b n d) = (K.box G A b n.val).side (K.box G A b n.val).best d :=
  (take_row _ _ _ b n d _ h).trans (K.lside_at G A b n _ d)

theorem wrapBest_at (n : Fin 50) : broadcastInDim S32x50x1 ![0, 1] Gen.bcast_S32x50_S32x50x1_0_1
      (select (cmpi .slt (K.best G A) (broadcastInDim S32x50 ![] Gen.bcast_S_S32x50 (constantI S_ 32 0#32)))
        (addi (K.best G A) (broadcastInDim S32x50 ![] Gen.bcast_S_S32x50 (constantI S_ 32 3#32))) (K.best G A)) (ix3 b n 0)
      = BitVec.ofNat 32 (K.box G A b n.val).best.val := by
  refine Eq.trans ?_ (wrap_word (K.box G A b n.val).best.val (lt_trans (K.box G A b n.val).best.isLt (by norm_num)) (IntOp.addi (K.best G A (ix2 b n)) 3#32))
  rw [← K.best_at G A]
  pointwise

theorem target_at (c : Fin 5) :
    K.targetArr G A (ix5 b i j a c) = target (K.row P A b i j a) (K.box G A b) c := by
  have hs := K.small
  unfold targetArr
  refine (K.unflat_rows_at b i j a _ c).trans ?_
  refine scatter_rows _ _ _ b _ (fun t => K.lands_at P G A b i j a _ t (wrapped_at (N := N) _ (K.flatSpot G A) (K.flatSpot_lt G A) (K.word_at G A _) t)) _ (lands_rows _ _) _ _ c ?_ ?_
  · pointwise
  · intro n hn
    refine (flatten_rows _ _ b ⟨n, hn⟩ _ c).trans ?_
    revert c
    refine fin5_cases ?_ ?_ ?_ ?_ ?_
    · pointwise [K.scaled_at G A, K.numX_at G A]
      exact (K.box G A b n).adj_centre K.last (by omega) 0
    · pointwise [K.scaled_at G A, K.numY_at G A]
      exact (K.box G A b n).adj_centre K.last (by omega) 1
    · unfold extents
      pointwise [K.scaled_at G A, K.valid_at G A, K.anchor_at G A b ⟨n, hn⟩ 0 _ (K.wrapBest_at G A b ⟨n, hn⟩)]
      exact (K.box G A b n).adj_extent 0 _ lit_one
    · unfold extents
      pointwise [K.scaled_at G A, K.valid_at G A, K.anchor_at G A b ⟨n, hn⟩ 1 _ (K.wrapBest_at G A b ⟨n, hn⟩)]
      exact (K.box G A b n).adj_extent 1 _ lit_one
    · pointwise
      exact (lab_g K.cw K.cm (fun b n c => G (ix3 b n c)) (fun a d => A (ix2 a d)) b ⟨n, hn⟩ 4).symm.trans (K.box G A b n).adj_class
end
end Cert.ReferenceIdeal.Value.Chain

end
-- ==== Proof.RefSum.lean ====
/- Sums over every position of a level, the test whether any box overlaps, and the class of a box against a class number. -/
module

public import proofs.«01_k».proof.Proof.RefBox

@[expose] public section

noncomputable section

namespace Cert.Spec

open Idealize.ShloMosaic
open scoped BigOperators

theorem fin4_cases (c : Fin 4) : c = 0 ∨ c = 1 ∨ c = 2 ∨ c = 3 := by fin_cases c <;> simp

/-- A sum over every axis. -/
theorem sum_whole {s t u : Shape} {axes : List (Fin s.rank)} (h : s.ReducesTo axes t) (hu : 0 < u.numel) (x : FVec Ideal s .f32) (j : t.Idx)
    (ht : ∀ k : t.Idx, k = j) : Host.reduceAdd x (constant (F := Ideal) u .f32 0x00000000#32) h hu j = ∑ i, x i := by
  change Ideal.ofBits .f32 0x00000000#32 + ∑ i ∈ Finset.univ.filter (fun i => h.drop i = j), x i = _
  rw [Finset.filter_true_of_mem fun i _ => ht _]
  simp [Ideal.ofBits, Ideal.ieee]

/-- The rows of a level are its lines' columns' anchors. -/
theorem sum_rows (W : ℕ) (f : ℕ → EReal) :
    (∑ r : Fin (W * W * 3), f r.val) = ∑ i : Fin W, ∑ j : Fin W, ∑ a : Fin 3, f ((i.val * W + j.val) * 3 + a.val) := by
  have pair : ∀ (m n : ℕ) (g : ℕ → EReal), (∑ r : Fin (m * n), g r.val) = ∑ p : Fin m, ∑ q : Fin n, g (p.val * n + q.val) := by
    intro m n g
    rw [← Fintype.sum_prod_type', ← Fintype.sum_equiv finProdFinEquiv (fun p : Fin m × Fin n => g (p.1.val * n + p.2.val)) (fun r => g r.val)]
    intro p
    simp only [finProdFinEquiv_apply_val]
    congr 1; ring
  rw [pair (W * W) 3 f, pair W W fun p => ∑ a : Fin 3, f (p * 3 + a.val)]

/-- Some element exceeds the threshold as soon as the largest does. -/
theorem above_fold (n : ℕ) (t : EReal) (f : ℕ → EReal) : t < (Finset.univ.fold max (lit 0xFF800000#32) fun k : Fin n => f k.val) ↔ ∃ k < n, t < f k := by
  rw [Finset.lt_fold_max, lit_bot]
  constructor
  · rintro (h | ⟨k, -, h⟩)
    · exact absurd h (not_lt_bot)
    · exact ⟨k.val, k.isLt, h⟩
  · rintro ⟨k, hk, h⟩
    exact .inr ⟨⟨k, hk⟩, Finset.mem_univ _, h⟩

open Classical in
theorem bit_real (p : Prop) [Decidable p] : FloatOps.uitofp (F := Ideal) .f32 (BitVec.ofBool (decide p)) = if p then 1 else 0 := by
  change (((BitVec.ofBool (decide p)).toNat : ℝ) : EReal) = _
  by_cases h : p <;> simp [h]

/-- A whole number's word is a class's just when the number is. -/
theorem class_word (x : EReal) (hx : x = Ideal.liftRound Int.floor x) (c : ℕ) (hc : c < 80) :
    FloatOps.fptosi (F := Ideal) (φ := .f32) 32 x = BitVec.ofNat 32 c ↔ (c : EReal) = x := by
  constructor
  · intro h
    have h' := congrArg BitVec.toInt h
    have hr : (BitVec.ofNat 32 c).toInt = c := by rw [BitVec.toInt_eq_toNat_of_lt] <;> simp [BitVec.toNat_ofNat] <;> omega
    rw [hr] at h'
    induction x using EReal.rec with
    | bot => exact absurd h' (by change (BitVec.ofInt 32 (-(2 ^ 31 : ℕ) : ℤ)).toInt ≠ _; rw [BitVec.toInt_ofInt]; norm_num [Int.bmod]; omega)
    | top => exact absurd h' (by change (BitVec.ofInt 32 ((2 ^ 31 : ℕ) - 1 : ℤ)).toInt ≠ _; rw [BitVec.toInt_ofInt]; norm_num [Int.bmod]; omega)
    | coe r =>
      change ((r : ℝ) : EReal) = (((⌊r⌋ : ℤ) : ℝ) : EReal) at hx
      have hr' : r = ((⌊r⌋ : ℤ) : ℝ) := by exact_mod_cast hx
      generalize ⌊r⌋ = z at hr'
      subst hr'
      have e : (BitVec.ofInt 32 (max (-(2 ^ 31 : ℕ) : ℤ) (min ((2 ^ 31 : ℕ) - 1 : ℤ) (if (0 : ℝ) ≤ (z : ℝ) then ⌊(z : ℝ)⌋ else ⌈(z : ℝ)⌉)))).toInt = c := h'
      rw [Int.floor_intCast, Int.ceil_intCast, ite_self, BitVec.toInt_ofInt, Int.bmod_eq_of_le (by norm_num) (by norm_num)] at e
      have : z = c := by norm_num at e; omega
      subst this
      norm_cast
  · rintro rfl
    exact word_nat c (by omega)

open Classical in
theorem class_bit (x : EReal) (hx : x = Ideal.liftRound Int.floor x) (c : ℕ) (hc : c < 80) :
    FloatOps.uitofp (F := Ideal) .f32 (IntOp.cmpi .eq (FloatOps.fptosi (F := Ideal) (φ := .f32) 32 x) (BitVec.ofNat 32 c)) = if (c : EReal) = x then 1 else 0 := by
  refine Eq.trans ?_ (bit_real ((c : EReal) = x))
  refine congrArg (FloatOps.uitofp (F := Ideal) .f32) ?_
  by_cases h : (c : EReal) = x
  · rw [(class_word x hx c hc).2 h]; simp [IntOp.cmpi, h]
  · have := mt (class_word x hx c hc).1 h
    change BitVec.ofBool (FloatOps.fptosi (F := Ideal) (φ := .f32) 32 x == BitVec.ofNat 32 c) = _
    rw [beq_eq_false_iff_ne.2 this]; simp [h]

/-- The class a row is to have is whole when the boxes' classes are. -/
theorem target_whole (R : Row) (T : ℕ → Box) (h : ∀ n, (T n).g 4 = Ideal.liftRound Int.floor ((T n).g 4)) :
    target R T 4 = Ideal.liftRound Int.floor (target R T 4) := by
  unfold target
  rcases none_or_last (fun n => (T n).falls R) 50 with e | ⟨k, hk, hp, e⟩
  · rw [last_of_none _ e]
    change (0 : EReal) = Ideal.liftRound Int.floor ((0 : ℝ) : EReal)
    change (0 : EReal) = (((⌊(0 : ℝ)⌋ : ℤ) : ℝ) : EReal)
    simp
  · rw [last_of_last (fun n => (T n).adj 4) hk hp e]
    exact h k

/-- The four kinds of loss summed apart, over every position, are the level's loss. -/
theorem level_sum (cw cm : BitVec 32) (W : ℕ) (X : Fin 32 → Fin W → Fin W → Fin 255 → EReal) (G : Fin 32 → Fin 50 → Fin 5 → EReal) (A : Fin 3 → Fin 2 → EReal)
    {p q : EReal} {r s : EReal}
    (hp : p = ∑ b : Fin 32, ∑ i : Fin W, ∑ j : Fin W, ∑ a : Fin 3, noobj (cellRow cw X A b i j a) (lab cw cm G A b))
    (hq : q = ∑ b : Fin 32, ∑ i : Fin W, ∑ j : Fin W, ∑ a : Fin 3, obj (cellRow cw X A b i j a) (lab cw cm G A b))
    (hr : r = ∑ b : Fin 32, ∑ i : Fin W, ∑ j : Fin W, ∑ a : Fin 3, ∑ c, clsTerm (cellRow cw X A b i j a) (lab cw cm G A b) c)
    (hs : s = ∑ b : Fin 32, ∑ i : Fin W, ∑ j : Fin W, ∑ a : Fin 3, ∑ c, coordTerm (cellRow cw X A b i j a) (lab cw cm G A b) c) :
    half * (((p + q) + r) + s) = levelLoss cw cm W X G A := by
  subst hp hq hr hs
  unfold levelLoss
  congr 1
  simp only [← Finset.sum_add_distrib]
  refine Finset.sum_congr rfl fun b _ => ?_
  rw [sum_rows W fun r => loss (lev cw W X A b r) (lab cw cm G A b)]
  refine Finset.sum_congr rfl fun i _ => Finset.sum_congr rfl fun j _ => Finset.sum_congr rfl fun a _ => ?_
  rw [lev_cell]
  unfold loss
  rw [add_right_comm]

/-- An array over cells and anchors, flattened to rows. -/
theorem flat_rows {N K W : ℕ} (cw : BitVec 32) (X : Fin 32 → Fin W → Fin W → Fin 255 → EReal) (A : Fin 3 → Fin 2 → EReal) (g : Row → Fin K → EReal)
    (hN : N = W * W * 3) (x : (⟨5, ![32, W, W, 3, K]⟩ : Shape).Idx → EReal) (h) (hx : ∀ b i j a c, x (ix5 b i j a c) = g (cellRow cw X A b i j a) c) :
    shapeCast ⟨3, ![32, N, K]⟩ x h = fun y => g (lev cw W X A (y 0) (y 1).val) (y 2) := by
  subst hN
  funext y
  obtain ⟨b, r, c, rfl⟩ : ∃ b r c, y = ix3 b r c := ⟨y 0, y 1, y 2, (ix3_eta y).symm⟩
  change _ = g (lev cw W X A b r.val) c
  rw [lev_eq (h := r.isLt), ← hx]
  refine shapeCast_apply x h _ _ ?_
  rw [Shape.rowMajor_val_five, Shape.rowMajor_val_three]
  change ((((b.val * W + r.val / 3 / W) * W + r.val / 3 % W) * 3 + r.val % 3) * K + c.val) = (b.val * (W * W * 3) + r.val) * K + c.val
  have e1 : r.val / 3 / W * W + r.val / 3 % W = r.val / 3 := Nat.div_add_mod' ..
  have e2 : r.val / 3 * 3 + r.val % 3 = r.val := Nat.div_add_mod' ..
  congr 2
  calc _ = b.val * (W * W * 3) + ((r.val / 3 / W * W + r.val / 3 % W) * 3 + r.val % 3) := by ring
    _ = _ := by rw [e1, e2]

/-- A loss of three levels, added one after another. -/
theorem three_levels {S : Shape} (k : S.Idx) (hk : ∀ y, y = k) {p0 q0 r0 s0 p1 q1 r1 s1 p2 q2 r2 s2 : FVec Ideal S .f32} {a b c : EReal}
    (h0 : half * (((p0 k + q0 k) + r0 k) + s0 k) = a) (h1 : half * (((p1 k + q1 k) + r1 k) + s1 k) = b) (h2 : half * (((p2 k + q2 k) + r2 k) + s2 k) = c) :
    addf (addf (addf (constant S .f32 0x00000000#32) (mulf (constant S .f32 0x3F000000#32) (addf (addf (addf p0 q0) r0) s0)))
      (mulf (constant S .f32 0x3F000000#32) (addf (addf (addf p1 q1) r1) s1))) (mulf (constant S .f32 0x3F000000#32) (addf (addf (addf p2 q2) r2) s2))
      = fun _ => a + b + c := by
  subst h0 h1 h2
  funext y
  rw [hk y]
  change Ideal.ofBits .f32 0x00000000#32 + _ + _ + _ = _
  rw [show Ideal.ofBits .f32 0x00000000#32 = 0 by simp [Ideal.ofBits, Ideal.ieee], zero_add]
  rfl

end Cert.Spec

end
-- ==== Proof.RefLoss.lean ====
/- A level's loss, boxes and scores as the specification's, of any width. -/
module

public import proofs.«01_k».proof.Proof.RefTarget
public import proofs.«01_k».proof.Proof.RefSum
public import Idealize.ShloMosaic.Lib.Pointwise
public import Idealize.ShloMosaic.Lib.Pointwise.IndexVar

@[expose] public section

set_option maxRecDepth 16384

noncomputable section

namespace Cert.ReferenceIdeal.Value.Chain

open Idealize.ShloMosaic Idealize.ShloMosaic.TcCoe Idealize.ShloMosaic.Tactic Cert.ReferenceIdeal Cert.Spec

variable {W N : ℕ} (K : Chain W N)

section
variable (P : FVec Ideal (Grid W 255) .f32) (G : FVec Ideal S32x50x5 .f32) (A : FVec Ideal S3x2 .f32) (b : Fin 32) (i j : Fin W) (a : Fin 3)

theorem overlap_at (n : Fin 50) (d : Fin 2) : K.overlaps P G A (ix6 b i j a n d)
    = max 0 (min ((K.row P A b i j a).hi d) ((K.box G A b n.val).hi d) - max ((K.row P A b i j a).lo d) ((K.box G A b n.val).lo d)) := by
  unfold overlaps
  unfold Box.hi Box.lo
  simp only [lab_g]
  pointwise [K.wide, cell_place, pair_place, K.ctr_at P A, K.ext_at P A]
  have z : id (constant (F := Ideal) S_ .f32 0x00000000#32) ix0 = 0 := by simp [constant, Ideal.ofBits, Ideal.ieee]
  rw [z]
  rfl

theorem inter_at (n : Fin 50) : K.interArr P G A (ix5 b i j a n) = (K.box G A b n.val).inter (K.row P A b i j a) := by
  unfold interArr
  pointwise [K.wide, cell_place, pair_place, K.overlap_at P G A]
  rfl

theorem nconf_at : K.restArr P (ix5 b i j a 0) = 1 - (K.row P A b i j a).conf := by
  unfold restArr
  pointwise [K.wide, cell_place, pair_place, K.conf_at P A, lit_one]

theorem most_at (x : FVec Ideal (Cells W 50) .f32) : Host.reduce FloatOps.maximumf x (constant (F := Ideal) S_ .f32 0xFF800000#32) K.reducesTo_Cells50_Rows_d4 Gen.h_S_ (ix4 b i j a) = Finset.univ.fold max (lit 0xFF800000#32) fun n : Fin 50 => x (ix5 b i j a n) := by
  pointwise [K.wide, cell_place, pair_place]

theorem ratio_at (x u : FVec Ideal (Cells W 50) .f32) (n : Fin 50) :
    Host.divf x (addf (subf u x) (broadcastInDim (Cells W 50) ![] K.bcast_S_Cells50 (constant (F := Ideal) S_ .f32 0x3089705F#32))) (ix5 b i j a n) = Ideal.div (x (ix5 b i j a n)) (u (ix5 b i j a n) - x (ix5 b i j a n) + lit 0x3089705F#32) := by
  pointwise [K.wide, cell_place, pair_place]

theorem over_at (y : FVec Ideal (Rows W) .f32) :
    uitofp (F := Ideal) .f32 (cmpf .ogt (broadcastInDim (Cells W 1) ![0, 1, 2, 3] K.bcast_Rows_Cells1_0_1_2_3 y) (broadcastInDim (Cells W 1) ![] K.bcast_S_Cells1 (constant (F := Ideal) S_ .f32 0x3F19999A#32))) (ix5 b i j a 0)
      = FloatOps.uitofp (F := Ideal) .f32 (BitVec.ofBool (decide (lit 0x3F19999A#32 < y (ix4 b i j a)))) := by
  pointwise [K.wide, cell_place, pair_place]

theorem miss_at (hw : ∀ (b : Fin 32) (n : Fin 50), G (ix3 b n 4) = Ideal.liftRound Int.floor (G (ix3 b n 4))) (c : Fin 80) : K.missArr P G A (ix5 b i j a c) = miss (K.row P A b i j a) (K.box G A b) c := by
  unfold missArr
  pointwise [K.wide, cell_place, pair_place, K.target_at P G A, K.lossExpo_at P A]
  rw [class_bit _ (target_whole _ _ fun n => ?_) c.val c.isLt]
  · rfl
  · simp only [Chain.box]
    unfold lab
    by_cases h : n < 50
    · simp only [dif_pos h]; exact hw _ _
    · simp only [dif_neg h]
      change (0 : EReal) = (((⌊(0 : ℝ)⌋ : ℤ) : ℝ) : EReal)
      simp

theorem off_at (c : Fin 4) : K.offArr P G A (ix5 b i j a c) = off (K.row P A b i j a) (K.box G A b) c := by
  unfold offArr
  pointwise [K.wide, cell_place, pair_place, K.target_at P G A, K.sig_at P A, K.feat_at P A]
  unfold off pred
  congr 1
  by_cases h : c.val < 2
  · rw [dif_pos h, if_pos h]
  · rw [dif_neg h, if_neg h]
    exact congrArg _ (Fin.ext (by dsimp only; omega))

theorem rowArea_at : mulf (F := Ideal) (φ := .f32) (shapeCast (Rows W) (extractStridedSlice (Cells W 1) ![0, 0, 0, 0, 0] (K.extArr P A) K.slices_Cells2_Cells1_0_0_0_0_0) K.shapeCasts_Cells1_Rows) (shapeCast (Rows W) (extractStridedSlice (Cells W 1) ![0, 0, 0, 0, 1] (K.extArr P A) K.slices_Cells2_Cells1_0_0_0_0_1) K.shapeCasts_Cells1_Rows) (ix4 b i j a)
    = (K.row P A b i j a).area := by
  pointwise [K.wide, cell_place, pair_place, K.ext_at P A]
  rfl

theorem boxArea_at (n : Fin 50) : mulf (F := Ideal) (φ := .f32) (shapeCast S32x50 (extractStridedSlice S32x50x1 ![0, 0, 0] (boxExt G) Gen.slices_S32x50x2_S32x50x1_0_0_0) Gen.shapeCasts_S32x50x1_S32x50) (shapeCast S32x50 (extractStridedSlice S32x50x1 ![0, 0, 1] (boxExt G) Gen.slices_S32x50x2_S32x50x1_0_0_1) Gen.shapeCasts_S32x50x1_S32x50) (ix2 b n)
    = (K.box G A b n.val).area := by
  unfold boxExt
  unfold Box.area
  simp only [lab_g]
  pointwise [K.wide, cell_place, pair_place]

theorem both_at (x : FVec Ideal (Rows W) .f32) (y : FVec Ideal S32x50 .f32) (n : Fin 50) :
    addf (broadcastInDim (Cells W 50) ![0, 1, 2, 3, 4] K.bcast_Cells1_Cells50_0_1_2_3_4 (broadcastInDim (Cells W 1) ![0, 1, 2, 3] K.bcast_Rows_Cells1_0_1_2_3 x)) (broadcastInDim (Cells W 50) ![0, 1, 2, 3, 4] K.bcast_S32x1x1x1x50_Cells50_0_1_2_3_4 (broadcastInDim S32x1x1x1x50 ![0, 4] Gen.bcast_S32x50_S32x1x1x1x50_0_4 y)) (ix5 b i j a n)
      = x (ix4 b i j a) + y (ix2 b n) := by
  pointwise [K.wide]

/-- Whether a box overlaps the row's by more than the threshold. -/
theorem seen_at (o u : FVec Ideal (Cells W 50) .f32) (R : Row) (T : ℕ → Box) (ho : ∀ n : Fin 50, o (ix5 b i j a n) = (T n.val).inter R)
    (hu : ∀ n : Fin 50, u (ix5 b i j a n) = R.area + (T n.val).area) :
    uitofp (F := Ideal) .f32 (cmpf .ogt (broadcastInDim (Cells W 1) ![0, 1, 2, 3] K.bcast_Rows_Cells1_0_1_2_3 (Host.reduce FloatOps.maximumf (Host.divf o (addf (subf u o) (broadcastInDim (Cells W 50) ![] K.bcast_S_Cells50 (constant (F := Ideal) S_ .f32 0x3089705F#32)))) (constant (F := Ideal) S_ .f32 0xFF800000#32) K.reducesTo_Cells50_Rows_d4 Gen.h_S_)) (broadcastInDim (Cells W 1) ![] K.bcast_S_Cells1 (constant (F := Ideal) S_ .f32 0x3F19999A#32))) (ix5 b i j a 0)
      = seen R T := by
  have hf := funext fun n : Fin 50 => ((K.ratio_at b i j a o u n).trans (by rw [ho, hu]; rfl) : _ = (T n.val).iou R)
  refine (K.over_at b i j a _).trans ?_
  rw [K.most_at, hf, bit_real]
  have e := above_fold 50 (lit 0x3F19999A#32) fun n => (T n).iou R
  unfold seen
  by_cases h : ∃ n < 50, lit 0x3F19999A#32 < (T n).iou R
  · rw [if_pos h]; exact if_pos (e.2 h)
  · rw [if_neg h]; exact if_neg (mt e.1 h)

theorem sum_cells (f : (Cells W 1).Idx → EReal) : (∑ k, f k) = ∑ b : Fin 32, ∑ i : Fin W, ∑ j : Fin W, ∑ a : Fin 3, f (ix5 b i j a 0) :=
  (sum_idx5 f).trans (by simp only [Fin.sum_univ_one])

theorem noobj_sum (s m k : FVec Ideal (Cells W 1) .f32) :
    Host.reduceAdd (mulf (mulf (mulf (broadcastInDim (Cells W 1) ![] K.bcast_S_Cells1 (constant S_ .f32 0x3F800000#32)) (subf (broadcastInDim (Cells W 1) ![] K.bcast_S_Cells1 (constant S_ .f32 0x3F800000#32)) s)) (subf (broadcastInDim (Cells W 1) ![] K.bcast_S_Cells1 (constant S_ .f32 0x3F800000#32)) m)) (mulf k k)) (constant S_ .f32 0x00000000#32) K.reducesTo_Cells1_S_d0_1_2_3_4 Gen.h_S_ ix0
      = ∑ b : Fin 32, ∑ i : Fin W, ∑ j : Fin W, ∑ a : Fin 3, (1 - s (ix5 b i j a 0)) * (1 - m (ix5 b i j a 0)) * (k (ix5 b i j a 0) * k (ix5 b i j a 0)) := by
  rw [sum_whole _ _ _ _ fun y => funext fun d => d.elim0, sum_cells]
  pointwise [K.wide, cell_place, pair_place, lit_one]

theorem obj_sum (m k : FVec Ideal (Cells W 1) .f32) :
    Host.reduceAdd (mulf (mulf (broadcastInDim (Cells W 1) ![] K.bcast_S_Cells1 (constant S_ .f32 0x40A00000#32)) m) (mulf k k)) (constant S_ .f32 0x00000000#32) K.reducesTo_Cells1_S_d0_1_2_3_4 Gen.h_S_ ix0
      = ∑ b : Fin 32, ∑ i : Fin W, ∑ j : Fin W, ∑ a : Fin 3, lit 0x40A00000#32 * m (ix5 b i j a 0) * (k (ix5 b i j a 0) * k (ix5 b i j a 0)) := by
  rw [sum_whole _ _ _ _ fun y => funext fun d => d.elim0, sum_cells]
  pointwise [K.wide, cell_place, pair_place]

theorem cls_sum (m : FVec Ideal (Cells W 1) .f32) (k : FVec Ideal (Cells W 80) .f32) :
    Host.reduceAdd (mulf (broadcastInDim (Cells W 80) ![0, 1, 2, 3, 4] K.bcast_Cells1_Cells80_0_1_2_3_4 (mulf (broadcastInDim (Cells W 1) ![] K.bcast_S_Cells1 (constant S_ .f32 0x3F800000#32)) m)) (mulf k k)) (constant S_ .f32 0x00000000#32) K.reducesTo_Cells80_S_d0_1_2_3_4 Gen.h_S_ ix0
      = ∑ b : Fin 32, ∑ i : Fin W, ∑ j : Fin W, ∑ a : Fin 3, ∑ c : Fin 80, m (ix5 b i j a 0) * (k (ix5 b i j a c) * k (ix5 b i j a c)) := by
  rw [sum_whole _ _ _ _ fun y => funext fun d => d.elim0, sum_idx5]
  pointwise [K.wide, cell_place, pair_place, lit_one]

theorem coord_sum (m : FVec Ideal (Cells W 1) .f32) (k : FVec Ideal (Cells W 4) .f32) :
    Host.reduceAdd (mulf (broadcastInDim (Cells W 4) ![0, 1, 2, 3, 4] K.bcast_Cells1_Cells4_0_1_2_3_4 (mulf (broadcastInDim (Cells W 1) ![] K.bcast_S_Cells1 (constant S_ .f32 0x3F800000#32)) m)) (mulf k k)) (constant S_ .f32 0x00000000#32) K.reducesTo_Cells4_S_d0_1_2_3_4 Gen.h_S_ ix0
      = ∑ b : Fin 32, ∑ i : Fin W, ∑ j : Fin W, ∑ a : Fin 3, ∑ c : Fin 4, m (ix5 b i j a 0) * (k (ix5 b i j a c) * k (ix5 b i j a c)) := by
  rw [sum_whole _ _ _ _ fun y => funext fun d => d.elim0, sum_idx5]
  pointwise [K.wide, cell_place, pair_place, lit_one]

/-- The two halves of a row's rectangle. -/
theorem rect_at (c : Fin 4) : K.rectArr P A (ix5 b i j a c) = (K.row P A b i j a).box c := by
  unfold rectArr
  pointwise [K.wide, K.ctr_at P A, K.ext_at P A]
  unfold Row.box
  rcases fin4_cases c with rfl | rfl | rfl | rfl <;> rfl

theorem score_at (c : Fin 80) : K.scoreArr P (ix5 b i j a c) = (K.row P A b i j a).score c := by
  unfold scoreArr
  pointwise [K.wide, K.feat_at P A, K.expo_at P A, lit_one]
  rfl

theorem areas_at (n : Fin 50) : K.areas P G A (ix5 b i j a n) = (K.row P A b i j a).area + (K.box G A b n.val).area :=
  (K.both_at b i j a _ _ n).trans (congrArg₂ (· + ·) (K.rowArea_at P A b i j a) (K.boxArea_at G A b n))

/-- The level's loss, its four sums halved. -/
theorem loss_at (hw : ∀ (b : Fin 32) (n : Fin 50), G (ix3 b n 4) = Ideal.liftRound Int.floor (G (ix3 b n 4))) :
    half * (((K.noobjSum P G A ix0 + K.objSum P G A ix0) + K.clsSum P G A ix0) + K.coordSum P G A ix0)
      = levelLoss K.cw K.cm W (fun b i j k => P (ix4 b i j k)) (fun b n c => G (ix3 b n c)) (fun a d => A (ix2 a d)) := by
  refine level_sum _ _ _ _ _ _ ((K.noobj_sum _ _ _).trans ?_) ((K.obj_sum _ _).trans ?_) ((K.cls_sum _ _).trans ?_) ((K.coord_sum _ _).trans ?_)
  · refine Finset.sum_congr rfl fun b _ => Finset.sum_congr rfl fun i _ => Finset.sum_congr rfl fun j _ => Finset.sum_congr rfl fun a _ => ?_
    rw [K.seen_at b i j a _ _ _ _ (K.inter_at P G A b i j a) (K.areas_at P G A b i j a), K.mask_at P G A, K.conf_at P A]
    rfl
  · simp only [K.mask_at P G A, K.nconf_at P A]; rfl
  · simp only [K.mask_at P G A, K.miss_at P G A _ _ _ _ hw]; rfl
  · simp only [K.mask_at P G A, K.off_at P G A]; rfl

variable {R : ℕ} (hR : R = W * W * 3)
include hR

/-- The level's boxes in the order of its rows. -/
theorem boxes_flat (h) : shapeCast ⟨3, ![32, R, 4]⟩ (K.rectArr P A) h = flatBoxes K.cw W (fun b i j k => P (ix4 b i j k)) (fun a d => A (ix2 a d)) R :=
  flat_rows (N := R) (K := 4) (W := W) _ _ _ Row.box hR _ _ (K.rect_at P A)

/-- The level's scores in the order of its rows. -/
theorem scores_flat (h) : shapeCast ⟨3, ![32, R, 80]⟩ (K.scoreArr P) h = flatScores K.cw W (fun b i j k => P (ix4 b i j k)) (fun a d => A (ix2 a d)) R :=
  flat_rows (N := R) (K := 80) (W := W) _ _ _ Row.score hR _ _ (K.score_at P A)
end
end Cert.ReferenceIdeal.Value.Chain

end
-- ==== Proof.RefVal.lean ====
/- The reference's three results as the specification's. -/
module

public import proofs.«01_k».proof.Proof.RefLevels
public import proofs.«01_k».proof.Proof.RefLoss

@[expose] public section

set_option maxRecDepth 16384

noncomputable section

namespace Cert.ReferenceIdeal.Value

open Idealize.ShloMosaic Idealize.ShloMosaic.StableHlo Idealize.ShloMosaic.TcCoe Idealize.ShloMosaic.Tactic Idealize.SL.Sem Cert.ReferenceIdeal Cert.Spec

section
variable (m : (ℓ : Loc nD τ sig) → Buf (Elt Ideal) ℓ) (ρ : Dev nD → PrngReg) (c : Dev nD)

abbrev X0 : Fin 32 → Fin 60 → Fin 60 → Fin 255 → EReal := fun b i j k => m ((c : Thread nD τ).loc main_arg0) (ix4 b i j k)
abbrev X1 : Fin 32 → Fin 30 → Fin 30 → Fin 255 → EReal := fun b i j k => m ((c : Thread nD τ).loc main_arg1) (ix4 b i j k)
abbrev X2 : Fin 32 → Fin 15 → Fin 15 → Fin 255 → EReal := fun b i j k => m ((c : Thread nD τ).loc main_arg2) (ix4 b i j k)
abbrev GT : Fin 32 → Fin 50 → Fin 5 → EReal := fun b n d => m ((c : Thread nD τ).loc main_arg3) (ix3 b n d)
abbrev AN : Fin 3 → Fin 2 → EReal := fun a d => m ((c : Thread nD τ).loc main_arg4) (ix2 a d)

theorem parts {N0 N1 N2 : Shape} {t : Shape} {d : Fin t.rank} {u0 v0 : N0.Idx → EReal} {u1 v1 : N1.Idx → EReal} {u2 v2 : N2.Idx → EReal} (h)
    (h0 : u0 = v0) (h1 : u1 = v1) (h2 : u2 = v2) :
    concatenate t d [⟨N0, u0⟩, ⟨N1, u1⟩, ⟨N2, u2⟩] h = concatenate t d [⟨N0, v0⟩, ⟨N1, v1⟩, ⟨N2, v2⟩] h := by
  subst h0 h1 h2; rfl

/-- The reference ends with the specification's loss, boxes and scores. -/
theorem results (hw : ∀ c b n, GT m c b n 4 = Ideal.liftRound Int.floor (GT m c b n 4)) :
    θ_run defs (onTc (τ := τ) (main (F := Ideal))) ⟨m, fun _ => 0, ρ⟩ fun r => ∀ c : Dev nD,
      r.2.mem ((c.tc : Thread nD τ).loc main_v865) = (fun _ => levelLoss 0x42700000#32 0x426C0000#32 60 (X0 m c) (GT m c) (AN m c)
        + levelLoss 0x41F00000#32 0x41E80000#32 30 (X1 m c) (GT m c) (AN m c) + levelLoss 0x41700000#32 0x41600000#32 15 (X2 m c) (GT m c) (AN m c))
      ∧ r.2.mem ((c.tc : Thread nD τ).loc main_v900) = concatenate S32x14175x4 1 [⟨S32x10800x4, flatBoxes 0x42700000#32 60 (X0 m c) (AN m c) 10800⟩,
        ⟨S32x2700x4, flatBoxes 0x41F00000#32 30 (X1 m c) (AN m c) 2700⟩, ⟨S32x675x4, flatBoxes 0x41700000#32 15 (X2 m c) (AN m c) 675⟩]
          Gen.concatenates_S32x10800x4_S32x2700x4_S32x675x4_S32x14175x4_d1
      ∧ r.2.mem ((c.tc : Thread nD τ).loc main_v901) = concatenate S32x14175x80 1 [⟨S32x10800x80, flatScores 0x42700000#32 60 (X0 m c) (AN m c) 10800⟩,
        ⟨S32x2700x80, flatScores 0x41F00000#32 30 (X1 m c) (AN m c) 2700⟩, ⟨S32x675x80, flatScores 0x41700000#32 15 (X2 m c) (AN m c) 675⟩]
          Gen.concatenates_S32x10800x80_S32x2700x80_S32x675x80_S32x14175x80_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2⟩) (run (F := Ideal) m ρ)
  · exact three_levels ix0 (fun y => funext fun d => d.elim0) (K0.loss_at _ _ _ (hw c)) (K1.loss_at _ _ _ (hw c)) (K2.loss_at _ _ _ (hw c))
  · exact parts _ (K0.boxes_flat _ _ (by norm_num) _) (K1.boxes_flat _ _ (by norm_num) _) (K2.boxes_flat _ _ (by norm_num) _)
  · exact parts _ (K0.scores_flat _ (m ((c : Thread nD τ).loc main_arg4)) (by norm_num) _) (K1.scores_flat _ (m ((c : Thread nD τ).loc main_arg4)) (by norm_num) _)
      (K2.scores_flat _ (m ((c : Thread nD τ).loc main_arg4)) (by norm_num) _)
end
end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_classes_whole
public import proofs.«01_k».proof.Proof.Run
public import proofs.«01_k».proof.Proof.KFrame
public import proofs.«01_k».proof.Proof.KVal
public import proofs.«01_k».proof.Proof.RefVal
public import Idealize.ShloMosaic.Lib.Tactic.CleanTypes
public import Idealize.ShloMosaic.Adequacy
public import Idealize.ShloMosaic.Init
public import Idealize.ShloMosaic.Lib.Quiescent

@[expose] public section

noncomputable section

namespace Cert.Proof

open Idealize.ShloMosaic Idealize.ShloMosaic.Tactic Idealize.SL.Sem

/-- The reference ends with its arguments as they were and every counter at zero. -/
theorem ref_frame : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The boxes' classes are whole numbers. -/
theorem classes (m : (ℓ : Loc Cert.KernelIdeal.nD Cert.KernelIdeal.τ Cert.KernelIdeal.sig) → Buf (Elt Ideal) ℓ)
    (h : Cert.Pre_KernelIdeal_classes_whole (hPre_classes_whole := Cert.Pre_classes_whole.Gen.facts) m) (c : Dev Cert.KernelIdeal.nD) (b : Fin 32) (n : Fin 50) :
    Cert.KernelIdeal.Gen.GT m c b n 4 = Ideal.liftRound Int.floor (Cert.KernelIdeal.Gen.GT m c b n 4) := by
  have e := congrFun (h c) (ix2 b n)
  unfold Cert.Pre_classes_whole.fn at e
  clean_types
  pointwise at e
  by_contra hc
  rw [decide_eq_false hc] at e
  exact absurd e (by decide)

/-- The kernel and the reference end with the specification's loss, boxes and scores. -/
theorem agree : Cert.algebraic_KernelIdeal_ReferenceIdeal_pre_classes_whole (hKernelIdeal := Cert.KernelIdeal.Gen.facts)
    (hReferenceIdeal := Cert.ReferenceIdeal.Gen.facts) (hPre_classes_whole := Cert.Pre_classes_whole.Gen.facts) := by
  intro m g m' g' hm ha
  have e0 : ∀ c, Cert.ReferenceIdeal.Value.X0 m' c = Cert.KernelIdeal.Gen.X0 m c := fun c => funext fun b => funext fun i => funext fun j => funext fun k => congrFun (ha c).1 _
  have e1 : ∀ c, Cert.ReferenceIdeal.Value.X1 m' c = Cert.KernelIdeal.Gen.X1 m c := fun c => funext fun b => funext fun i => funext fun j => funext fun k => congrFun (ha c).2.1 _
  have e2 : ∀ c, Cert.ReferenceIdeal.Value.X2 m' c = Cert.KernelIdeal.Gen.X2 m c := fun c => funext fun b => funext fun i => funext fun j => funext fun k => congrFun (ha c).2.2.1 _
  have e3 : ∀ c, Cert.ReferenceIdeal.Value.GT m' c = Cert.KernelIdeal.Gen.GT m c := fun c => funext fun b => funext fun n => funext fun d => congrFun (ha c).2.2.2.1 _
  have e4 : ∀ c, Cert.ReferenceIdeal.Value.AN m' c = Cert.KernelIdeal.Gen.AN m c := fun c => funext fun a => funext fun d => congrFun (ha c).2.2.2.2 _
  have hw : ∀ c b n, Cert.ReferenceIdeal.Value.GT m' c b n 4 = Ideal.liftRound Int.floor (Cert.ReferenceIdeal.Value.GT m' c b n 4) := fun c b n => by
    rw [e3]; exact classes m hm c b n
  refine ⟨_, _, _, Cert.KernelIdeal.Gen.results m g, (θ_run Cert.ReferenceIdeal.defs _ _).mono (fun r h c => ?_) (Cert.ReferenceIdeal.Value.results m' g' hw)⟩
  obtain ⟨h0, h1, h2, hr⟩ := h c
  rw [e0, e1, e2, e3, e4] at h0
  rw [e0, e1, e2, e4] at h1 h2
  exact ⟨h0.trans (Cert.KernelIdeal.Gen.W7_v23 m g c).symm, h1.trans (Cert.KernelIdeal.Gen.W7_v24 m g c).symm, h2.trans (Cert.KernelIdeal.Gen.W7_v25 m g c).symm, hr⟩

theorem claim : Cert.Claim := ⟨Cert.Kernel.Gen.facts, Cert.KernelIdeal.Gen.facts, Cert.ReferenceIdeal.Gen.facts, Cert.Pre_classes_whole.Gen.facts,
  kernel_frame, fun m g _ => Cert.KernelIdeal.Gen.frame m g, fun m g _ => Cert.KernelIdeal.Gen.frame m g,
  ref_frame, fun m g _ => ref_frame m g trivial, trivial, agree⟩

end Cert.Proof

end
